-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Computed (m : (ℓ : Loc Cert.Computed.nD Cert.Computed.τ Cert.Computed.sig) → Buf (Elt Bits) ℓ) : Prop :=
  True

def Pre_ComputedIdeal (m : (ℓ : Loc Cert.ComputedIdeal.nD Cert.ComputedIdeal.τ Cert.ComputedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Computed [hComputed : Cert.Computed.Facts] : Prop :=
  ∀ (m : (ℓ : Loc Cert.Computed.nD Cert.Computed.τ Cert.Computed.sig) → Buf (Elt Bits) ℓ) (g : Dev Cert.Computed.nD → PrngReg), Pre_Computed m →
    θ_run (Cert.Computed.defs (F := Bits)) (Cert.Computed.threads (F := Bits)) ⟨m, fun _ => 0, g⟩ (fun r => (∀ c : Dev Cert.Computed.nD,
      r.2.mem ((c.tc : Thread Cert.Computed.nD Cert.Computed.τ).loc Cert.Computed.main_arg0) = m ((c.tc : Thread Cert.Computed.nD Cert.Computed.τ).loc Cert.Computed.main_arg0))
      ∧ r.2.sem = fun _ => 0)

def quiescent_ComputedIdeal [hComputedIdeal : Cert.ComputedIdeal.Facts] : Prop :=
  ∀ (m : (ℓ : Loc Cert.ComputedIdeal.nD Cert.ComputedIdeal.τ Cert.ComputedIdeal.sig) → Buf (Elt Ideal) ℓ) (g : Dev Cert.ComputedIdeal.nD → PrngReg), Pre_ComputedIdeal m →
    θ_run (Cert.ComputedIdeal.defs (F := Ideal)) (Cert.ComputedIdeal.threads (F := Ideal)) ⟨m, fun _ => 0, g⟩ (fun r => (∀ c : Dev Cert.ComputedIdeal.nD,
      r.2.mem ((c.tc : Thread Cert.ComputedIdeal.nD Cert.ComputedIdeal.τ).loc Cert.ComputedIdeal.main_arg0) = m ((c.tc : Thread Cert.ComputedIdeal.nD Cert.ComputedIdeal.τ).loc Cert.ComputedIdeal.main_arg0))
      ∧ r.2.sem = fun _ => 0)

def preserves_Kernel_KernelIdeal : Prop :=
  True

def algebraic_KernelIdeal_ReferenceIdeal_on_kept [hKernelIdeal : Cert.KernelIdeal.Facts] [hReferenceIdeal : Cert.ReferenceIdeal.Facts] [hOn_kept : Cert.On_kept.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          (∀ i : (⟨4, ![4, 128, 224, 224]⟩ : Shape).Idx, (Cert.On_kept.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 128, 224, 224]⟩ : Shape).Idx, (Cert.On_kept.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v21) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_Kernel_unchanged [hKernel : Cert.Kernel.Facts] [hPost_unchanged : Cert.Post_unchanged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ (Cert.Post_unchanged.fn (F := Bits) (m ((c.tc : Thread Cert.Kernel.nD Cert.Kernel.τ).loc Cert.Kernel.main_arg0)) (r.2.mem ((c.tc : Thread Cert.Kernel.nD Cert.Kernel.τ).loc Cert.Kernel.main_v2))) = (fun _ => 1#1))

def preserves_Computed_ComputedIdeal : Prop :=
  True

def algebraic_ComputedIdeal_ReferenceIdeal [hComputedIdeal : Cert.ComputedIdeal.Facts] [hReferenceIdeal : Cert.ReferenceIdeal.Facts] : Prop :=
  ∀ (m : (ℓ : Loc Cert.ComputedIdeal.nD Cert.ComputedIdeal.τ Cert.ComputedIdeal.sig) → Buf (Elt Ideal) ℓ) (g : Dev Cert.ComputedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ComputedIdeal m →
    (∀ c : Dev Cert.ComputedIdeal.nD,
      m' ((c.tc : Thread Cert.ReferenceIdeal.nD Cert.ReferenceIdeal.τ).loc Cert.ReferenceIdeal.main_arg0) = m ((c.tc : Thread Cert.ComputedIdeal.nD Cert.ComputedIdeal.τ).loc Cert.ComputedIdeal.main_arg0)) →
    ∃ (v0 : (c : Dev Cert.ComputedIdeal.nD) → Buf (Elt Ideal) ((c.tc : Thread Cert.ComputedIdeal.nD Cert.ComputedIdeal.τ).loc Cert.ComputedIdeal.main_v2)),
      θ_run (Cert.ComputedIdeal.defs (F := Ideal)) (Cert.ComputedIdeal.threads (F := Ideal)) ⟨m, fun _ => 0, g⟩ (fun r => ∀ c : Dev Cert.ComputedIdeal.nD,
          r.2.mem ((c.tc : Thread Cert.ComputedIdeal.nD Cert.ComputedIdeal.τ).loc Cert.ComputedIdeal.main_v2) = v0 c
          ∧ r.2.mem ((c.tc : Thread Cert.ComputedIdeal.nD Cert.ComputedIdeal.τ).loc Cert.ComputedIdeal.main_arg0) = m ((c.tc : Thread Cert.ComputedIdeal.nD Cert.ComputedIdeal.τ).loc Cert.ComputedIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hComputed : Cert.Computed.Facts) (hComputedIdeal : Cert.ComputedIdeal.Facts) (hPost_unchanged : Cert.Post_unchanged.Facts) (hOn_kept : Cert.On_kept.Facts),
    quiescent_Kernel (hKernel := hKernel)
    ∧ quiescent_KernelIdeal (hKernelIdeal := hKernelIdeal)
    ∧ quiescent_ReferenceIdeal (hReferenceIdeal := hReferenceIdeal)
    ∧ quiescent_Computed (hComputed := hComputed)
    ∧ quiescent_ComputedIdeal (hComputedIdeal := hComputedIdeal)
    ∧ preserves_Kernel_KernelIdeal
    ∧ algebraic_KernelIdeal_ReferenceIdeal_on_kept (hKernelIdeal := hKernelIdeal) (hReferenceIdeal := hReferenceIdeal) (hOn_kept := hOn_kept)
    ∧ holds_Kernel_unchanged (hKernel := hKernel) (hPost_unchanged := hPost_unchanged)
    ∧ preserves_Computed_ComputedIdeal
    ∧ algebraic_ComputedIdeal_ReferenceIdeal (hComputedIdeal := hComputedIdeal) (hReferenceIdeal := hReferenceIdeal)
-- ==== On_kept.lean ====
abbrev S4x128x224x224 : Shape := ⟨4, ![4, 128, 224, 224]⟩
abbrev S4x64x224x224 : Shape := ⟨4, ![4, 64, 224, 224]⟩
abbrev S4x64x112x2x112x2 : Shape := ⟨6, ![4, 64, 112, 2, 112, 2]⟩
abbrev S_ : Shape := ⟨0, ![]⟩
abbrev S4x64x112x112 : Shape := ⟨4, ![4, 64, 112, 112]⟩
abbrev S4x64x112x1x112x1 : Shape := ⟨6, ![4, 64, 112, 1, 112, 1]⟩
abbrev S4x48x224x224 : Shape := ⟨4, ![4, 48, 224, 224]⟩
abbrev S4x48x56x4x56x4 : Shape := ⟨6, ![4, 48, 56, 4, 56, 4]⟩
abbrev S4x48x56x56 : Shape := ⟨4, ![4, 48, 56, 56]⟩
abbrev S4x48x56x1x56x1 : Shape := ⟨6, ![4, 48, 56, 1, 56, 1]⟩
abbrev S4x16x224x224 : Shape := ⟨4, ![4, 16, 224, 224]⟩

class Facts : Prop where
  slices_S4x128x224x224_S4x64x224x224_0_0_0_0 : S4x128x224x224.Slices ![0, 0, 0, 0] S4x64x224x224
  shapeCasts_S4x64x224x224_S4x64x112x2x112x2 : S4x64x224x224.ShapeCasts S4x64x112x2x112x2
  reducesTo_S4x64x112x2x112x2_S4x64x112x112_d3_5 : S4x64x112x2x112x2.ReducesTo [3, 5] S4x64x112x112
  h_S_ : 0 < S_.numel
  bcast_S4x64x112x112_S4x64x112x1x112x1_0_1_2_4 : S4x64x112x112.BroadcastsInDim S4x64x112x1x112x1 (![0, 1, 2, 4] : Fin 4 → Fin S4x64x112x1x112x1.rank)
  bcast_S_S4x64x112x1x112x1 : S_.BroadcastsInDim S4x64x112x1x112x1 (![] : Fin 0 → Fin S4x64x112x1x112x1.rank)
  bcast_S4x64x112x1x112x1_S4x64x112x2x112x2_0_1_2_3_4_5 : S4x64x112x1x112x1.BroadcastsInDim S4x64x112x2x112x2 (![0, 1, 2, 3, 4, 5] : Fin 6 → Fin S4x64x112x2x112x2.rank)
  shapeCasts_S4x64x112x2x112x2_S4x64x224x224 : S4x64x112x2x112x2.ShapeCasts S4x64x224x224
  slices_S4x128x224x224_S4x48x224x224_0_64_0_0 : S4x128x224x224.Slices ![0, 64, 0, 0] S4x48x224x224
  shapeCasts_S4x48x224x224_S4x48x56x4x56x4 : S4x48x224x224.ShapeCasts S4x48x56x4x56x4
  reducesTo_S4x48x56x4x56x4_S4x48x56x56_d3_5 : S4x48x56x4x56x4.ReducesTo [3, 5] S4x48x56x56
  bcast_S4x48x56x56_S4x48x56x1x56x1_0_1_2_4 : S4x48x56x56.BroadcastsInDim S4x48x56x1x56x1 (![0, 1, 2, 4] : Fin 4 → Fin S4x48x56x1x56x1.rank)
  bcast_S_S4x48x56x1x56x1 : S_.BroadcastsInDim S4x48x56x1x56x1 (![] : Fin 0 → Fin S4x48x56x1x56x1.rank)
  bcast_S4x48x56x1x56x1_S4x48x56x4x56x4_0_1_2_3_4_5 : S4x48x56x1x56x1.BroadcastsInDim S4x48x56x4x56x4 (![0, 1, 2, 3, 4, 5] : Fin 6 → Fin S4x48x56x4x56x4.rank)
  shapeCasts_S4x48x56x4x56x4_S4x48x224x224 : S4x48x56x4x56x4.ShapeCasts S4x48x224x224
  slices_S4x128x224x224_S4x16x224x224_0_112_0_0 : S4x128x224x224.Slices ![0, 112, 0, 0] S4x16x224x224
  bcast_S_S4x16x224x224 : S_.BroadcastsInDim S4x16x224x224 (![] : Fin 0 → Fin S4x16x224x224.rank)
  concatenates_S4x64x224x224_S4x48x224x224_S4x16x224x224_S4x128x224x224_d1 : Shape.Concatenates [S4x64x224x224, S4x48x224x224, S4x16x224x224] S4x128x224x224 1
  bcast_S_S4x128x224x224 : S_.BroadcastsInDim S4x128x224x224 (![] : Fin 0 → Fin S4x128x224x224.rank)

variable [Facts]

def fn_part1 {F : FTy → Type} [FloatOps F] (main_arg0 : FVec F S4x128x224x224 .f32) (main_v8 : FVec F S4x64x224x224 .f32) (main_v17 : FVec F S4x48x224x224 .f32) (main_cst_3 : FVec F S_ .f32) : IVec S4x128x224x224 1 :=
  let main_v19 : FVec F S4x16x224x224 .f32 := broadcastInDim S4x16x224x224 ![] bcast_S_S4x16x224x224 main_cst_3
  let main_v20 : FVec F S4x128x224x224 .f32 := concatenate S4x128x224x224 1 [⟨S4x64x224x224, main_v8⟩, ⟨S4x48x224x224, main_v17⟩, ⟨S4x16x224x224, main_v19⟩] concatenates_S4x64x224x224_S4x48x224x224_S4x16x224x224_S4x128x224x224_d1
  let main_cst_4 : FVec F S_ .f32 := constant S_ .f32 0x3F800000#32
  let main_v21 : FVec F S4x128x224x224 .f32 := broadcastInDim S4x128x224x224 ![] bcast_S_S4x128x224x224 main_cst_4
  let main_v22 : IVec S4x128x224x224 1 := cmpf .oeq main_v20 main_v21
  let main_cst_5 : FVec F S_ .f32 := constant S_ .f32 0x00000000#32
  let main_v23 : FVec F S4x128x224x224 .f32 := broadcastInDim S4x128x224x224 ![] bcast_S_S4x128x224x224 main_cst_5
  let main_v24 : IVec S4x128x224x224 1 := cmpf .oeq main_arg0 main_v23
  let main_v25 : IVec S4x128x224x224 1 := ori main_v22 main_v24
  main_v25

def fn {F : FTy → Type} [FloatOps F] (main_arg0 : FVec F S4x128x224x224 .f32) : IVec S4x128x224x224 1 :=
  let main_v0 : FVec F S4x64x224x224 .f32 := (extractStridedSlice S4x64x224x224 ![0, 0, 0, 0] · slices_S4x128x224x224_S4x64x224x224_0_0_0_0) main_arg0
  let main_v1 : FVec F S4x64x112x2x112x2 .f32 := shapeCast S4x64x112x2x112x2 main_v0 shapeCasts_S4x64x224x224_S4x64x112x2x112x2
  let main_cst : FVec F S_ .f32 := constant S_ .f32 0x00000000#32
  let main_v2 : FVec F S4x64x112x112 .f32 := (fun x v => Host.reduceAdd x v reducesTo_S4x64x112x2x112x2_S4x64x112x112_d3_5 h_S_) main_v1 main_cst
  let main_v3 : FVec F S4x64x112x1x112x1 .f32 := broadcastInDim S4x64x112x1x112x1 ![0, 1, 2, 4] bcast_S4x64x112x112_S4x64x112x1x112x1_0_1_2_4 main_v2
  let main_cst_0 : FVec F S_ .f32 := constant S_ .f32 0x00000000#32
  let main_v4 : FVec F S4x64x112x1x112x1 .f32 := broadcastInDim S4x64x112x1x112x1 ![] bcast_S_S4x64x112x1x112x1 main_cst_0
  let main_v5 : IVec S4x64x112x1x112x1 1 := cmpf .oge main_v3 main_v4
  let main_v6 : FVec F S4x64x112x1x112x1 .f32 := uitofp .f32 main_v5
  let main_v7 : FVec F S4x64x112x2x112x2 .f32 := broadcastInDim S4x64x112x2x112x2 ![0, 1, 2, 3, 4, 5] bcast_S4x64x112x1x112x1_S4x64x112x2x112x2_0_1_2_3_4_5 main_v6
  let main_v8 : FVec F S4x64x224x224 .f32 := shapeCast S4x64x224x224 main_v7 shapeCasts_S4x64x112x2x112x2_S4x64x224x224
  let main_v9 : FVec F S4x48x224x224 .f32 := (extractStridedSlice S4x48x224x224 ![0, 64, 0, 0] · slices_S4x128x224x224_S4x48x224x224_0_64_0_0) main_arg0
  let main_v10 : FVec F S4x48x56x4x56x4 .f32 := shapeCast S4x48x56x4x56x4 main_v9 shapeCasts_S4x48x224x224_S4x48x56x4x56x4
  let main_cst_1 : FVec F S_ .f32 := constant S_ .f32 0x00000000#32
  let main_v11 : FVec F S4x48x56x56 .f32 := (fun x v => Host.reduceAdd x v reducesTo_S4x48x56x4x56x4_S4x48x56x56_d3_5 h_S_) main_v10 main_cst_1
  let main_v12 : FVec F S4x48x56x1x56x1 .f32 := broadcastInDim S4x48x56x1x56x1 ![0, 1, 2, 4] bcast_S4x48x56x56_S4x48x56x1x56x1_0_1_2_4 main_v11
  let main_cst_2 : FVec F S_ .f32 := constant S_ .f32 0x00000000#32
  let main_v13 : FVec F S4x48x56x1x56x1 .f32 := broadcastInDim S4x48x56x1x56x1 ![] bcast_S_S4x48x56x1x56x1 main_cst_2
  let main_v14 : IVec S4x48x56x1x56x1 1 := cmpf .oge main_v12 main_v13
  let main_v15 : FVec F S4x48x56x1x56x1 .f32 := uitofp .f32 main_v14
  let main_v16 : FVec F S4x48x56x4x56x4 .f32 := broadcastInDim S4x48x56x4x56x4 ![0, 1, 2, 3, 4, 5] bcast_S4x48x56x1x56x1_S4x48x56x4x56x4_0_1_2_3_4_5 main_v15
  let main_v17 : FVec F S4x48x224x224 .f32 := shapeCast S4x48x224x224 main_v16 shapeCasts_S4x48x56x4x56x4_S4x48x224x224
  let main_v18 : FVec F S4x16x224x224 .f32 := (extractStridedSlice S4x16x224x224 ![0, 112, 0, 0] · slices_S4x128x224x224_S4x16x224x224_0_112_0_0) main_arg0
  let main_cst_3 : FVec F S_ .f32 := constant S_ .f32 0x3F800000#32
  fn_part1 (F := F) main_arg0 main_v8 main_v17 main_cst_3
-- ==== Post_unchanged.lean ====
abbrev S4x128x224x224 : Shape := ⟨4, ![4, 128, 224, 224]⟩

class Facts : Prop where

variable [Facts]

def fn {F : FTy → Type} [BitOps F] (main_arg0 : FVec F S4x128x224x224 .f32) (main_arg1 : FVec F S4x128x224x224 .f32) : IVec S4x128x224x224 1 :=
  let main_v0 : IVec S4x128x224x224 32 := bitcastToInt main_arg1
  let main_v1 : IVec S4x128x224x224 32 := bitcastToInt main_arg0
  let main_v2 : IVec S4x128x224x224 1 := cmpi .eq main_v0 main_v1
  main_v2
-- ==== Kernel.lean ====
abbrev S4x128x224x224 : Shape := ⟨4, ![4, 128, 224, 224]⟩
abbrev S4x224x224x128 : Shape := ⟨4, ![4, 224, 224, 128]⟩
abbrev S4x56x128 : Shape := ⟨3, ![4, 56, 128]⟩
abbrev S_ : Shape := ⟨0, ![]⟩
abbrev S1x4x56x128 : Shape := ⟨4, ![1, 4, 56, 128]⟩

abbrev nBuf : Table → Nat
  | .hbm => 4
  | .local .scVector .vmem => 4
  | _ => 0

abbrev bufTy : (tb : Table) → Fin (nBuf tb) → BufTy
  | .hbm, ⟨0, _⟩ => ⟨S4x128x224x224, .f32⟩
  | .hbm, ⟨1, _⟩ => ⟨S4x224x224x128, .f32⟩
  | .hbm, ⟨2, _⟩ => ⟨S4x224x224x128, .f32⟩
  | .hbm, ⟨3, _⟩ => ⟨S4x128x224x224, .f32⟩
  | .local .scVector .vmem, ⟨0, _⟩ => ⟨S4x56x128, .f32⟩
  | .local .scVector .vmem, ⟨1, _⟩ => ⟨S4x56x128, .f32⟩
  | .local .scVector .vmem, ⟨2, _⟩ => ⟨S4x56x128, .f32⟩
  | .local .scVector .vmem, ⟨3, _⟩ => ⟨S4x56x128, .f32⟩
  | _, _ => ⟨S4x128x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v30 : BitVec 32 := Scalar.addi v29 c0_i32_10
  let c0_i32_11 : BitVec 32 := 0#32
  let c0_i32_12 : BitVec 32 := 0#32
  ![v18.toNat, v30.toNat, 0, 0]
def k0_off2 (i : grid0.Coords) (c0_i32_15 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v35 : BitVec 32 := Scalar.addi v29 c0_i32_15
  let c56_i32 : BitVec 32 := 56#32
  let c0_i32_16 : BitVec 32 := 0#32
  ![v18.toNat, v35.toNat, 56, 0]
def k0_off3 (i : grid0.Coords) (c0_i32_19 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v40 : BitVec 32 := Scalar.addi v29 c0_i32_19
  let c112_i32 : BitVec 32 := 112#32
  let c0_i32_20 : BitVec 32 := 0#32
  ![v18.toNat, v40.toNat, 112, 0]
def k0_off4 (i : grid0.Coords) (c0_i32_23 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v45 : BitVec 32 := Scalar.addi v29 c0_i32_23
  let c168_i32 : BitVec 32 := 168#32
  let c0_i32_24 : BitVec 32 := 0#32
  ![v18.toNat, v45.toNat, 168, 0]
@[reducible] def k0_t1_loop : Scf.Loop 32 :=
  let c0_i32_28 : BitVec 32 := 0#32
  let c7_i32 : BitVec 32 := 7#32
  let v50 : BitVec 32 := Scalar.addi c0_i32_28 c7_i32
  let c1_i32_29 : BitVec 32 := 1#32
  ⟨c0_i32_28, v50, c1_i32_29⟩
def k0_off5 (i : grid0.Coords) (k0_t1 : Fin k0_t1_loop.trips) (c0_i32_50 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32 : BitVec 32 := 4#32
  let v71 : BitVec 32 := Scalar.muli arg16 c4_i32
  let v72 : BitVec 32 := Scalar.addi v71 c0_i32_50
  let c0_i32_52 : BitVec 32 := 0#32
  let v74 : BitVec 1 := Scalar.cmpi .sgt v72 c0_i32_52
  let v75 : BitVec 32 := Scalar.extui v74
  let c0_i32_53 : BitVec 32 := 0#32
  let v76 : BitVec 1 := Scalar.cmpi .slt v72 c0_i32_53
  let v77 : BitVec 32 := Scalar.extui v76
  let v78 : BitVec 32 := Scalar.subi v75 v77
  let c4_i32_51 : BitVec 32 := 4#32
  let c0_i32_54 : BitVec 32 := 0#32
  let v79 : BitVec 1 := Scalar.cmpi .sgt c4_i32_51 c0_i32_54
  let v80 : BitVec 32 := Scalar.extui v79
  let c0_i32_55 : BitVec 32 := 0#32
  let v81 : BitVec 1 := Scalar.cmpi .slt c4_i32_51 c0_i32_55
  let v82 : BitVec 32 := Scalar.extui v81
  let v83 : BitVec 32 := Scalar.subi v80 v82
  let v84 : BitVec 1 := Scalar.cmpi .ne v78 v83
  let v85 : BitVec 32 := Scalar.remsi v72 c4_i32_51
  let c0_i32_56 : BitVec 32 := 0#32
  let v86 : BitVec 1 := Scalar.cmpi .ne v85 c0_i32_56
  let v87 : BitVec 1 := Scalar.andi v84 v86
  let v73 : BitVec 32 := Scalar.divsi v72 c4_i32_51
  let c1_i32_57 : BitVec 32 := 1#32
  let v88 : BitVec 32 := Scalar.subi v73 c1_i32_57
  let v89 : BitVec 32 := Scalar.select v87 v88 v73
  let c4_i32_64 : BitVec 32 := 4#32
  let v100 : BitVec 32 := Scalar.muli v89 c4_i32_64
  let v101 : BitVec 32 := Scalar.addi v29 v100
  let c4_i32_58 : BitVec 32 := 4#32
  let c0_i32_59 : BitVec 32 := 0#32
  let v90 : BitVec 1 := Scalar.cmpi .eq c4_i32_58 c0_i32_59
  let c1_i32_60 : BitVec 32 := 1#32
  let v91 : BitVec 32 := Scalar.select v90 c1_i32_60 c4_i32_58
  let v92 : BitVec 32 := Scalar.remsi v72 v91
  let c0_i32_62 : BitVec 32 := 0#32
  let v94 : BitVec 1 := Scalar.cmpi .slt v92 c0_i32_62
  let c0_i32_63 : BitVec 32 := 0#32
  let v95 : BitVec 1 := Scalar.cmpi .slt v91 c0_i32_63
  let v96 : BitVec 1 := Scalar.xori v94 v95
  let c0_i32_61 : BitVec 32 := 0#32
  let v93 : BitVec 1 := Scalar.cmpi .ne v92 c0_i32_61
  let v97 : BitVec 1 := Scalar.andi v96 v93
  let v98 : BitVec 32 := Scalar.addi v92 v91
  let v99 : BitVec 32 := Scalar.select v97 v98 v92
  let c56_i32_65 : BitVec 32 := 56#32
  let v102 : BitVec 32 := Scalar.muli v99 c56_i32_65
  let c0_i32_66 : BitVec 32 := 0#32
  ![v18.toNat, v101.toNat, v102.toNat, 0]
def k0_cond1 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c0_i32_86 : BitVec 32 := 0#32
  let v142 : BitVec 1 := Scalar.cmpi .sgt arg16 c0_i32_86
  let v143 : BitVec 32 := Scalar.extui v142
  let c0_i32_87 : BitVec 32 := 0#32
  let v144 : BitVec 1 := Scalar.cmpi .ne v143 c0_i32_87
  v144

def k0_off6 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32 : BitVec 32 := 4#32
  let v71 : BitVec 32 := Scalar.muli arg16 c4_i32
  let c0_i32_50 : BitVec 32 := 0#32
  let v72 : BitVec 32 := Scalar.addi v71 c0_i32_50
  let c2_i32_85 : BitVec 32 := 2#32
  let v141 : BitVec 32 := Scalar.addi v72 c2_i32_85
  let c4_i32_203 : BitVec 32 := 4#32
  let v367 : BitVec 32 := Scalar.subi v141 c4_i32_203
  let c0_i32_205 : BitVec 32 := 0#32
  let v369 : BitVec 1 := Scalar.cmpi .sgt v367 c0_i32_205
  let v370 : BitVec 32 := Scalar.extui v369
  let c0_i32_206 : BitVec 32 := 0#32
  let v371 : BitVec 1 := Scalar.cmpi .slt v367 c0_i32_206
  let v372 : BitVec 32 := Scalar.extui v371
  let v373 : BitVec 32 := Scalar.subi v370 v372
  let c4_i32_204 : BitVec 32 := 4#32
  let c0_i32_207 : BitVec 32 := 0#32
  let v374 : BitVec 1 := Scalar.cmpi .sgt c4_i32_204 c0_i32_207
  let v375 : BitVec 32 := Scalar.extui v374
  let c0_i32_208 : BitVec 32 := 0#32
  let v376 : BitVec 1 := Scalar.cmpi .slt c4_i32_204 c0_i32_208
  let v377 : BitVec 32 := Scalar.extui v376
  let v378 : BitVec 32 := Scalar.subi v375 v377
  let v379 : BitVec 1 := Scalar.cmpi .ne v373 v378
  let v380 : BitVec 32 := Scalar.remsi v367 c4_i32_204
  let c0_i32_209 : BitVec 32 := 0#32
  let v381 : BitVec 1 := Scalar.cmpi .ne v380 c0_i32_209
  let v382 : BitVec 1 := Scalar.andi v379 v381
  let v368 : BitVec 32 := Scalar.divsi v367 c4_i32_204
  let c1_i32_210 : BitVec 32 := 1#32
  let v383 : BitVec 32 := Scalar.subi v368 c1_i32_210
  let v384 : BitVec 32 := Scalar.select v382 v383 v368
  let c4_i32_217 : BitVec 32 := 4#32
  let v395 : BitVec 32 := Scalar.muli v384 c4_i32_217
  let v396 : BitVec 32 := Scalar.addi v29 v395
  let c4_i32_211 : BitVec 32 := 4#32
  let c0_i32_212 : BitVec 32 := 0#32
  let v385 : BitVec 1 := Scalar.cmpi .eq c4_i32_211 c0_i32_212
  let c1_i32_213 : BitVec 32 := 1#32
  let v386 : BitVec 32 := Scalar.select v385 c1_i32_213 c4_i32_211
  let v387 : BitVec 32 := Scalar.remsi v367 v386
  let c0_i32_215 : BitVec 32 := 0#32
  let v389 : BitVec 1 := Scalar.cmpi .slt v387 c0_i32_215
  let c0_i32_216 : BitVec 32 := 0#32
  let v390 : BitVec 1 := Scalar.cmpi .slt v386 c0_i32_216
  let v391 : BitVec 1 := Scalar.xori v389 v390
  let c0_i32_214 : BitVec 32 := 0#32
  let v388 : BitVec 1 := Scalar.cmpi .ne v387 c0_i32_214
  let v392 : BitVec 1 := Scalar.andi v391 v388
  let v393 : BitVec 32 := Scalar.addi v387 v386
  let v394 : BitVec 32 := Scalar.select v392 v393 v387
  let c56_i32_218 : BitVec 32 := 56#32
  let v397 : BitVec 32 := Scalar.muli v394 c56_i32_218
  let c0_i32_219 : BitVec 32 := 0#32
  ![v18.toNat, v396.toNat, v397.toNat, 0]
def k0_off7 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32 : BitVec 32 := 4#32
  let v71 : BitVec 32 := Scalar.muli arg16 c4_i32
  let c0_i32_50 : BitVec 32 := 0#32
  let v72 : BitVec 32 := Scalar.addi v71 c0_i32_50
  let c2_i32_85 : BitVec 32 := 2#32
  let v141 : BitVec 32 := Scalar.addi v72 c2_i32_85
  let c0_i32_222 : BitVec 32 := 0#32
  let v403 : BitVec 1 := Scalar.cmpi .sgt v141 c0_i32_222
  let v404 : BitVec 32 := Scalar.extui v403
  let c0_i32_223 : BitVec 32 := 0#32
  let v405 : BitVec 1 := Scalar.cmpi .slt v141 c0_i32_223
  let v406 : BitVec 32 := Scalar.extui v405
  let v407 : BitVec 32 := Scalar.subi v404 v406
  let c4_i32_221 : BitVec 32 := 4#32
  let c0_i32_224 : BitVec 32 := 0#32
  let v408 : BitVec 1 := Scalar.cmpi .sgt c4_i32_221 c0_i32_224
  let v409 : BitVec 32 := Scalar.extui v408
  let c0_i32_225 : BitVec 32 := 0#32
  let v410 : BitVec 1 := Scalar.cmpi .slt c4_i32_221 c0_i32_225
  let v411 : BitVec 32 := Scalar.extui v410
  let v412 : BitVec 32 := Scalar.subi v409 v411
  let v413 : BitVec 1 := Scalar.cmpi .ne v407 v412
  let v414 : BitVec 32 := Scalar.remsi v141 c4_i32_221
  let c0_i32_226 : BitVec 32 := 0#32
  let v415 : BitVec 1 := Scalar.cmpi .ne v414 c0_i32_226
  let v416 : BitVec 1 := Scalar.andi v413 v415
  let v402 : BitVec 32 := Scalar.divsi v141 c4_i32_221
  let c1_i32_227 : BitVec 32 := 1#32
  let v417 : BitVec 32 := Scalar.subi v402 c1_i32_227
  let v418 : BitVec 32 := Scalar.select v416 v417 v402
  let c4_i32_234 : BitVec 32 := 4#32
  let v429 : BitVec 32 := Scalar.muli v418 c4_i32_234
  let v430 : BitVec 32 := Scalar.addi v29 v429
  let c4_i32_228 : BitVec 32 := 4#32
  let c0_i32_229 : BitVec 32 := 0#32
  let v419 : BitVec 1 := Scalar.cmpi .eq c4_i32_228 c0_i32_229
  let c1_i32_230 : BitVec 32 := 1#32
  let v420 : BitVec 32 := Scalar.select v419 c1_i32_230 c4_i32_228
  let v421 : BitVec 32 := Scalar.remsi v141 v420
  let c0_i32_232 : BitVec 32 := 0#32
  let v423 : BitVec 1 := Scalar.cmpi .slt v421 c0_i32_232
  let c0_i32_233 : BitVec 32 := 0#32
  let v424 : BitVec 1 := Scalar.cmpi .slt v420 c0_i32_233
  let v425 : BitVec 1 := Scalar.xori v423 v424
  let c0_i32_231 : BitVec 32 := 0#32
  let v422 : BitVec 1 := Scalar.cmpi .ne v421 c0_i32_231
  let v426 : BitVec 1 := Scalar.andi v425 v422
  let v427 : BitVec 32 := Scalar.addi v421 v420
  let v428 : BitVec 32 := Scalar.select v426 v427 v421
  let c56_i32_235 : BitVec 32 := 56#32
  let v431 : BitVec 32 := Scalar.muli v428 c56_i32_235
  let c0_i32_236 : BitVec 32 := 0#32
  ![v18.toNat, v430.toNat, v431.toNat, 0]
def k0_cond2 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c0_i32_125 : BitVec 32 := 0#32
  let v216 : BitVec 1 := Scalar.cmpi .sgt arg16 c0_i32_125
  let v217 : BitVec 32 := Scalar.extui v216
  let c0_i32_126 : BitVec 32 := 0#32
  let v218 : BitVec 1 := Scalar.cmpi .ne v217 c0_i32_126
  v218

def k0_off8 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_88 : BitVec 32 := 4#32
  let v145 : BitVec 32 := Scalar.muli arg16 c4_i32_88
  let c1_i32_89 : BitVec 32 := 1#32
  let v146 : BitVec 32 := Scalar.addi v145 c1_i32_89
  let c2_i32_124 : BitVec 32 := 2#32
  let v215 : BitVec 32 := Scalar.addi v146 c2_i32_124
  let c4_i32_203 : BitVec 32 := 4#32
  let v367 : BitVec 32 := Scalar.subi v215 c4_i32_203
  let c0_i32_205 : BitVec 32 := 0#32
  let v369 : BitVec 1 := Scalar.cmpi .sgt v367 c0_i32_205
  let v370 : BitVec 32 := Scalar.extui v369
  let c0_i32_206 : BitVec 32 := 0#32
  let v371 : BitVec 1 := Scalar.cmpi .slt v367 c0_i32_206
  let v372 : BitVec 32 := Scalar.extui v371
  let v373 : BitVec 32 := Scalar.subi v370 v372
  let c4_i32_204 : BitVec 32 := 4#32
  let c0_i32_207 : BitVec 32 := 0#32
  let v374 : BitVec 1 := Scalar.cmpi .sgt c4_i32_204 c0_i32_207
  let v375 : BitVec 32 := Scalar.extui v374
  let c0_i32_208 : BitVec 32 := 0#32
  let v376 : BitVec 1 := Scalar.cmpi .slt c4_i32_204 c0_i32_208
  let v377 : BitVec 32 := Scalar.extui v376
  let v378 : BitVec 32 := Scalar.subi v375 v377
  let v379 : BitVec 1 := Scalar.cmpi .ne v373 v378
  let v380 : BitVec 32 := Scalar.remsi v367 c4_i32_204
  let c0_i32_209 : BitVec 32 := 0#32
  let v381 : BitVec 1 := Scalar.cmpi .ne v380 c0_i32_209
  let v382 : BitVec 1 := Scalar.andi v379 v381
  let v368 : BitVec 32 := Scalar.divsi v367 c4_i32_204
  let c1_i32_210 : BitVec 32 := 1#32
  let v383 : BitVec 32 := Scalar.subi v368 c1_i32_210
  let v384 : BitVec 32 := Scalar.select v382 v383 v368
  let c4_i32_217 : BitVec 32 := 4#32
  let v395 : BitVec 32 := Scalar.muli v384 c4_i32_217
  let v396 : BitVec 32 := Scalar.addi v29 v395
  let c4_i32_211 : BitVec 32 := 4#32
  let c0_i32_212 : BitVec 32 := 0#32
  let v385 : BitVec 1 := Scalar.cmpi .eq c4_i32_211 c0_i32_212
  let c1_i32_213 : BitVec 32 := 1#32
  let v386 : BitVec 32 := Scalar.select v385 c1_i32_213 c4_i32_211
  let v387 : BitVec 32 := Scalar.remsi v367 v386
  let c0_i32_215 : BitVec 32 := 0#32
  let v389 : BitVec 1 := Scalar.cmpi .slt v387 c0_i32_215
  let c0_i32_216 : BitVec 32 := 0#32
  let v390 : BitVec 1 := Scalar.cmpi .slt v386 c0_i32_216
  let v391 : BitVec 1 := Scalar.xori v389 v390
  let c0_i32_214 : BitVec 32 := 0#32
  let v388 : BitVec 1 := Scalar.cmpi .ne v387 c0_i32_214
  let v392 : BitVec 1 := Scalar.andi v391 v388
  let v393 : BitVec 32 := Scalar.addi v387 v386
  let v394 : BitVec 32 := Scalar.select v392 v393 v387
  let c56_i32_218 : BitVec 32 := 56#32
  let v397 : BitVec 32 := Scalar.muli v394 c56_i32_218
  let c0_i32_219 : BitVec 32 := 0#32
  ![v18.toNat, v396.toNat, v397.toNat, 0]
def k0_off9 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_88 : BitVec 32 := 4#32
  let v145 : BitVec 32 := Scalar.muli arg16 c4_i32_88
  let c1_i32_89 : BitVec 32 := 1#32
  let v146 : BitVec 32 := Scalar.addi v145 c1_i32_89
  let c2_i32_124 : BitVec 32 := 2#32
  let v215 : BitVec 32 := Scalar.addi v146 c2_i32_124
  let c0_i32_222 : BitVec 32 := 0#32
  let v403 : BitVec 1 := Scalar.cmpi .sgt v215 c0_i32_222
  let v404 : BitVec 32 := Scalar.extui v403
  let c0_i32_223 : BitVec 32 := 0#32
  let v405 : BitVec 1 := Scalar.cmpi .slt v215 c0_i32_223
  let v406 : BitVec 32 := Scalar.extui v405
  let v407 : BitVec 32 := Scalar.subi v404 v406
  let c4_i32_221 : BitVec 32 := 4#32
  let c0_i32_224 : BitVec 32 := 0#32
  let v408 : BitVec 1 := Scalar.cmpi .sgt c4_i32_221 c0_i32_224
  let v409 : BitVec 32 := Scalar.extui v408
  let c0_i32_225 : BitVec 32 := 0#32
  let v410 : BitVec 1 := Scalar.cmpi .slt c4_i32_221 c0_i32_225
  let v411 : BitVec 32 := Scalar.extui v410
  let v412 : BitVec 32 := Scalar.subi v409 v411
  let v413 : BitVec 1 := Scalar.cmpi .ne v407 v412
  let v414 : BitVec 32 := Scalar.remsi v215 c4_i32_221
  let c0_i32_226 : BitVec 32 := 0#32
  let v415 : BitVec 1 := Scalar.cmpi .ne v414 c0_i32_226
  let v416 : BitVec 1 := Scalar.andi v413 v415
  let v402 : BitVec 32 := Scalar.divsi v215 c4_i32_221
  let c1_i32_227 : BitVec 32 := 1#32
  let v417 : BitVec 32 := Scalar.subi v402 c1_i32_227
  let v418 : BitVec 32 := Scalar.select v416 v417 v402
  let c4_i32_234 : BitVec 32 := 4#32
  let v429 : BitVec 32 := Scalar.muli v418 c4_i32_234
  let v430 : BitVec 32 := Scalar.addi v29 v429
  let c4_i32_228 : BitVec 32 := 4#32
  let c0_i32_229 : BitVec 32 := 0#32
  let v419 : BitVec 1 := Scalar.cmpi .eq c4_i32_228 c0_i32_229
  let c1_i32_230 : BitVec 32 := 1#32
  let v420 : BitVec 32 := Scalar.select v419 c1_i32_230 c4_i32_228
  let v421 : BitVec 32 := Scalar.remsi v215 v420
  let c0_i32_232 : BitVec 32 := 0#32
  let v423 : BitVec 1 := Scalar.cmpi .slt v421 c0_i32_232
  let c0_i32_233 : BitVec 32 := 0#32
  let v424 : BitVec 1 := Scalar.cmpi .slt v420 c0_i32_233
  let v425 : BitVec 1 := Scalar.xori v423 v424
  let c0_i32_231 : BitVec 32 := 0#32
  let v422 : BitVec 1 := Scalar.cmpi .ne v421 c0_i32_231
  let v426 : BitVec 1 := Scalar.andi v425 v422
  let v427 : BitVec 32 := Scalar.addi v421 v420
  let v428 : BitVec 32 := Scalar.select v426 v427 v421
  let c56_i32_235 : BitVec 32 := 56#32
  let v431 : BitVec 32 := Scalar.muli v428 c56_i32_235
  let c0_i32_236 : BitVec 32 := 0#32
  ![v18.toNat, v430.toNat, v431.toNat, 0]
def k0_cond3 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c6_i32 : BitVec 32 := 6#32
  let v290 : BitVec 1 := Scalar.cmpi .slt arg16 c6_i32
  let v291 : BitVec 32 := Scalar.extui v290
  let c0_i32_164 : BitVec 32 := 0#32
  let v292 : BitVec 1 := Scalar.cmpi .ne v291 c0_i32_164
  v292

def k0_off10 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_127 : BitVec 32 := 4#32
  let v219 : BitVec 32 := Scalar.muli arg16 c4_i32_127
  let c2_i32_128 : BitVec 32 := 2#32
  let v220 : BitVec 32 := Scalar.addi v219 c2_i32_128
  let c2_i32_163 : BitVec 32 := 2#32
  let v289 : BitVec 32 := Scalar.addi v220 c2_i32_163
  let c4_i32_203 : BitVec 32 := 4#32
  let v367 : BitVec 32 := Scalar.subi v289 c4_i32_203
  let c0_i32_205 : BitVec 32 := 0#32
  let v369 : BitVec 1 := Scalar.cmpi .sgt v367 c0_i32_205
  let v370 : BitVec 32 := Scalar.extui v369
  let c0_i32_206 : BitVec 32 := 0#32
  let v371 : BitVec 1 := Scalar.cmpi .slt v367 c0_i32_206
  let v372 : BitVec 32 := Scalar.extui v371
  let v373 : BitVec 32 := Scalar.subi v370 v372
  let c4_i32_204 : BitVec 32 := 4#32
  let c0_i32_207 : BitVec 32 := 0#32
  let v374 : BitVec 1 := Scalar.cmpi .sgt c4_i32_204 c0_i32_207
  let v375 : BitVec 32 := Scalar.extui v374
  let c0_i32_208 : BitVec 32 := 0#32
  let v376 : BitVec 1 := Scalar.cmpi .slt c4_i32_204 c0_i32_208
  let v377 : BitVec 32 := Scalar.extui v376
  let v378 : BitVec 32 := Scalar.subi v375 v377
  let v379 : BitVec 1 := Scalar.cmpi .ne v373 v378
  let v380 : BitVec 32 := Scalar.remsi v367 c4_i32_204
  let c0_i32_209 : BitVec 32 := 0#32
  let v381 : BitVec 1 := Scalar.cmpi .ne v380 c0_i32_209
  let v382 : BitVec 1 := Scalar.andi v379 v381
  let v368 : BitVec 32 := Scalar.divsi v367 c4_i32_204
  let c1_i32_210 : BitVec 32 := 1#32
  let v383 : BitVec 32 := Scalar.subi v368 c1_i32_210
  let v384 : BitVec 32 := Scalar.select v382 v383 v368
  let c4_i32_217 : BitVec 32 := 4#32
  let v395 : BitVec 32 := Scalar.muli v384 c4_i32_217
  let v396 : BitVec 32 := Scalar.addi v29 v395
  let c4_i32_211 : BitVec 32 := 4#32
  let c0_i32_212 : BitVec 32 := 0#32
  let v385 : BitVec 1 := Scalar.cmpi .eq c4_i32_211 c0_i32_212
  let c1_i32_213 : BitVec 32 := 1#32
  let v386 : BitVec 32 := Scalar.select v385 c1_i32_213 c4_i32_211
  let v387 : BitVec 32 := Scalar.remsi v367 v386
  let c0_i32_215 : BitVec 32 := 0#32
  let v389 : BitVec 1 := Scalar.cmpi .slt v387 c0_i32_215
  let c0_i32_216 : BitVec 32 := 0#32
  let v390 : BitVec 1 := Scalar.cmpi .slt v386 c0_i32_216
  let v391 : BitVec 1 := Scalar.xori v389 v390
  let c0_i32_214 : BitVec 32 := 0#32
  let v388 : BitVec 1 := Scalar.cmpi .ne v387 c0_i32_214
  let v392 : BitVec 1 := Scalar.andi v391 v388
  let v393 : BitVec 32 := Scalar.addi v387 v386
  let v394 : BitVec 32 := Scalar.select v392 v393 v387
  let c56_i32_218 : BitVec 32 := 56#32
  let v397 : BitVec 32 := Scalar.muli v394 c56_i32_218
  let c0_i32_219 : BitVec 32 := 0#32
  ![v18.toNat, v396.toNat, v397.toNat, 0]
def k0_off11 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_127 : BitVec 32 := 4#32
  let v219 : BitVec 32 := Scalar.muli arg16 c4_i32_127
  let c2_i32_128 : BitVec 32 := 2#32
  let v220 : BitVec 32 := Scalar.addi v219 c2_i32_128
  let c2_i32_163 : BitVec 32 := 2#32
  let v289 : BitVec 32 := Scalar.addi v220 c2_i32_163
  let c0_i32_222 : BitVec 32 := 0#32
  let v403 : BitVec 1 := Scalar.cmpi .sgt v289 c0_i32_222
  let v404 : BitVec 32 := Scalar.extui v403
  let c0_i32_223 : BitVec 32 := 0#32
  let v405 : BitVec 1 := Scalar.cmpi .slt v289 c0_i32_223
  let v406 : BitVec 32 := Scalar.extui v405
  let v407 : BitVec 32 := Scalar.subi v404 v406
  let c4_i32_221 : BitVec 32 := 4#32
  let c0_i32_224 : BitVec 32 := 0#32
  let v408 : BitVec 1 := Scalar.cmpi .sgt c4_i32_221 c0_i32_224
  let v409 : BitVec 32 := Scalar.extui v408
  let c0_i32_225 : BitVec 32 := 0#32
  let v410 : BitVec 1 := Scalar.cmpi .slt c4_i32_221 c0_i32_225
  let v411 : BitVec 32 := Scalar.extui v410
  let v412 : BitVec 32 := Scalar.subi v409 v411
  let v413 : BitVec 1 := Scalar.cmpi .ne v407 v412
  let v414 : BitVec 32 := Scalar.remsi v289 c4_i32_221
  let c0_i32_226 : BitVec 32 := 0#32
  let v415 : BitVec 1 := Scalar.cmpi .ne v414 c0_i32_226
  let v416 : BitVec 1 := Scalar.andi v413 v415
  let v402 : BitVec 32 := Scalar.divsi v289 c4_i32_221
  let c1_i32_227 : BitVec 32 := 1#32
  let v417 : BitVec 32 := Scalar.subi v402 c1_i32_227
  let v418 : BitVec 32 := Scalar.select v416 v417 v402
  let c4_i32_234 : BitVec 32 := 4#32
  let v429 : BitVec 32 := Scalar.muli v418 c4_i32_234
  let v430 : BitVec 32 := Scalar.addi v29 v429
  let c4_i32_228 : BitVec 32 := 4#32
  let c0_i32_229 : BitVec 32 := 0#32
  let v419 : BitVec 1 := Scalar.cmpi .eq c4_i32_228 c0_i32_229
  let c1_i32_230 : BitVec 32 := 1#32
  let v420 : BitVec 32 := Scalar.select v419 c1_i32_230 c4_i32_228
  let v421 : BitVec 32 := Scalar.remsi v289 v420
  let c0_i32_232 : BitVec 32 := 0#32
  let v423 : BitVec 1 := Scalar.cmpi .slt v421 c0_i32_232
  let c0_i32_233 : BitVec 32 := 0#32
  let v424 : BitVec 1 := Scalar.cmpi .slt v420 c0_i32_233
  let v425 : BitVec 1 := Scalar.xori v423 v424
  let c0_i32_231 : BitVec 32 := 0#32
  let v422 : BitVec 1 := Scalar.cmpi .ne v421 c0_i32_231
  let v426 : BitVec 1 := Scalar.andi v425 v422
  let v427 : BitVec 32 := Scalar.addi v421 v420
  let v428 : BitVec 32 := Scalar.select v426 v427 v421
  let c56_i32_235 : BitVec 32 := 56#32
  let v431 : BitVec 32 := Scalar.muli v428 c56_i32_235
  let c0_i32_236 : BitVec 32 := 0#32
  ![v18.toNat, v430.toNat, v431.toNat, 0]
def k0_cond4 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c6_i32_201 : BitVec 32 := 6#32
  let v364 : BitVec 1 := Scalar.cmpi .slt arg16 c6_i32_201
  let v365 : BitVec 32 := Scalar.extui v364
  let c0_i32_202 : BitVec 32 := 0#32
  let v366 : BitVec 1 := Scalar.cmpi .ne v365 c0_i32_202
  v366

def k0_off12 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_165 : BitVec 32 := 4#32
  let v293 : BitVec 32 := Scalar.muli arg16 c4_i32_165
  let c3_i32 : BitVec 32 := 3#32
  let v294 : BitVec 32 := Scalar.addi v293 c3_i32
  let c2_i32_200 : BitVec 32 := 2#32
  let v363 : BitVec 32 := Scalar.addi v294 c2_i32_200
  let c4_i32_203 : BitVec 32 := 4#32
  let v367 : BitVec 32 := Scalar.subi v363 c4_i32_203
  let c0_i32_205 : BitVec 32 := 0#32
  let v369 : BitVec 1 := Scalar.cmpi .sgt v367 c0_i32_205
  let v370 : BitVec 32 := Scalar.extui v369
  let c0_i32_206 : BitVec 32 := 0#32
  let v371 : BitVec 1 := Scalar.cmpi .slt v367 c0_i32_206
  let v372 : BitVec 32 := Scalar.extui v371
  let v373 : BitVec 32 := Scalar.subi v370 v372
  let c4_i32_204 : BitVec 32 := 4#32
  let c0_i32_207 : BitVec 32 := 0#32
  let v374 : BitVec 1 := Scalar.cmpi .sgt c4_i32_204 c0_i32_207
  let v375 : BitVec 32 := Scalar.extui v374
  let c0_i32_208 : BitVec 32 := 0#32
  let v376 : BitVec 1 := Scalar.cmpi .slt c4_i32_204 c0_i32_208
  let v377 : BitVec 32 := Scalar.extui v376
  let v378 : BitVec 32 := Scalar.subi v375 v377
  let v379 : BitVec 1 := Scalar.cmpi .ne v373 v378
  let v380 : BitVec 32 := Scalar.remsi v367 c4_i32_204
  let c0_i32_209 : BitVec 32 := 0#32
  let v381 : BitVec 1 := Scalar.cmpi .ne v380 c0_i32_209
  let v382 : BitVec 1 := Scalar.andi v379 v381
  let v368 : BitVec 32 := Scalar.divsi v367 c4_i32_204
  let c1_i32_210 : BitVec 32 := 1#32
  let v383 : BitVec 32 := Scalar.subi v368 c1_i32_210
  let v384 : BitVec 32 := Scalar.select v382 v383 v368
  let c4_i32_217 : BitVec 32 := 4#32
  let v395 : BitVec 32 := Scalar.muli v384 c4_i32_217
  let v396 : BitVec 32 := Scalar.addi v29 v395
  let c4_i32_211 : BitVec 32 := 4#32
  let c0_i32_212 : BitVec 32 := 0#32
  let v385 : BitVec 1 := Scalar.cmpi .eq c4_i32_211 c0_i32_212
  let c1_i32_213 : BitVec 32 := 1#32
  let v386 : BitVec 32 := Scalar.select v385 c1_i32_213 c4_i32_211
  let v387 : BitVec 32 := Scalar.remsi v367 v386
  let c0_i32_215 : BitVec 32 := 0#32
  let v389 : BitVec 1 := Scalar.cmpi .slt v387 c0_i32_215
  let c0_i32_216 : BitVec 32 := 0#32
  let v390 : BitVec 1 := Scalar.cmpi .slt v386 c0_i32_216
  let v391 : BitVec 1 := Scalar.xori v389 v390
  let c0_i32_214 : BitVec 32 := 0#32
  let v388 : BitVec 1 := Scalar.cmpi .ne v387 c0_i32_214
  let v392 : BitVec 1 := Scalar.andi v391 v388
  let v393 : BitVec 32 := Scalar.addi v387 v386
  let v394 : BitVec 32 := Scalar.select v392 v393 v387
  let c56_i32_218 : BitVec 32 := 56#32
  let v397 : BitVec 32 := Scalar.muli v394 c56_i32_218
  let c0_i32_219 : BitVec 32 := 0#32
  ![v18.toNat, v396.toNat, v397.toNat, 0]
def k0_off13 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_165 : BitVec 32 := 4#32
  let v293 : BitVec 32 := Scalar.muli arg16 c4_i32_165
  let c3_i32 : BitVec 32 := 3#32
  let v294 : BitVec 32 := Scalar.addi v293 c3_i32
  let c2_i32_200 : BitVec 32 := 2#32
  let v363 : BitVec 32 := Scalar.addi v294 c2_i32_200
  let c0_i32_222 : BitVec 32 := 0#32
  let v403 : BitVec 1 := Scalar.cmpi .sgt v363 c0_i32_222
  let v404 : BitVec 32 := Scalar.extui v403
  let c0_i32_223 : BitVec 32 := 0#32
  let v405 : BitVec 1 := Scalar.cmpi .slt v363 c0_i32_223
  let v406 : BitVec 32 := Scalar.extui v405
  let v407 : BitVec 32 := Scalar.subi v404 v406
  let c4_i32_221 : BitVec 32 := 4#32
  let c0_i32_224 : BitVec 32 := 0#32
  let v408 : BitVec 1 := Scalar.cmpi .sgt c4_i32_221 c0_i32_224
  let v409 : BitVec 32 := Scalar.extui v408
  let c0_i32_225 : BitVec 32 := 0#32
  let v410 : BitVec 1 := Scalar.cmpi .slt c4_i32_221 c0_i32_225
  let v411 : BitVec 32 := Scalar.extui v410
  let v412 : BitVec 32 := Scalar.subi v409 v411
  let v413 : BitVec 1 := Scalar.cmpi .ne v407 v412
  let v414 : BitVec 32 := Scalar.remsi v363 c4_i32_221
  let c0_i32_226 : BitVec 32 := 0#32
  let v415 : BitVec 1 := Scalar.cmpi .ne v414 c0_i32_226
  let v416 : BitVec 1 := Scalar.andi v413 v415
  let v402 : BitVec 32 := Scalar.divsi v363 c4_i32_221
  let c1_i32_227 : BitVec 32 := 1#32
  let v417 : BitVec 32 := Scalar.subi v402 c1_i32_227
  let v418 : BitVec 32 := Scalar.select v416 v417 v402
  let c4_i32_234 : BitVec 32 := 4#32
  let v429 : BitVec 32 := Scalar.muli v418 c4_i32_234
  let v430 : BitVec 32 := Scalar.addi v29 v429
  let c4_i32_228 : BitVec 32 := 4#32
  let c0_i32_229 : BitVec 32 := 0#32
  let v419 : BitVec 1 := Scalar.cmpi .eq c4_i32_228 c0_i32_229
  let c1_i32_230 : BitVec 32 := 1#32
  let v420 : BitVec 32 := Scalar.select v419 c1_i32_230 c4_i32_228
  let v421 : BitVec 32 := Scalar.remsi v363 v420
  let c0_i32_232 : BitVec 32 := 0#32
  let v423 : BitVec 1 := Scalar.cmpi .slt v421 c0_i32_232
  let c0_i32_233 : BitVec 32 := 0#32
  let v424 : BitVec 1 := Scalar.cmpi .slt v420 c0_i32_233
  let v425 : BitVec 1 := Scalar.xori v423 v424
  let c0_i32_231 : BitVec 32 := 0#32
  let v422 : BitVec 1 := Scalar.cmpi .ne v421 c0_i32_231
  let v426 : BitVec 1 := Scalar.andi v425 v422
  let v427 : BitVec 32 := Scalar.addi v421 v420
  let v428 : BitVec 32 := Scalar.select v426 v427 v421
  let c56_i32_235 : BitVec 32 := 56#32
  let v431 : BitVec 32 := Scalar.muli v428 c56_i32_235
  let c0_i32_236 : BitVec 32 := 0#32
  ![v18.toNat, v430.toNat, v431.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x224x224 : Shape := ⟨4, ![4, 128, 224, 224]⟩
abbrev S4x64x224x224 : Shape := ⟨4, ![4, 64, 224, 224]⟩
abbrev S4x64x112x2x112x2 : Shape := ⟨6, ![4, 64, 112, 2, 112, 2]⟩
abbrev S_ : Shape := ⟨0, ![]⟩
abbrev S4x64x112x112 : Shape := ⟨4, ![4, 64, 112, 112]⟩
abbrev S4x64x112x1x112x1 : Shape := ⟨6, ![4, 64, 112, 1, 112, 1]⟩
abbrev S4x48x224x224 : Shape := ⟨4, ![4, 48, 224, 224]⟩
abbrev S4x48x56x4x56x4 : Shape := ⟨6, ![4, 48, 56, 4, 56, 4]⟩
abbrev S4x48x56x56 : Shape := ⟨4, ![4, 48, 56, 56]⟩
abbrev S4x48x56x1x56x1 : Shape := ⟨6, ![4, 48, 56, 1, 56, 1]⟩
abbrev S4x16x224x224 : Shape := ⟨4, ![4, 16, 224, 224]⟩

abbrev nBuf : Space → Nat
  | .hbm => 28
  | .vmem => 0
  | .smem => 0
  | _ => 0

abbrev bufTy : (tb : Table) → Fin (tcTables nBuf tb) → BufTy
  | .hbm, ⟨0, _⟩ => ⟨S4x128x224x224, .f32⟩
  | .hbm, ⟨1, _⟩ => ⟨S4x64x224x224, .f32⟩
  | .hbm, ⟨2, _⟩ => ⟨S4x64x112x2x112x2, .f32⟩
  | .hbm, ⟨3, _⟩ => ⟨S_, .f32⟩
  | .hbm, ⟨4, _⟩ => ⟨S4x64x112x112, .f32⟩
  | .hbm, ⟨5, _⟩ => ⟨S4x64x112x1x112x1, .f32⟩
  | .hbm, ⟨6, _⟩ => ⟨S_, .f32⟩
  | .hbm, ⟨7, _⟩ => ⟨S4x64x112x1x112x1, .f32⟩
  | .hbm, ⟨8, _⟩ => ⟨S4x64x112x1x112x1, .i1⟩
  | .hbm, ⟨9, _⟩ => ⟨S4x64x112x1x112x1, .f32⟩
  | .hbm, ⟨10, _⟩ => ⟨S4x64x112x2x112x2, .f32⟩
  | .hbm, ⟨11, _⟩ => ⟨S4x64x224x224, .f32⟩
  | .hbm, ⟨12, _⟩ => ⟨S4x48x224x224, .f32⟩
  | .hbm, ⟨13, _⟩ => ⟨S4x48x56x4x56x4, .f32⟩
  | .hbm, ⟨14, _⟩ => ⟨S_, .f32⟩
  | .hbm, ⟨15, _⟩ => ⟨S4x48x56x56, .f32⟩
  | .hbm, ⟨16, _⟩ => ⟨S4x48x56x1x56x1, .f32⟩
  | .hbm, ⟨17, _⟩ => ⟨S_, .f32⟩
  | .hbm, ⟨18, _⟩ => ⟨S4x48x56x1x56x1, .f32⟩
  | .hbm, ⟨19, _⟩ => ⟨S4x48x56x1x56x1, .i1⟩
  | .hbm, ⟨20, _⟩ => ⟨S4x48x56x1x56x1, .f32⟩
  | .hbm, ⟨21, _⟩ => ⟨S4x48x56x4x56x4, .f32⟩
  | .hbm, ⟨22, _⟩ => ⟨S4x48x224x224, .f32⟩
  | .hbm, ⟨23, _⟩ => ⟨S4x16x224x224, .f32⟩
  | .hbm, ⟨24, _⟩ => ⟨S_, .f32⟩
  | .hbm, ⟨25, _⟩ => ⟨S4x16x224x224, .f32⟩
  | .hbm, ⟨26, _⟩ => ⟨S4x128x224x224, .f32⟩
  | .hbm, ⟨27, _⟩ => ⟨S4x128x224x224, .f32⟩
  | _, _ => ⟨S4x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Computed.lean ====
abbrev S4x128x224x224 : Shape := ⟨4, ![4, 128, 224, 224]⟩
abbrev S4x224x224x128 : Shape := ⟨4, ![4, 224, 224, 128]⟩
abbrev S4x56x128 : Shape := ⟨3, ![4, 56, 128]⟩
abbrev S_ : Shape := ⟨0, ![]⟩
abbrev S1x4x56x128 : Shape := ⟨4, ![1, 4, 56, 128]⟩
abbrev S1x1x16 : Shape := ⟨3, ![1, 1, 16]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S4x128x224x224, .f32⟩
  | .hbm, ⟨1, _⟩ => ⟨S4x224x224x128, .f32⟩
  | .hbm, ⟨2, _⟩ => ⟨S4x224x224x128, .f32⟩
  | .hbm, ⟨3, _⟩ => ⟨S4x128x224x224, .f32⟩
  | .local .scVector .vmem, ⟨0, _⟩ => ⟨S4x56x128, .f32⟩
  | .local .scVector .vmem, ⟨1, _⟩ => ⟨S4x56x128, .f32⟩
  | .local .scVector .vmem, ⟨2, _⟩ => ⟨S4x56x128, .f32⟩
  | .local .scVector .vmem, ⟨3, _⟩ => ⟨S4x56x128, .f32⟩
  | _, _ => ⟨S4x128x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v30 : BitVec 32 := Scalar.addi v29 c0_i32_10
  let c0_i32_11 : BitVec 32 := 0#32
  let c0_i32_12 : BitVec 32 := 0#32
  ![v18.toNat, v30.toNat, 0, 0]
def k0_off2 (i : grid0.Coords) (c0_i32_15 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v35 : BitVec 32 := Scalar.addi v29 c0_i32_15
  let c56_i32 : BitVec 32 := 56#32
  let c0_i32_16 : BitVec 32 := 0#32
  ![v18.toNat, v35.toNat, 56, 0]
def k0_off3 (i : grid0.Coords) (c0_i32_19 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v40 : BitVec 32 := Scalar.addi v29 c0_i32_19
  let c112_i32 : BitVec 32 := 112#32
  let c0_i32_20 : BitVec 32 := 0#32
  ![v18.toNat, v40.toNat, 112, 0]
def k0_off4 (i : grid0.Coords) (c0_i32_23 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let v45 : BitVec 32 := Scalar.addi v29 c0_i32_23
  let c168_i32 : BitVec 32 := 168#32
  let c0_i32_24 : BitVec 32 := 0#32
  ![v18.toNat, v45.toNat, 168, 0]
@[reducible] def k0_t1_loop : Scf.Loop 32 :=
  let c0_i32_28 : BitVec 32 := 0#32
  let c7_i32 : BitVec 32 := 7#32
  let v50 : BitVec 32 := Scalar.addi c0_i32_28 c7_i32
  let c1_i32_29 : BitVec 32 := 1#32
  ⟨c0_i32_28, v50, c1_i32_29⟩
def k0_off5 (i : grid0.Coords) (k0_t1 : Fin k0_t1_loop.trips) (c0_i32_50 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32 : BitVec 32 := 4#32
  let v71 : BitVec 32 := Scalar.muli arg16 c4_i32
  let v72 : BitVec 32 := Scalar.addi v71 c0_i32_50
  let c0_i32_52 : BitVec 32 := 0#32
  let v74 : BitVec 1 := Scalar.cmpi .sgt v72 c0_i32_52
  let v75 : BitVec 32 := Scalar.extui v74
  let c0_i32_53 : BitVec 32 := 0#32
  let v76 : BitVec 1 := Scalar.cmpi .slt v72 c0_i32_53
  let v77 : BitVec 32 := Scalar.extui v76
  let v78 : BitVec 32 := Scalar.subi v75 v77
  let c4_i32_51 : BitVec 32 := 4#32
  let c0_i32_54 : BitVec 32 := 0#32
  let v79 : BitVec 1 := Scalar.cmpi .sgt c4_i32_51 c0_i32_54
  let v80 : BitVec 32 := Scalar.extui v79
  let c0_i32_55 : BitVec 32 := 0#32
  let v81 : BitVec 1 := Scalar.cmpi .slt c4_i32_51 c0_i32_55
  let v82 : BitVec 32 := Scalar.extui v81
  let v83 : BitVec 32 := Scalar.subi v80 v82
  let v84 : BitVec 1 := Scalar.cmpi .ne v78 v83
  let v85 : BitVec 32 := Scalar.remsi v72 c4_i32_51
  let c0_i32_56 : BitVec 32 := 0#32
  let v86 : BitVec 1 := Scalar.cmpi .ne v85 c0_i32_56
  let v87 : BitVec 1 := Scalar.andi v84 v86
  let v73 : BitVec 32 := Scalar.divsi v72 c4_i32_51
  let c1_i32_57 : BitVec 32 := 1#32
  let v88 : BitVec 32 := Scalar.subi v73 c1_i32_57
  let v89 : BitVec 32 := Scalar.select v87 v88 v73
  let c4_i32_64 : BitVec 32 := 4#32
  let v100 : BitVec 32 := Scalar.muli v89 c4_i32_64
  let v101 : BitVec 32 := Scalar.addi v29 v100
  let c4_i32_58 : BitVec 32 := 4#32
  let c0_i32_59 : BitVec 32 := 0#32
  let v90 : BitVec 1 := Scalar.cmpi .eq c4_i32_58 c0_i32_59
  let c1_i32_60 : BitVec 32 := 1#32
  let v91 : BitVec 32 := Scalar.select v90 c1_i32_60 c4_i32_58
  let v92 : BitVec 32 := Scalar.remsi v72 v91
  let c0_i32_62 : BitVec 32 := 0#32
  let v94 : BitVec 1 := Scalar.cmpi .slt v92 c0_i32_62
  let c0_i32_63 : BitVec 32 := 0#32
  let v95 : BitVec 1 := Scalar.cmpi .slt v91 c0_i32_63
  let v96 : BitVec 1 := Scalar.xori v94 v95
  let c0_i32_61 : BitVec 32 := 0#32
  let v93 : BitVec 1 := Scalar.cmpi .ne v92 c0_i32_61
  let v97 : BitVec 1 := Scalar.andi v96 v93
  let v98 : BitVec 32 := Scalar.addi v92 v91
  let v99 : BitVec 32 := Scalar.select v97 v98 v92
  let c56_i32_65 : BitVec 32 := 56#32
  let v102 : BitVec 32 := Scalar.muli v99 c56_i32_65
  let c0_i32_66 : BitVec 32 := 0#32
  ![v18.toNat, v101.toNat, v102.toNat, 0]
@[reducible] def k0_t2_loop : Scf.Loop 32 :=
  let c0_i32_69 : BitVec 32 := 0#32
  let c28_i32_70 : BitVec 32 := 28#32
  let v107 : BitVec 32 := Scalar.addi c0_i32_69 c28_i32_70
  let c1_i32_71 : BitVec 32 := 1#32
  ⟨c0_i32_69, v107, c1_i32_71⟩
def k0_off6 (k0_t2 : Fin k0_t2_loop.trips) : Fin 3 → Nat :=
  let c0_i32_244 : BitVec 32 := 0#32
  let v377 : Index := Scalar.indexCast c0_i32_244
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v378 : Index := Scalar.indexCast v375
  let c0 : Index := 0#32
  ![0, v378.toNat, 0]
def k0_off7 (k0_t2 : Fin k0_t2_loop.trips) : Fin 3 → Nat :=
  let c0_i32_245 : BitVec 32 := 0#32
  let v381 : Index := Scalar.indexCast c0_i32_245
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v382 : Index := Scalar.indexCast v376
  let c0_246 : Index := 0#32
  ![0, v382.toNat, 0]
def k0_off8 (k0_t2 : Fin k0_t2_loop.trips) : Fin 3 → Nat :=
  let c1_i32_247 : BitVec 32 := 1#32
  let v385 : Index := Scalar.indexCast c1_i32_247
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v386 : Index := Scalar.indexCast v375
  let c0_248 : Index := 0#32
  ![1, v386.toNat, 0]
def k0_off9 (k0_t2 : Fin k0_t2_loop.trips) : Fin 3 → Nat :=
  let c1_i32_249 : BitVec 32 := 1#32
  let v389 : Index := Scalar.indexCast c1_i32_249
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v390 : Index := Scalar.indexCast v376
  let c0_250 : Index := 0#32
  ![1, v390.toNat, 0]
def k0_off10 (k0_t2 : Fin k0_t2_loop.trips) : Fin 3 → Nat :=
  let c0_i32_263 : BitVec 32 := 0#32
  let v426 : Index := Scalar.indexCast c0_i32_263
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v427 : Index := Scalar.indexCast v375
  let c16 : Index := 16#32
  ![0, v427.toNat, 16]
def k0_off11 (k0_t2 : Fin k0_t2_loop.trips) : Fin 3 → Nat :=
  let c0_i32_264 : BitVec 32 := 0#32
  let v430 : Index := Scalar.indexCast c0_i32_264
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v431 : Index := Scalar.indexCast v376
  let c16_265 : Index := 16#32
  ![0, v431.toNat, 16]
def k0_off12 (k0_t2 : Fin k0_t2_loop.trips) : Fin 3 → Nat :=
  let c1_i32_266 : BitVec 32 := 1#32
  let v434 : Index := Scalar.indexCast c1_i32_266
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v435 : Index := Scalar.indexCast v375
  let c16_267 : Index := 16#32
  ![1, v435.toNat, 16]
def k0_off13 (k0_t2 : Fin k0_t2_loop.trips) : Fin 3 → Nat :=
  let c1_i32_268 : BitVec 32 := 1#32
  let v438 : Index := Scalar.indexCast c1_i32_268
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v439 : Index := Scalar.indexCast v376
  let c16_269 : Index := 16#32
  ![1, v439.toNat, 16]
def k0_off14 (k0_t2 : Fin k0_t2_loop.trips) : Fin 3 → Nat :=
  let c0_i32_283 : BitVec 32 := 0#32
  let v475 : Index := Scalar.indexCast c0_i32_283
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v476 : Index := Scalar.indexCast v375
  let c32 : Index := 32#32
  ![0, v476.toNat, 32]
def k0_off15 (k0_t2 : Fin k0_t2_loop.trips) : Fin 3 → Nat :=
  let c0_i32_284 : BitVec 32 := 0#32
  let v479 : Index := Scalar.indexCast c0_i32_284
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v480 : Index := Scalar.indexCast v376
  let c32_285 : Index := 32#32
  ![0, v480.toNat, 32]
def k0_off16 (k0_t2 : Fin k0_t2_loop.trips) : Fin 3 → Nat :=
  let c1_i32_286 : BitVec 32 := 1#32
  let v483 : Index := Scalar.indexCast c1_i32_286
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v484 : Index := Scalar.indexCast v375
  let c32_287 : Index := 32#32
  ![1, v484.toNat, 32]
def k0_off17 (k0_t2 : Fin k0_t2_loop.trips) : Fin 3 → Nat :=
  let c1_i32_288 : BitVec 32 := 1#32
  let v487 : Index := Scalar.indexCast c1_i32_288
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v488 : Index := Scalar.indexCast v376
  let c32_289 : Index := 32#32
  ![1, v488.toNat, 32]
def k0_off18 (k0_t2 : Fin k0_t2_loop.trips) : Fin 3 → Nat :=
  let c0_i32_303 : BitVec 32 := 0#32
  let v524 : Index := Scalar.indexCast c0_i32_303
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v525 : Index := Scalar.indexCast v375
  let c48 : Index := 48#32
  ![0, v525.toNat, 48]
def k0_off19 (k0_t2 : Fin k0_t2_loop.trips) : Fin 3 → Nat :=
  let c0_i32_304 : BitVec 32 := 0#32
  let v528 : Index := Scalar.indexCast c0_i32_304
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v529 : Index := Scalar.indexCast v376
  let c48_305 : Index := 48#32
  ![0, v529.toNat, 48]
def k0_off20 (k0_t2 : Fin k0_t2_loop.trips) : Fin 3 → Nat :=
  let c1_i32_306 : BitVec 32 := 1#32
  let v532 : Index := Scalar.indexCast c1_i32_306
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v533 : Index := Scalar.indexCast v375
  let c48_307 : Index := 48#32
  ![1, v533.toNat, 48]
def k0_off21 (k0_t2 : Fin k0_t2_loop.trips) : Fin 3 → Nat :=
  let c1_i32_308 : BitVec 32 := 1#32
  let v536 : Index := Scalar.indexCast c1_i32_308
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v537 : Index := Scalar.indexCast v376
  let c48_309 : Index := 48#32
  ![1, v537.toNat, 48]
def k0_off22 (k0_t2 : Fin k0_t2_loop.trips) : Fin 3 → Nat :=
  let c2_i32_323 : BitVec 32 := 2#32
  let v573 : Index := Scalar.indexCast c2_i32_323
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v574 : Index := Scalar.indexCast v375
  let c0_324 : Index := 0#32
  ![2, v574.toNat, 0]
def k0_off23 (k0_t2 : Fin k0_t2_loop.trips) : Fin 3 → Nat :=
  let c2_i32_325 : BitVec 32 := 2#32
  let v577 : Index := Scalar.indexCast c2_i32_325
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v578 : Index := Scalar.indexCast v376
  let c0_326 : Index := 0#32
  ![2, v578.toNat, 0]
def k0_off24 (k0_t2 : Fin k0_t2_loop.trips) : Fin 3 → Nat :=
  let c3_i32_327 : BitVec 32 := 3#32
  let v581 : Index := Scalar.indexCast c3_i32_327
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v582 : Index := Scalar.indexCast v375
  let c0_328 : Index := 0#32
  ![3, v582.toNat, 0]
def k0_off25 (k0_t2 : Fin k0_t2_loop.trips) : Fin 3 → Nat :=
  let c3_i32_329 : BitVec 32 := 3#32
  let v585 : Index := Scalar.indexCast c3_i32_329
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v586 : Index := Scalar.indexCast v376
  let c0_330 : Index := 0#32
  ![3, v586.toNat, 0]
def k0_off26 (k0_t2 : Fin k0_t2_loop.trips) : Fin 3 → Nat :=
  let c2_i32_344 : BitVec 32 := 2#32
  let v622 : Index := Scalar.indexCast c2_i32_344
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v623 : Index := Scalar.indexCast v375
  let c16_345 : Index := 16#32
  ![2, v623.toNat, 16]
def k0_off27 (k0_t2 : Fin k0_t2_loop.trips) : Fin 3 → Nat :=
  let c2_i32_346 : BitVec 32 := 2#32
  let v626 : Index := Scalar.indexCast c2_i32_346
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v627 : Index := Scalar.indexCast v376
  let c16_347 : Index := 16#32
  ![2, v627.toNat, 16]
def k0_off28 (k0_t2 : Fin k0_t2_loop.trips) : Fin 3 → Nat :=
  let c3_i32_348 : BitVec 32 := 3#32
  let v630 : Index := Scalar.indexCast c3_i32_348
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v631 : Index := Scalar.indexCast v375
  let c16_349 : Index := 16#32
  ![3, v631.toNat, 16]
def k0_off29 (k0_t2 : Fin k0_t2_loop.trips) : Fin 3 → Nat :=
  let c3_i32_350 : BitVec 32 := 3#32
  let v634 : Index := Scalar.indexCast c3_i32_350
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v635 : Index := Scalar.indexCast v376
  let c16_351 : Index := 16#32
  ![3, v635.toNat, 16]
def k0_off30 (k0_t2 : Fin k0_t2_loop.trips) : Fin 3 → Nat :=
  let c2_i32_365 : BitVec 32 := 2#32
  let v671 : Index := Scalar.indexCast c2_i32_365
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v672 : Index := Scalar.indexCast v375
  let c32_366 : Index := 32#32
  ![2, v672.toNat, 32]
def k0_off31 (k0_t2 : Fin k0_t2_loop.trips) : Fin 3 → Nat :=
  let c2_i32_367 : BitVec 32 := 2#32
  let v675 : Index := Scalar.indexCast c2_i32_367
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v676 : Index := Scalar.indexCast v376
  let c32_368 : Index := 32#32
  ![2, v676.toNat, 32]
def k0_off32 (k0_t2 : Fin k0_t2_loop.trips) : Fin 3 → Nat :=
  let c3_i32_369 : BitVec 32 := 3#32
  let v679 : Index := Scalar.indexCast c3_i32_369
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v680 : Index := Scalar.indexCast v375
  let c32_370 : Index := 32#32
  ![3, v680.toNat, 32]
def k0_off33 (k0_t2 : Fin k0_t2_loop.trips) : Fin 3 → Nat :=
  let c3_i32_371 : BitVec 32 := 3#32
  let v683 : Index := Scalar.indexCast c3_i32_371
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v684 : Index := Scalar.indexCast v376
  let c32_372 : Index := 32#32
  ![3, v684.toNat, 32]
def k0_off34 (k0_t2 : Fin k0_t2_loop.trips) : Fin 3 → Nat :=
  let c2_i32_386 : BitVec 32 := 2#32
  let v720 : Index := Scalar.indexCast c2_i32_386
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v721 : Index := Scalar.indexCast v375
  let c48_387 : Index := 48#32
  ![2, v721.toNat, 48]
def k0_off35 (k0_t2 : Fin k0_t2_loop.trips) : Fin 3 → Nat :=
  let c2_i32_388 : BitVec 32 := 2#32
  let v724 : Index := Scalar.indexCast c2_i32_388
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v725 : Index := Scalar.indexCast v376
  let c48_389 : Index := 48#32
  ![2, v725.toNat, 48]
def k0_off36 (k0_t2 : Fin k0_t2_loop.trips) : Fin 3 → Nat :=
  let c3_i32_390 : BitVec 32 := 3#32
  let v728 : Index := Scalar.indexCast c3_i32_390
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let v729 : Index := Scalar.indexCast v375
  let c48_391 : Index := 48#32
  ![3, v729.toNat, 48]
def k0_off37 (k0_t2 : Fin k0_t2_loop.trips) : Fin 3 → Nat :=
  let c3_i32_392 : BitVec 32 := 3#32
  let v732 : Index := Scalar.indexCast c3_i32_392
  let c0_i32_69 : BitVec 32 := 0#32
  let c1_i32_71 : BitVec 32 := 1#32
  let arg17 : BitVec 32 := Scf.iv c0_i32_69 c1_i32_71 k0_t2
  let c2_i32_242 : BitVec 32 := 2#32
  let v375 : BitVec 32 := Scalar.muli arg17 c2_i32_242
  let c1_i32_243 : BitVec 32 := 1#32
  let v376 : BitVec 32 := Scalar.addi v375 c1_i32_243
  let v733 : Index := Scalar.indexCast v376
  let c48_393 : Index := 48#32
  ![3, v733.toNat, 48]
@[reducible] def k0_t3_loop : Scf.Loop 32 :=
  let c0_i32_74 : BitVec 32 := 0#32
  let c14_i32 : BitVec 32 := 14#32
  let v108 : BitVec 32 := Scalar.addi c0_i32_74 c14_i32
  let c1_i32_75 : BitVec 32 := 1#32
  ⟨c0_i32_74, v108, c1_i32_75⟩
def k0_off38 (k0_t3 : Fin k0_t3_loop.trips) (c0_i32_243 : BitVec 32) : Fin 3 → Nat :=
  let c0_i32_244 : BitVec 32 := 0#32
  let v377 : Index := Scalar.indexCast c0_i32_244
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v376 : BitVec 32 := Scalar.addi v375 c0_i32_243
  let v378 : Index := Scalar.indexCast v376
  let c64 : Index := 64#32
  ![0, v378.toNat, 64]
def k0_off39 (k0_t3 : Fin k0_t3_loop.trips) (c0_i32_254 : BitVec 32) : Fin 3 → Nat :=
  let c1_i32_255 : BitVec 32 := 1#32
  let v397 : Index := Scalar.indexCast c1_i32_255
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v396 : BitVec 32 := Scalar.addi v375 c0_i32_254
  let v398 : Index := Scalar.indexCast v396
  let c64_256 : Index := 64#32
  ![1, v398.toNat, 64]
def k0_off40 (k0_t3 : Fin k0_t3_loop.trips) (c0_i32_266 : BitVec 32) : Fin 3 → Nat :=
  let c2_i32_267 : BitVec 32 := 2#32
  let v417 : Index := Scalar.indexCast c2_i32_267
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v416 : BitVec 32 := Scalar.addi v375 c0_i32_266
  let v418 : Index := Scalar.indexCast v416
  let c64_268 : Index := 64#32
  ![2, v418.toNat, 64]
def k0_off41 (k0_t3 : Fin k0_t3_loop.trips) (c0_i32_278 : BitVec 32) : Fin 3 → Nat :=
  let c3_i32_279 : BitVec 32 := 3#32
  let v437 : Index := Scalar.indexCast c3_i32_279
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v436 : BitVec 32 := Scalar.addi v375 c0_i32_278
  let v438 : Index := Scalar.indexCast v436
  let c64_280 : Index := 64#32
  ![3, v438.toNat, 64]
def k0_off42 (k0_t3 : Fin k0_t3_loop.trips) (c0_i32_354 : BitVec 32) : Fin 3 → Nat :=
  let c0_i32_355 : BitVec 32 := 0#32
  let v602 : Index := Scalar.indexCast c0_i32_355
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v601 : BitVec 32 := Scalar.addi v375 c0_i32_354
  let v603 : Index := Scalar.indexCast v601
  let c80 : Index := 80#32
  ![0, v603.toNat, 80]
def k0_off43 (k0_t3 : Fin k0_t3_loop.trips) (c0_i32_365 : BitVec 32) : Fin 3 → Nat :=
  let c1_i32_366 : BitVec 32 := 1#32
  let v622 : Index := Scalar.indexCast c1_i32_366
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v621 : BitVec 32 := Scalar.addi v375 c0_i32_365
  let v623 : Index := Scalar.indexCast v621
  let c80_367 : Index := 80#32
  ![1, v623.toNat, 80]
def k0_off44 (k0_t3 : Fin k0_t3_loop.trips) (c0_i32_377 : BitVec 32) : Fin 3 → Nat :=
  let c2_i32_378 : BitVec 32 := 2#32
  let v642 : Index := Scalar.indexCast c2_i32_378
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v641 : BitVec 32 := Scalar.addi v375 c0_i32_377
  let v643 : Index := Scalar.indexCast v641
  let c80_379 : Index := 80#32
  ![2, v643.toNat, 80]
def k0_off45 (k0_t3 : Fin k0_t3_loop.trips) (c0_i32_389 : BitVec 32) : Fin 3 → Nat :=
  let c3_i32_390 : BitVec 32 := 3#32
  let v662 : Index := Scalar.indexCast c3_i32_390
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v661 : BitVec 32 := Scalar.addi v375 c0_i32_389
  let v663 : Index := Scalar.indexCast v661
  let c80_391 : Index := 80#32
  ![3, v663.toNat, 80]
def k0_off46 (k0_t3 : Fin k0_t3_loop.trips) (c0_i32_466 : BitVec 32) : Fin 3 → Nat :=
  let c0_i32_467 : BitVec 32 := 0#32
  let v827 : Index := Scalar.indexCast c0_i32_467
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v826 : BitVec 32 := Scalar.addi v375 c0_i32_466
  let v828 : Index := Scalar.indexCast v826
  let c96 : Index := 96#32
  ![0, v828.toNat, 96]
def k0_off47 (k0_t3 : Fin k0_t3_loop.trips) (c0_i32_477 : BitVec 32) : Fin 3 → Nat :=
  let c1_i32_478 : BitVec 32 := 1#32
  let v847 : Index := Scalar.indexCast c1_i32_478
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v846 : BitVec 32 := Scalar.addi v375 c0_i32_477
  let v848 : Index := Scalar.indexCast v846
  let c96_479 : Index := 96#32
  ![1, v848.toNat, 96]
def k0_off48 (k0_t3 : Fin k0_t3_loop.trips) (c0_i32_489 : BitVec 32) : Fin 3 → Nat :=
  let c2_i32_490 : BitVec 32 := 2#32
  let v867 : Index := Scalar.indexCast c2_i32_490
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v866 : BitVec 32 := Scalar.addi v375 c0_i32_489
  let v868 : Index := Scalar.indexCast v866
  let c96_491 : Index := 96#32
  ![2, v868.toNat, 96]
def k0_off49 (k0_t3 : Fin k0_t3_loop.trips) (c0_i32_501 : BitVec 32) : Fin 3 → Nat :=
  let c3_i32_502 : BitVec 32 := 3#32
  let v887 : Index := Scalar.indexCast c3_i32_502
  let c0_i32_74 : BitVec 32 := 0#32
  let c1_i32_75 : BitVec 32 := 1#32
  let arg17 : BitVec 32 := Scf.iv c0_i32_74 c1_i32_75 k0_t3
  let c4_i32_242 : BitVec 32 := 4#32
  let v375 : BitVec 32 := Scalar.muli arg17 c4_i32_242
  let v886 : BitVec 32 := Scalar.addi v375 c0_i32_501
  let v888 : Index := Scalar.indexCast v886
  let c96_503 : Index := 96#32
  ![3, v888.toNat, 96]
def k0_cond1 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c0_i32_95 : BitVec 32 := 0#32
  let v144 : BitVec 1 := Scalar.cmpi .sgt arg16 c0_i32_95
  let v145 : BitVec 32 := Scalar.extui v144
  let c0_i32_96 : BitVec 32 := 0#32
  let v146 : BitVec 1 := Scalar.cmpi .ne v145 c0_i32_96
  v146

def k0_off50 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32 : BitVec 32 := 4#32
  let v71 : BitVec 32 := Scalar.muli arg16 c4_i32
  let c0_i32_50 : BitVec 32 := 0#32
  let v72 : BitVec 32 := Scalar.addi v71 c0_i32_50
  let c2_i32_94 : BitVec 32 := 2#32
  let v143 : BitVec 32 := Scalar.addi v72 c2_i32_94
  let c4_i32_242 : BitVec 32 := 4#32
  let v375 : BitVec 32 := Scalar.subi v143 c4_i32_242
  let c0_i32_244 : BitVec 32 := 0#32
  let v377 : BitVec 1 := Scalar.cmpi .sgt v375 c0_i32_244
  let v378 : BitVec 32 := Scalar.extui v377
  let c0_i32_245 : BitVec 32 := 0#32
  let v379 : BitVec 1 := Scalar.cmpi .slt v375 c0_i32_245
  let v380 : BitVec 32 := Scalar.extui v379
  let v381 : BitVec 32 := Scalar.subi v378 v380
  let c4_i32_243 : BitVec 32 := 4#32
  let c0_i32_246 : BitVec 32 := 0#32
  let v382 : BitVec 1 := Scalar.cmpi .sgt c4_i32_243 c0_i32_246
  let v383 : BitVec 32 := Scalar.extui v382
  let c0_i32_247 : BitVec 32 := 0#32
  let v384 : BitVec 1 := Scalar.cmpi .slt c4_i32_243 c0_i32_247
  let v385 : BitVec 32 := Scalar.extui v384
  let v386 : BitVec 32 := Scalar.subi v383 v385
  let v387 : BitVec 1 := Scalar.cmpi .ne v381 v386
  let v388 : BitVec 32 := Scalar.remsi v375 c4_i32_243
  let c0_i32_248 : BitVec 32 := 0#32
  let v389 : BitVec 1 := Scalar.cmpi .ne v388 c0_i32_248
  let v390 : BitVec 1 := Scalar.andi v387 v389
  let v376 : BitVec 32 := Scalar.divsi v375 c4_i32_243
  let c1_i32_249 : BitVec 32 := 1#32
  let v391 : BitVec 32 := Scalar.subi v376 c1_i32_249
  let v392 : BitVec 32 := Scalar.select v390 v391 v376
  let c4_i32_256 : BitVec 32 := 4#32
  let v403 : BitVec 32 := Scalar.muli v392 c4_i32_256
  let v404 : BitVec 32 := Scalar.addi v29 v403
  let c4_i32_250 : BitVec 32 := 4#32
  let c0_i32_251 : BitVec 32 := 0#32
  let v393 : BitVec 1 := Scalar.cmpi .eq c4_i32_250 c0_i32_251
  let c1_i32_252 : BitVec 32 := 1#32
  let v394 : BitVec 32 := Scalar.select v393 c1_i32_252 c4_i32_250
  let v395 : BitVec 32 := Scalar.remsi v375 v394
  let c0_i32_254 : BitVec 32 := 0#32
  let v397 : BitVec 1 := Scalar.cmpi .slt v395 c0_i32_254
  let c0_i32_255 : BitVec 32 := 0#32
  let v398 : BitVec 1 := Scalar.cmpi .slt v394 c0_i32_255
  let v399 : BitVec 1 := Scalar.xori v397 v398
  let c0_i32_253 : BitVec 32 := 0#32
  let v396 : BitVec 1 := Scalar.cmpi .ne v395 c0_i32_253
  let v400 : BitVec 1 := Scalar.andi v399 v396
  let v401 : BitVec 32 := Scalar.addi v395 v394
  let v402 : BitVec 32 := Scalar.select v400 v401 v395
  let c56_i32_257 : BitVec 32 := 56#32
  let v405 : BitVec 32 := Scalar.muli v402 c56_i32_257
  let c0_i32_258 : BitVec 32 := 0#32
  ![v18.toNat, v404.toNat, v405.toNat, 0]
def k0_off51 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32 : BitVec 32 := 4#32
  let v71 : BitVec 32 := Scalar.muli arg16 c4_i32
  let c0_i32_50 : BitVec 32 := 0#32
  let v72 : BitVec 32 := Scalar.addi v71 c0_i32_50
  let c2_i32_94 : BitVec 32 := 2#32
  let v143 : BitVec 32 := Scalar.addi v72 c2_i32_94
  let c0_i32_261 : BitVec 32 := 0#32
  let v411 : BitVec 1 := Scalar.cmpi .sgt v143 c0_i32_261
  let v412 : BitVec 32 := Scalar.extui v411
  let c0_i32_262 : BitVec 32 := 0#32
  let v413 : BitVec 1 := Scalar.cmpi .slt v143 c0_i32_262
  let v414 : BitVec 32 := Scalar.extui v413
  let v415 : BitVec 32 := Scalar.subi v412 v414
  let c4_i32_260 : BitVec 32 := 4#32
  let c0_i32_263 : BitVec 32 := 0#32
  let v416 : BitVec 1 := Scalar.cmpi .sgt c4_i32_260 c0_i32_263
  let v417 : BitVec 32 := Scalar.extui v416
  let c0_i32_264 : BitVec 32 := 0#32
  let v418 : BitVec 1 := Scalar.cmpi .slt c4_i32_260 c0_i32_264
  let v419 : BitVec 32 := Scalar.extui v418
  let v420 : BitVec 32 := Scalar.subi v417 v419
  let v421 : BitVec 1 := Scalar.cmpi .ne v415 v420
  let v422 : BitVec 32 := Scalar.remsi v143 c4_i32_260
  let c0_i32_265 : BitVec 32 := 0#32
  let v423 : BitVec 1 := Scalar.cmpi .ne v422 c0_i32_265
  let v424 : BitVec 1 := Scalar.andi v421 v423
  let v410 : BitVec 32 := Scalar.divsi v143 c4_i32_260
  let c1_i32_266 : BitVec 32 := 1#32
  let v425 : BitVec 32 := Scalar.subi v410 c1_i32_266
  let v426 : BitVec 32 := Scalar.select v424 v425 v410
  let c4_i32_273 : BitVec 32 := 4#32
  let v437 : BitVec 32 := Scalar.muli v426 c4_i32_273
  let v438 : BitVec 32 := Scalar.addi v29 v437
  let c4_i32_267 : BitVec 32 := 4#32
  let c0_i32_268 : BitVec 32 := 0#32
  let v427 : BitVec 1 := Scalar.cmpi .eq c4_i32_267 c0_i32_268
  let c1_i32_269 : BitVec 32 := 1#32
  let v428 : BitVec 32 := Scalar.select v427 c1_i32_269 c4_i32_267
  let v429 : BitVec 32 := Scalar.remsi v143 v428
  let c0_i32_271 : BitVec 32 := 0#32
  let v431 : BitVec 1 := Scalar.cmpi .slt v429 c0_i32_271
  let c0_i32_272 : BitVec 32 := 0#32
  let v432 : BitVec 1 := Scalar.cmpi .slt v428 c0_i32_272
  let v433 : BitVec 1 := Scalar.xori v431 v432
  let c0_i32_270 : BitVec 32 := 0#32
  let v430 : BitVec 1 := Scalar.cmpi .ne v429 c0_i32_270
  let v434 : BitVec 1 := Scalar.andi v433 v430
  let v435 : BitVec 32 := Scalar.addi v429 v428
  let v436 : BitVec 32 := Scalar.select v434 v435 v429
  let c56_i32_274 : BitVec 32 := 56#32
  let v439 : BitVec 32 := Scalar.muli v436 c56_i32_274
  let c0_i32_275 : BitVec 32 := 0#32
  ![v18.toNat, v438.toNat, v439.toNat, 0]
@[reducible] def k0_t4_loop : Scf.Loop 32 :=
  let c0_i32_117 : BitVec 32 := 0#32
  let c28_i32_118 : BitVec 32 := 28#32
  let v183 : BitVec 32 := Scalar.addi c0_i32_117 c28_i32_118
  let c1_i32_119 : BitVec 32 := 1#32
  ⟨c0_i32_117, v183, c1_i32_119⟩
def k0_off52 (k0_t4 : Fin k0_t4_loop.trips) : Fin 3 → Nat :=
  let c0_i32_244 : BitVec 32 := 0#32
  let v377 : Index := Scalar.indexCast c0_i32_244
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v378 : Index := Scalar.indexCast v375
  let c0 : Index := 0#32
  ![0, v378.toNat, 0]
def k0_off53 (k0_t4 : Fin k0_t4_loop.trips) : Fin 3 → Nat :=
  let c0_i32_245 : BitVec 32 := 0#32
  let v381 : Index := Scalar.indexCast c0_i32_245
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v382 : Index := Scalar.indexCast v376
  let c0_246 : Index := 0#32
  ![0, v382.toNat, 0]
def k0_off54 (k0_t4 : Fin k0_t4_loop.trips) : Fin 3 → Nat :=
  let c1_i32_247 : BitVec 32 := 1#32
  let v385 : Index := Scalar.indexCast c1_i32_247
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v386 : Index := Scalar.indexCast v375
  let c0_248 : Index := 0#32
  ![1, v386.toNat, 0]
def k0_off55 (k0_t4 : Fin k0_t4_loop.trips) : Fin 3 → Nat :=
  let c1_i32_249 : BitVec 32 := 1#32
  let v389 : Index := Scalar.indexCast c1_i32_249
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v390 : Index := Scalar.indexCast v376
  let c0_250 : Index := 0#32
  ![1, v390.toNat, 0]
def k0_off56 (k0_t4 : Fin k0_t4_loop.trips) : Fin 3 → Nat :=
  let c0_i32_263 : BitVec 32 := 0#32
  let v426 : Index := Scalar.indexCast c0_i32_263
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v427 : Index := Scalar.indexCast v375
  let c16 : Index := 16#32
  ![0, v427.toNat, 16]
def k0_off57 (k0_t4 : Fin k0_t4_loop.trips) : Fin 3 → Nat :=
  let c0_i32_264 : BitVec 32 := 0#32
  let v430 : Index := Scalar.indexCast c0_i32_264
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v431 : Index := Scalar.indexCast v376
  let c16_265 : Index := 16#32
  ![0, v431.toNat, 16]
def k0_off58 (k0_t4 : Fin k0_t4_loop.trips) : Fin 3 → Nat :=
  let c1_i32_266 : BitVec 32 := 1#32
  let v434 : Index := Scalar.indexCast c1_i32_266
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v435 : Index := Scalar.indexCast v375
  let c16_267 : Index := 16#32
  ![1, v435.toNat, 16]
def k0_off59 (k0_t4 : Fin k0_t4_loop.trips) : Fin 3 → Nat :=
  let c1_i32_268 : BitVec 32 := 1#32
  let v438 : Index := Scalar.indexCast c1_i32_268
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v439 : Index := Scalar.indexCast v376
  let c16_269 : Index := 16#32
  ![1, v439.toNat, 16]
def k0_off60 (k0_t4 : Fin k0_t4_loop.trips) : Fin 3 → Nat :=
  let c0_i32_283 : BitVec 32 := 0#32
  let v475 : Index := Scalar.indexCast c0_i32_283
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v476 : Index := Scalar.indexCast v375
  let c32 : Index := 32#32
  ![0, v476.toNat, 32]
def k0_off61 (k0_t4 : Fin k0_t4_loop.trips) : Fin 3 → Nat :=
  let c0_i32_284 : BitVec 32 := 0#32
  let v479 : Index := Scalar.indexCast c0_i32_284
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v480 : Index := Scalar.indexCast v376
  let c32_285 : Index := 32#32
  ![0, v480.toNat, 32]
def k0_off62 (k0_t4 : Fin k0_t4_loop.trips) : Fin 3 → Nat :=
  let c1_i32_286 : BitVec 32 := 1#32
  let v483 : Index := Scalar.indexCast c1_i32_286
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v484 : Index := Scalar.indexCast v375
  let c32_287 : Index := 32#32
  ![1, v484.toNat, 32]
def k0_off63 (k0_t4 : Fin k0_t4_loop.trips) : Fin 3 → Nat :=
  let c1_i32_288 : BitVec 32 := 1#32
  let v487 : Index := Scalar.indexCast c1_i32_288
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v488 : Index := Scalar.indexCast v376
  let c32_289 : Index := 32#32
  ![1, v488.toNat, 32]
def k0_off64 (k0_t4 : Fin k0_t4_loop.trips) : Fin 3 → Nat :=
  let c0_i32_303 : BitVec 32 := 0#32
  let v524 : Index := Scalar.indexCast c0_i32_303
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v525 : Index := Scalar.indexCast v375
  let c48 : Index := 48#32
  ![0, v525.toNat, 48]
def k0_off65 (k0_t4 : Fin k0_t4_loop.trips) : Fin 3 → Nat :=
  let c0_i32_304 : BitVec 32 := 0#32
  let v528 : Index := Scalar.indexCast c0_i32_304
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v529 : Index := Scalar.indexCast v376
  let c48_305 : Index := 48#32
  ![0, v529.toNat, 48]
def k0_off66 (k0_t4 : Fin k0_t4_loop.trips) : Fin 3 → Nat :=
  let c1_i32_306 : BitVec 32 := 1#32
  let v532 : Index := Scalar.indexCast c1_i32_306
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v533 : Index := Scalar.indexCast v375
  let c48_307 : Index := 48#32
  ![1, v533.toNat, 48]
def k0_off67 (k0_t4 : Fin k0_t4_loop.trips) : Fin 3 → Nat :=
  let c1_i32_308 : BitVec 32 := 1#32
  let v536 : Index := Scalar.indexCast c1_i32_308
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v537 : Index := Scalar.indexCast v376
  let c48_309 : Index := 48#32
  ![1, v537.toNat, 48]
def k0_off68 (k0_t4 : Fin k0_t4_loop.trips) : Fin 3 → Nat :=
  let c2_i32_323 : BitVec 32 := 2#32
  let v573 : Index := Scalar.indexCast c2_i32_323
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v574 : Index := Scalar.indexCast v375
  let c0_324 : Index := 0#32
  ![2, v574.toNat, 0]
def k0_off69 (k0_t4 : Fin k0_t4_loop.trips) : Fin 3 → Nat :=
  let c2_i32_325 : BitVec 32 := 2#32
  let v577 : Index := Scalar.indexCast c2_i32_325
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v578 : Index := Scalar.indexCast v376
  let c0_326 : Index := 0#32
  ![2, v578.toNat, 0]
def k0_off70 (k0_t4 : Fin k0_t4_loop.trips) : Fin 3 → Nat :=
  let c3_i32_327 : BitVec 32 := 3#32
  let v581 : Index := Scalar.indexCast c3_i32_327
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v582 : Index := Scalar.indexCast v375
  let c0_328 : Index := 0#32
  ![3, v582.toNat, 0]
def k0_off71 (k0_t4 : Fin k0_t4_loop.trips) : Fin 3 → Nat :=
  let c3_i32_329 : BitVec 32 := 3#32
  let v585 : Index := Scalar.indexCast c3_i32_329
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v586 : Index := Scalar.indexCast v376
  let c0_330 : Index := 0#32
  ![3, v586.toNat, 0]
def k0_off72 (k0_t4 : Fin k0_t4_loop.trips) : Fin 3 → Nat :=
  let c2_i32_344 : BitVec 32 := 2#32
  let v622 : Index := Scalar.indexCast c2_i32_344
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v623 : Index := Scalar.indexCast v375
  let c16_345 : Index := 16#32
  ![2, v623.toNat, 16]
def k0_off73 (k0_t4 : Fin k0_t4_loop.trips) : Fin 3 → Nat :=
  let c2_i32_346 : BitVec 32 := 2#32
  let v626 : Index := Scalar.indexCast c2_i32_346
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v627 : Index := Scalar.indexCast v376
  let c16_347 : Index := 16#32
  ![2, v627.toNat, 16]
def k0_off74 (k0_t4 : Fin k0_t4_loop.trips) : Fin 3 → Nat :=
  let c3_i32_348 : BitVec 32 := 3#32
  let v630 : Index := Scalar.indexCast c3_i32_348
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v631 : Index := Scalar.indexCast v375
  let c16_349 : Index := 16#32
  ![3, v631.toNat, 16]
def k0_off75 (k0_t4 : Fin k0_t4_loop.trips) : Fin 3 → Nat :=
  let c3_i32_350 : BitVec 32 := 3#32
  let v634 : Index := Scalar.indexCast c3_i32_350
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v635 : Index := Scalar.indexCast v376
  let c16_351 : Index := 16#32
  ![3, v635.toNat, 16]
def k0_off76 (k0_t4 : Fin k0_t4_loop.trips) : Fin 3 → Nat :=
  let c2_i32_365 : BitVec 32 := 2#32
  let v671 : Index := Scalar.indexCast c2_i32_365
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v672 : Index := Scalar.indexCast v375
  let c32_366 : Index := 32#32
  ![2, v672.toNat, 32]
def k0_off77 (k0_t4 : Fin k0_t4_loop.trips) : Fin 3 → Nat :=
  let c2_i32_367 : BitVec 32 := 2#32
  let v675 : Index := Scalar.indexCast c2_i32_367
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v676 : Index := Scalar.indexCast v376
  let c32_368 : Index := 32#32
  ![2, v676.toNat, 32]
def k0_off78 (k0_t4 : Fin k0_t4_loop.trips) : Fin 3 → Nat :=
  let c3_i32_369 : BitVec 32 := 3#32
  let v679 : Index := Scalar.indexCast c3_i32_369
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v680 : Index := Scalar.indexCast v375
  let c32_370 : Index := 32#32
  ![3, v680.toNat, 32]
def k0_off79 (k0_t4 : Fin k0_t4_loop.trips) : Fin 3 → Nat :=
  let c3_i32_371 : BitVec 32 := 3#32
  let v683 : Index := Scalar.indexCast c3_i32_371
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v684 : Index := Scalar.indexCast v376
  let c32_372 : Index := 32#32
  ![3, v684.toNat, 32]
def k0_off80 (k0_t4 : Fin k0_t4_loop.trips) : Fin 3 → Nat :=
  let c2_i32_386 : BitVec 32 := 2#32
  let v720 : Index := Scalar.indexCast c2_i32_386
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v721 : Index := Scalar.indexCast v375
  let c48_387 : Index := 48#32
  ![2, v721.toNat, 48]
def k0_off81 (k0_t4 : Fin k0_t4_loop.trips) : Fin 3 → Nat :=
  let c2_i32_388 : BitVec 32 := 2#32
  let v724 : Index := Scalar.indexCast c2_i32_388
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v725 : Index := Scalar.indexCast v376
  let c48_389 : Index := 48#32
  ![2, v725.toNat, 48]
def k0_off82 (k0_t4 : Fin k0_t4_loop.trips) : Fin 3 → Nat :=
  let c3_i32_390 : BitVec 32 := 3#32
  let v728 : Index := Scalar.indexCast c3_i32_390
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let v729 : Index := Scalar.indexCast v375
  let c48_391 : Index := 48#32
  ![3, v729.toNat, 48]
def k0_off83 (k0_t4 : Fin k0_t4_loop.trips) : Fin 3 → Nat :=
  let c3_i32_392 : BitVec 32 := 3#32
  let v732 : Index := Scalar.indexCast c3_i32_392
  let c0_i32_117 : BitVec 32 := 0#32
  let c1_i32_119 : BitVec 32 := 1#32
  let arg17 : BitVec 32 := Scf.iv c0_i32_117 c1_i32_119 k0_t4
  let c2_i32_242 : BitVec 32 := 2#32
  let v375 : BitVec 32 := Scalar.muli arg17 c2_i32_242
  let c1_i32_243 : BitVec 32 := 1#32
  let v376 : BitVec 32 := Scalar.addi v375 c1_i32_243
  let v733 : Index := Scalar.indexCast v376
  let c48_393 : Index := 48#32
  ![3, v733.toNat, 48]
@[reducible] def k0_t5_loop : Scf.Loop 32 :=
  let c0_i32_122 : BitVec 32 := 0#32
  let c14_i32_123 : BitVec 32 := 14#32
  let v184 : BitVec 32 := Scalar.addi c0_i32_122 c14_i32_123
  let c1_i32_124 : BitVec 32 := 1#32
  ⟨c0_i32_122, v184, c1_i32_124⟩
def k0_off84 (k0_t5 : Fin k0_t5_loop.trips) (c0_i32_243 : BitVec 32) : Fin 3 → Nat :=
  let c0_i32_244 : BitVec 32 := 0#32
  let v377 : Index := Scalar.indexCast c0_i32_244
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v376 : BitVec 32 := Scalar.addi v375 c0_i32_243
  let v378 : Index := Scalar.indexCast v376
  let c64 : Index := 64#32
  ![0, v378.toNat, 64]
def k0_off85 (k0_t5 : Fin k0_t5_loop.trips) (c0_i32_254 : BitVec 32) : Fin 3 → Nat :=
  let c1_i32_255 : BitVec 32 := 1#32
  let v397 : Index := Scalar.indexCast c1_i32_255
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v396 : BitVec 32 := Scalar.addi v375 c0_i32_254
  let v398 : Index := Scalar.indexCast v396
  let c64_256 : Index := 64#32
  ![1, v398.toNat, 64]
def k0_off86 (k0_t5 : Fin k0_t5_loop.trips) (c0_i32_266 : BitVec 32) : Fin 3 → Nat :=
  let c2_i32_267 : BitVec 32 := 2#32
  let v417 : Index := Scalar.indexCast c2_i32_267
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v416 : BitVec 32 := Scalar.addi v375 c0_i32_266
  let v418 : Index := Scalar.indexCast v416
  let c64_268 : Index := 64#32
  ![2, v418.toNat, 64]
def k0_off87 (k0_t5 : Fin k0_t5_loop.trips) (c0_i32_278 : BitVec 32) : Fin 3 → Nat :=
  let c3_i32_279 : BitVec 32 := 3#32
  let v437 : Index := Scalar.indexCast c3_i32_279
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v436 : BitVec 32 := Scalar.addi v375 c0_i32_278
  let v438 : Index := Scalar.indexCast v436
  let c64_280 : Index := 64#32
  ![3, v438.toNat, 64]
def k0_off88 (k0_t5 : Fin k0_t5_loop.trips) (c0_i32_354 : BitVec 32) : Fin 3 → Nat :=
  let c0_i32_355 : BitVec 32 := 0#32
  let v602 : Index := Scalar.indexCast c0_i32_355
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v601 : BitVec 32 := Scalar.addi v375 c0_i32_354
  let v603 : Index := Scalar.indexCast v601
  let c80 : Index := 80#32
  ![0, v603.toNat, 80]
def k0_off89 (k0_t5 : Fin k0_t5_loop.trips) (c0_i32_365 : BitVec 32) : Fin 3 → Nat :=
  let c1_i32_366 : BitVec 32 := 1#32
  let v622 : Index := Scalar.indexCast c1_i32_366
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v621 : BitVec 32 := Scalar.addi v375 c0_i32_365
  let v623 : Index := Scalar.indexCast v621
  let c80_367 : Index := 80#32
  ![1, v623.toNat, 80]
def k0_off90 (k0_t5 : Fin k0_t5_loop.trips) (c0_i32_377 : BitVec 32) : Fin 3 → Nat :=
  let c2_i32_378 : BitVec 32 := 2#32
  let v642 : Index := Scalar.indexCast c2_i32_378
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v641 : BitVec 32 := Scalar.addi v375 c0_i32_377
  let v643 : Index := Scalar.indexCast v641
  let c80_379 : Index := 80#32
  ![2, v643.toNat, 80]
def k0_off91 (k0_t5 : Fin k0_t5_loop.trips) (c0_i32_389 : BitVec 32) : Fin 3 → Nat :=
  let c3_i32_390 : BitVec 32 := 3#32
  let v662 : Index := Scalar.indexCast c3_i32_390
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v661 : BitVec 32 := Scalar.addi v375 c0_i32_389
  let v663 : Index := Scalar.indexCast v661
  let c80_391 : Index := 80#32
  ![3, v663.toNat, 80]
def k0_off92 (k0_t5 : Fin k0_t5_loop.trips) (c0_i32_466 : BitVec 32) : Fin 3 → Nat :=
  let c0_i32_467 : BitVec 32 := 0#32
  let v827 : Index := Scalar.indexCast c0_i32_467
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v826 : BitVec 32 := Scalar.addi v375 c0_i32_466
  let v828 : Index := Scalar.indexCast v826
  let c96 : Index := 96#32
  ![0, v828.toNat, 96]
def k0_off93 (k0_t5 : Fin k0_t5_loop.trips) (c0_i32_477 : BitVec 32) : Fin 3 → Nat :=
  let c1_i32_478 : BitVec 32 := 1#32
  let v847 : Index := Scalar.indexCast c1_i32_478
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v846 : BitVec 32 := Scalar.addi v375 c0_i32_477
  let v848 : Index := Scalar.indexCast v846
  let c96_479 : Index := 96#32
  ![1, v848.toNat, 96]
def k0_off94 (k0_t5 : Fin k0_t5_loop.trips) (c0_i32_489 : BitVec 32) : Fin 3 → Nat :=
  let c2_i32_490 : BitVec 32 := 2#32
  let v867 : Index := Scalar.indexCast c2_i32_490
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v866 : BitVec 32 := Scalar.addi v375 c0_i32_489
  let v868 : Index := Scalar.indexCast v866
  let c96_491 : Index := 96#32
  ![2, v868.toNat, 96]
def k0_off95 (k0_t5 : Fin k0_t5_loop.trips) (c0_i32_501 : BitVec 32) : Fin 3 → Nat :=
  let c3_i32_502 : BitVec 32 := 3#32
  let v887 : Index := Scalar.indexCast c3_i32_502
  let c0_i32_122 : BitVec 32 := 0#32
  let c1_i32_124 : BitVec 32 := 1#32
  let arg17 : BitVec 32 := Scf.iv c0_i32_122 c1_i32_124 k0_t5
  let c4_i32_242 : BitVec 32 := 4#32
  let v375 : BitVec 32 := Scalar.muli arg17 c4_i32_242
  let v886 : BitVec 32 := Scalar.addi v375 c0_i32_501
  let v888 : Index := Scalar.indexCast v886
  let c96_503 : Index := 96#32
  ![3, v888.toNat, 96]
def k0_cond2 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c0_i32_144 : BitVec 32 := 0#32
  let v220 : BitVec 1 := Scalar.cmpi .sgt arg16 c0_i32_144
  let v221 : BitVec 32 := Scalar.extui v220
  let c0_i32_145 : BitVec 32 := 0#32
  let v222 : BitVec 1 := Scalar.cmpi .ne v221 c0_i32_145
  v222

def k0_off96 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_97 : BitVec 32 := 4#32
  let v147 : BitVec 32 := Scalar.muli arg16 c4_i32_97
  let c1_i32_98 : BitVec 32 := 1#32
  let v148 : BitVec 32 := Scalar.addi v147 c1_i32_98
  let c2_i32_143 : BitVec 32 := 2#32
  let v219 : BitVec 32 := Scalar.addi v148 c2_i32_143
  let c4_i32_242 : BitVec 32 := 4#32
  let v375 : BitVec 32 := Scalar.subi v219 c4_i32_242
  let c0_i32_244 : BitVec 32 := 0#32
  let v377 : BitVec 1 := Scalar.cmpi .sgt v375 c0_i32_244
  let v378 : BitVec 32 := Scalar.extui v377
  let c0_i32_245 : BitVec 32 := 0#32
  let v379 : BitVec 1 := Scalar.cmpi .slt v375 c0_i32_245
  let v380 : BitVec 32 := Scalar.extui v379
  let v381 : BitVec 32 := Scalar.subi v378 v380
  let c4_i32_243 : BitVec 32 := 4#32
  let c0_i32_246 : BitVec 32 := 0#32
  let v382 : BitVec 1 := Scalar.cmpi .sgt c4_i32_243 c0_i32_246
  let v383 : BitVec 32 := Scalar.extui v382
  let c0_i32_247 : BitVec 32 := 0#32
  let v384 : BitVec 1 := Scalar.cmpi .slt c4_i32_243 c0_i32_247
  let v385 : BitVec 32 := Scalar.extui v384
  let v386 : BitVec 32 := Scalar.subi v383 v385
  let v387 : BitVec 1 := Scalar.cmpi .ne v381 v386
  let v388 : BitVec 32 := Scalar.remsi v375 c4_i32_243
  let c0_i32_248 : BitVec 32 := 0#32
  let v389 : BitVec 1 := Scalar.cmpi .ne v388 c0_i32_248
  let v390 : BitVec 1 := Scalar.andi v387 v389
  let v376 : BitVec 32 := Scalar.divsi v375 c4_i32_243
  let c1_i32_249 : BitVec 32 := 1#32
  let v391 : BitVec 32 := Scalar.subi v376 c1_i32_249
  let v392 : BitVec 32 := Scalar.select v390 v391 v376
  let c4_i32_256 : BitVec 32 := 4#32
  let v403 : BitVec 32 := Scalar.muli v392 c4_i32_256
  let v404 : BitVec 32 := Scalar.addi v29 v403
  let c4_i32_250 : BitVec 32 := 4#32
  let c0_i32_251 : BitVec 32 := 0#32
  let v393 : BitVec 1 := Scalar.cmpi .eq c4_i32_250 c0_i32_251
  let c1_i32_252 : BitVec 32 := 1#32
  let v394 : BitVec 32 := Scalar.select v393 c1_i32_252 c4_i32_250
  let v395 : BitVec 32 := Scalar.remsi v375 v394
  let c0_i32_254 : BitVec 32 := 0#32
  let v397 : BitVec 1 := Scalar.cmpi .slt v395 c0_i32_254
  let c0_i32_255 : BitVec 32 := 0#32
  let v398 : BitVec 1 := Scalar.cmpi .slt v394 c0_i32_255
  let v399 : BitVec 1 := Scalar.xori v397 v398
  let c0_i32_253 : BitVec 32 := 0#32
  let v396 : BitVec 1 := Scalar.cmpi .ne v395 c0_i32_253
  let v400 : BitVec 1 := Scalar.andi v399 v396
  let v401 : BitVec 32 := Scalar.addi v395 v394
  let v402 : BitVec 32 := Scalar.select v400 v401 v395
  let c56_i32_257 : BitVec 32 := 56#32
  let v405 : BitVec 32 := Scalar.muli v402 c56_i32_257
  let c0_i32_258 : BitVec 32 := 0#32
  ![v18.toNat, v404.toNat, v405.toNat, 0]
def k0_off97 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_97 : BitVec 32 := 4#32
  let v147 : BitVec 32 := Scalar.muli arg16 c4_i32_97
  let c1_i32_98 : BitVec 32 := 1#32
  let v148 : BitVec 32 := Scalar.addi v147 c1_i32_98
  let c2_i32_143 : BitVec 32 := 2#32
  let v219 : BitVec 32 := Scalar.addi v148 c2_i32_143
  let c0_i32_261 : BitVec 32 := 0#32
  let v411 : BitVec 1 := Scalar.cmpi .sgt v219 c0_i32_261
  let v412 : BitVec 32 := Scalar.extui v411
  let c0_i32_262 : BitVec 32 := 0#32
  let v413 : BitVec 1 := Scalar.cmpi .slt v219 c0_i32_262
  let v414 : BitVec 32 := Scalar.extui v413
  let v415 : BitVec 32 := Scalar.subi v412 v414
  let c4_i32_260 : BitVec 32 := 4#32
  let c0_i32_263 : BitVec 32 := 0#32
  let v416 : BitVec 1 := Scalar.cmpi .sgt c4_i32_260 c0_i32_263
  let v417 : BitVec 32 := Scalar.extui v416
  let c0_i32_264 : BitVec 32 := 0#32
  let v418 : BitVec 1 := Scalar.cmpi .slt c4_i32_260 c0_i32_264
  let v419 : BitVec 32 := Scalar.extui v418
  let v420 : BitVec 32 := Scalar.subi v417 v419
  let v421 : BitVec 1 := Scalar.cmpi .ne v415 v420
  let v422 : BitVec 32 := Scalar.remsi v219 c4_i32_260
  let c0_i32_265 : BitVec 32 := 0#32
  let v423 : BitVec 1 := Scalar.cmpi .ne v422 c0_i32_265
  let v424 : BitVec 1 := Scalar.andi v421 v423
  let v410 : BitVec 32 := Scalar.divsi v219 c4_i32_260
  let c1_i32_266 : BitVec 32 := 1#32
  let v425 : BitVec 32 := Scalar.subi v410 c1_i32_266
  let v426 : BitVec 32 := Scalar.select v424 v425 v410
  let c4_i32_273 : BitVec 32 := 4#32
  let v437 : BitVec 32 := Scalar.muli v426 c4_i32_273
  let v438 : BitVec 32 := Scalar.addi v29 v437
  let c4_i32_267 : BitVec 32 := 4#32
  let c0_i32_268 : BitVec 32 := 0#32
  let v427 : BitVec 1 := Scalar.cmpi .eq c4_i32_267 c0_i32_268
  let c1_i32_269 : BitVec 32 := 1#32
  let v428 : BitVec 32 := Scalar.select v427 c1_i32_269 c4_i32_267
  let v429 : BitVec 32 := Scalar.remsi v219 v428
  let c0_i32_271 : BitVec 32 := 0#32
  let v431 : BitVec 1 := Scalar.cmpi .slt v429 c0_i32_271
  let c0_i32_272 : BitVec 32 := 0#32
  let v432 : BitVec 1 := Scalar.cmpi .slt v428 c0_i32_272
  let v433 : BitVec 1 := Scalar.xori v431 v432
  let c0_i32_270 : BitVec 32 := 0#32
  let v430 : BitVec 1 := Scalar.cmpi .ne v429 c0_i32_270
  let v434 : BitVec 1 := Scalar.andi v433 v430
  let v435 : BitVec 32 := Scalar.addi v429 v428
  let v436 : BitVec 32 := Scalar.select v434 v435 v429
  let c56_i32_274 : BitVec 32 := 56#32
  let v439 : BitVec 32 := Scalar.muli v436 c56_i32_274
  let c0_i32_275 : BitVec 32 := 0#32
  ![v18.toNat, v438.toNat, v439.toNat, 0]
@[reducible] def k0_t6_loop : Scf.Loop 32 :=
  let c0_i32_166 : BitVec 32 := 0#32
  let c28_i32_167 : BitVec 32 := 28#32
  let v259 : BitVec 32 := Scalar.addi c0_i32_166 c28_i32_167
  let c1_i32_168 : BitVec 32 := 1#32
  ⟨c0_i32_166, v259, c1_i32_168⟩
def k0_off98 (k0_t6 : Fin k0_t6_loop.trips) : Fin 3 → Nat :=
  let c0_i32_244 : BitVec 32 := 0#32
  let v377 : Index := Scalar.indexCast c0_i32_244
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v378 : Index := Scalar.indexCast v375
  let c0 : Index := 0#32
  ![0, v378.toNat, 0]
def k0_off99 (k0_t6 : Fin k0_t6_loop.trips) : Fin 3 → Nat :=
  let c0_i32_245 : BitVec 32 := 0#32
  let v381 : Index := Scalar.indexCast c0_i32_245
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v382 : Index := Scalar.indexCast v376
  let c0_246 : Index := 0#32
  ![0, v382.toNat, 0]
def k0_off100 (k0_t6 : Fin k0_t6_loop.trips) : Fin 3 → Nat :=
  let c1_i32_247 : BitVec 32 := 1#32
  let v385 : Index := Scalar.indexCast c1_i32_247
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v386 : Index := Scalar.indexCast v375
  let c0_248 : Index := 0#32
  ![1, v386.toNat, 0]
def k0_off101 (k0_t6 : Fin k0_t6_loop.trips) : Fin 3 → Nat :=
  let c1_i32_249 : BitVec 32 := 1#32
  let v389 : Index := Scalar.indexCast c1_i32_249
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v390 : Index := Scalar.indexCast v376
  let c0_250 : Index := 0#32
  ![1, v390.toNat, 0]
def k0_off102 (k0_t6 : Fin k0_t6_loop.trips) : Fin 3 → Nat :=
  let c0_i32_263 : BitVec 32 := 0#32
  let v426 : Index := Scalar.indexCast c0_i32_263
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v427 : Index := Scalar.indexCast v375
  let c16 : Index := 16#32
  ![0, v427.toNat, 16]
def k0_off103 (k0_t6 : Fin k0_t6_loop.trips) : Fin 3 → Nat :=
  let c0_i32_264 : BitVec 32 := 0#32
  let v430 : Index := Scalar.indexCast c0_i32_264
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v431 : Index := Scalar.indexCast v376
  let c16_265 : Index := 16#32
  ![0, v431.toNat, 16]
def k0_off104 (k0_t6 : Fin k0_t6_loop.trips) : Fin 3 → Nat :=
  let c1_i32_266 : BitVec 32 := 1#32
  let v434 : Index := Scalar.indexCast c1_i32_266
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v435 : Index := Scalar.indexCast v375
  let c16_267 : Index := 16#32
  ![1, v435.toNat, 16]
def k0_off105 (k0_t6 : Fin k0_t6_loop.trips) : Fin 3 → Nat :=
  let c1_i32_268 : BitVec 32 := 1#32
  let v438 : Index := Scalar.indexCast c1_i32_268
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v439 : Index := Scalar.indexCast v376
  let c16_269 : Index := 16#32
  ![1, v439.toNat, 16]
def k0_off106 (k0_t6 : Fin k0_t6_loop.trips) : Fin 3 → Nat :=
  let c0_i32_283 : BitVec 32 := 0#32
  let v475 : Index := Scalar.indexCast c0_i32_283
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v476 : Index := Scalar.indexCast v375
  let c32 : Index := 32#32
  ![0, v476.toNat, 32]
def k0_off107 (k0_t6 : Fin k0_t6_loop.trips) : Fin 3 → Nat :=
  let c0_i32_284 : BitVec 32 := 0#32
  let v479 : Index := Scalar.indexCast c0_i32_284
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v480 : Index := Scalar.indexCast v376
  let c32_285 : Index := 32#32
  ![0, v480.toNat, 32]
def k0_off108 (k0_t6 : Fin k0_t6_loop.trips) : Fin 3 → Nat :=
  let c1_i32_286 : BitVec 32 := 1#32
  let v483 : Index := Scalar.indexCast c1_i32_286
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v484 : Index := Scalar.indexCast v375
  let c32_287 : Index := 32#32
  ![1, v484.toNat, 32]
def k0_off109 (k0_t6 : Fin k0_t6_loop.trips) : Fin 3 → Nat :=
  let c1_i32_288 : BitVec 32 := 1#32
  let v487 : Index := Scalar.indexCast c1_i32_288
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v488 : Index := Scalar.indexCast v376
  let c32_289 : Index := 32#32
  ![1, v488.toNat, 32]
def k0_off110 (k0_t6 : Fin k0_t6_loop.trips) : Fin 3 → Nat :=
  let c0_i32_303 : BitVec 32 := 0#32
  let v524 : Index := Scalar.indexCast c0_i32_303
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v525 : Index := Scalar.indexCast v375
  let c48 : Index := 48#32
  ![0, v525.toNat, 48]
def k0_off111 (k0_t6 : Fin k0_t6_loop.trips) : Fin 3 → Nat :=
  let c0_i32_304 : BitVec 32 := 0#32
  let v528 : Index := Scalar.indexCast c0_i32_304
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v529 : Index := Scalar.indexCast v376
  let c48_305 : Index := 48#32
  ![0, v529.toNat, 48]
def k0_off112 (k0_t6 : Fin k0_t6_loop.trips) : Fin 3 → Nat :=
  let c1_i32_306 : BitVec 32 := 1#32
  let v532 : Index := Scalar.indexCast c1_i32_306
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v533 : Index := Scalar.indexCast v375
  let c48_307 : Index := 48#32
  ![1, v533.toNat, 48]
def k0_off113 (k0_t6 : Fin k0_t6_loop.trips) : Fin 3 → Nat :=
  let c1_i32_308 : BitVec 32 := 1#32
  let v536 : Index := Scalar.indexCast c1_i32_308
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v537 : Index := Scalar.indexCast v376
  let c48_309 : Index := 48#32
  ![1, v537.toNat, 48]
def k0_off114 (k0_t6 : Fin k0_t6_loop.trips) : Fin 3 → Nat :=
  let c2_i32_323 : BitVec 32 := 2#32
  let v573 : Index := Scalar.indexCast c2_i32_323
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v574 : Index := Scalar.indexCast v375
  let c0_324 : Index := 0#32
  ![2, v574.toNat, 0]
def k0_off115 (k0_t6 : Fin k0_t6_loop.trips) : Fin 3 → Nat :=
  let c2_i32_325 : BitVec 32 := 2#32
  let v577 : Index := Scalar.indexCast c2_i32_325
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v578 : Index := Scalar.indexCast v376
  let c0_326 : Index := 0#32
  ![2, v578.toNat, 0]
def k0_off116 (k0_t6 : Fin k0_t6_loop.trips) : Fin 3 → Nat :=
  let c3_i32_327 : BitVec 32 := 3#32
  let v581 : Index := Scalar.indexCast c3_i32_327
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v582 : Index := Scalar.indexCast v375
  let c0_328 : Index := 0#32
  ![3, v582.toNat, 0]
def k0_off117 (k0_t6 : Fin k0_t6_loop.trips) : Fin 3 → Nat :=
  let c3_i32_329 : BitVec 32 := 3#32
  let v585 : Index := Scalar.indexCast c3_i32_329
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v586 : Index := Scalar.indexCast v376
  let c0_330 : Index := 0#32
  ![3, v586.toNat, 0]
def k0_off118 (k0_t6 : Fin k0_t6_loop.trips) : Fin 3 → Nat :=
  let c2_i32_344 : BitVec 32 := 2#32
  let v622 : Index := Scalar.indexCast c2_i32_344
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v623 : Index := Scalar.indexCast v375
  let c16_345 : Index := 16#32
  ![2, v623.toNat, 16]
def k0_off119 (k0_t6 : Fin k0_t6_loop.trips) : Fin 3 → Nat :=
  let c2_i32_346 : BitVec 32 := 2#32
  let v626 : Index := Scalar.indexCast c2_i32_346
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v627 : Index := Scalar.indexCast v376
  let c16_347 : Index := 16#32
  ![2, v627.toNat, 16]
def k0_off120 (k0_t6 : Fin k0_t6_loop.trips) : Fin 3 → Nat :=
  let c3_i32_348 : BitVec 32 := 3#32
  let v630 : Index := Scalar.indexCast c3_i32_348
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v631 : Index := Scalar.indexCast v375
  let c16_349 : Index := 16#32
  ![3, v631.toNat, 16]
def k0_off121 (k0_t6 : Fin k0_t6_loop.trips) : Fin 3 → Nat :=
  let c3_i32_350 : BitVec 32 := 3#32
  let v634 : Index := Scalar.indexCast c3_i32_350
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v635 : Index := Scalar.indexCast v376
  let c16_351 : Index := 16#32
  ![3, v635.toNat, 16]
def k0_off122 (k0_t6 : Fin k0_t6_loop.trips) : Fin 3 → Nat :=
  let c2_i32_365 : BitVec 32 := 2#32
  let v671 : Index := Scalar.indexCast c2_i32_365
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v672 : Index := Scalar.indexCast v375
  let c32_366 : Index := 32#32
  ![2, v672.toNat, 32]
def k0_off123 (k0_t6 : Fin k0_t6_loop.trips) : Fin 3 → Nat :=
  let c2_i32_367 : BitVec 32 := 2#32
  let v675 : Index := Scalar.indexCast c2_i32_367
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v676 : Index := Scalar.indexCast v376
  let c32_368 : Index := 32#32
  ![2, v676.toNat, 32]
def k0_off124 (k0_t6 : Fin k0_t6_loop.trips) : Fin 3 → Nat :=
  let c3_i32_369 : BitVec 32 := 3#32
  let v679 : Index := Scalar.indexCast c3_i32_369
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v680 : Index := Scalar.indexCast v375
  let c32_370 : Index := 32#32
  ![3, v680.toNat, 32]
def k0_off125 (k0_t6 : Fin k0_t6_loop.trips) : Fin 3 → Nat :=
  let c3_i32_371 : BitVec 32 := 3#32
  let v683 : Index := Scalar.indexCast c3_i32_371
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v684 : Index := Scalar.indexCast v376
  let c32_372 : Index := 32#32
  ![3, v684.toNat, 32]
def k0_off126 (k0_t6 : Fin k0_t6_loop.trips) : Fin 3 → Nat :=
  let c2_i32_386 : BitVec 32 := 2#32
  let v720 : Index := Scalar.indexCast c2_i32_386
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v721 : Index := Scalar.indexCast v375
  let c48_387 : Index := 48#32
  ![2, v721.toNat, 48]
def k0_off127 (k0_t6 : Fin k0_t6_loop.trips) : Fin 3 → Nat :=
  let c2_i32_388 : BitVec 32 := 2#32
  let v724 : Index := Scalar.indexCast c2_i32_388
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v725 : Index := Scalar.indexCast v376
  let c48_389 : Index := 48#32
  ![2, v725.toNat, 48]
def k0_off128 (k0_t6 : Fin k0_t6_loop.trips) : Fin 3 → Nat :=
  let c3_i32_390 : BitVec 32 := 3#32
  let v728 : Index := Scalar.indexCast c3_i32_390
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let v729 : Index := Scalar.indexCast v375
  let c48_391 : Index := 48#32
  ![3, v729.toNat, 48]
def k0_off129 (k0_t6 : Fin k0_t6_loop.trips) : Fin 3 → Nat :=
  let c3_i32_392 : BitVec 32 := 3#32
  let v732 : Index := Scalar.indexCast c3_i32_392
  let c0_i32_166 : BitVec 32 := 0#32
  let c1_i32_168 : BitVec 32 := 1#32
  let arg17 : BitVec 32 := Scf.iv c0_i32_166 c1_i32_168 k0_t6
  let c2_i32_242 : BitVec 32 := 2#32
  let v375 : BitVec 32 := Scalar.muli arg17 c2_i32_242
  let c1_i32_243 : BitVec 32 := 1#32
  let v376 : BitVec 32 := Scalar.addi v375 c1_i32_243
  let v733 : Index := Scalar.indexCast v376
  let c48_393 : Index := 48#32
  ![3, v733.toNat, 48]
@[reducible] def k0_t7_loop : Scf.Loop 32 :=
  let c0_i32_171 : BitVec 32 := 0#32
  let c14_i32_172 : BitVec 32 := 14#32
  let v260 : BitVec 32 := Scalar.addi c0_i32_171 c14_i32_172
  let c1_i32_173 : BitVec 32 := 1#32
  ⟨c0_i32_171, v260, c1_i32_173⟩
def k0_off130 (k0_t7 : Fin k0_t7_loop.trips) (c0_i32_243 : BitVec 32) : Fin 3 → Nat :=
  let c0_i32_244 : BitVec 32 := 0#32
  let v377 : Index := Scalar.indexCast c0_i32_244
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v376 : BitVec 32 := Scalar.addi v375 c0_i32_243
  let v378 : Index := Scalar.indexCast v376
  let c64 : Index := 64#32
  ![0, v378.toNat, 64]
def k0_off131 (k0_t7 : Fin k0_t7_loop.trips) (c0_i32_254 : BitVec 32) : Fin 3 → Nat :=
  let c1_i32_255 : BitVec 32 := 1#32
  let v397 : Index := Scalar.indexCast c1_i32_255
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v396 : BitVec 32 := Scalar.addi v375 c0_i32_254
  let v398 : Index := Scalar.indexCast v396
  let c64_256 : Index := 64#32
  ![1, v398.toNat, 64]
def k0_off132 (k0_t7 : Fin k0_t7_loop.trips) (c0_i32_266 : BitVec 32) : Fin 3 → Nat :=
  let c2_i32_267 : BitVec 32 := 2#32
  let v417 : Index := Scalar.indexCast c2_i32_267
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v416 : BitVec 32 := Scalar.addi v375 c0_i32_266
  let v418 : Index := Scalar.indexCast v416
  let c64_268 : Index := 64#32
  ![2, v418.toNat, 64]
def k0_off133 (k0_t7 : Fin k0_t7_loop.trips) (c0_i32_278 : BitVec 32) : Fin 3 → Nat :=
  let c3_i32_279 : BitVec 32 := 3#32
  let v437 : Index := Scalar.indexCast c3_i32_279
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v436 : BitVec 32 := Scalar.addi v375 c0_i32_278
  let v438 : Index := Scalar.indexCast v436
  let c64_280 : Index := 64#32
  ![3, v438.toNat, 64]
def k0_off134 (k0_t7 : Fin k0_t7_loop.trips) (c0_i32_354 : BitVec 32) : Fin 3 → Nat :=
  let c0_i32_355 : BitVec 32 := 0#32
  let v602 : Index := Scalar.indexCast c0_i32_355
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v601 : BitVec 32 := Scalar.addi v375 c0_i32_354
  let v603 : Index := Scalar.indexCast v601
  let c80 : Index := 80#32
  ![0, v603.toNat, 80]
def k0_off135 (k0_t7 : Fin k0_t7_loop.trips) (c0_i32_365 : BitVec 32) : Fin 3 → Nat :=
  let c1_i32_366 : BitVec 32 := 1#32
  let v622 : Index := Scalar.indexCast c1_i32_366
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v621 : BitVec 32 := Scalar.addi v375 c0_i32_365
  let v623 : Index := Scalar.indexCast v621
  let c80_367 : Index := 80#32
  ![1, v623.toNat, 80]
def k0_off136 (k0_t7 : Fin k0_t7_loop.trips) (c0_i32_377 : BitVec 32) : Fin 3 → Nat :=
  let c2_i32_378 : BitVec 32 := 2#32
  let v642 : Index := Scalar.indexCast c2_i32_378
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v641 : BitVec 32 := Scalar.addi v375 c0_i32_377
  let v643 : Index := Scalar.indexCast v641
  let c80_379 : Index := 80#32
  ![2, v643.toNat, 80]
def k0_off137 (k0_t7 : Fin k0_t7_loop.trips) (c0_i32_389 : BitVec 32) : Fin 3 → Nat :=
  let c3_i32_390 : BitVec 32 := 3#32
  let v662 : Index := Scalar.indexCast c3_i32_390
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v661 : BitVec 32 := Scalar.addi v375 c0_i32_389
  let v663 : Index := Scalar.indexCast v661
  let c80_391 : Index := 80#32
  ![3, v663.toNat, 80]
def k0_off138 (k0_t7 : Fin k0_t7_loop.trips) (c0_i32_466 : BitVec 32) : Fin 3 → Nat :=
  let c0_i32_467 : BitVec 32 := 0#32
  let v827 : Index := Scalar.indexCast c0_i32_467
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v826 : BitVec 32 := Scalar.addi v375 c0_i32_466
  let v828 : Index := Scalar.indexCast v826
  let c96 : Index := 96#32
  ![0, v828.toNat, 96]
def k0_off139 (k0_t7 : Fin k0_t7_loop.trips) (c0_i32_477 : BitVec 32) : Fin 3 → Nat :=
  let c1_i32_478 : BitVec 32 := 1#32
  let v847 : Index := Scalar.indexCast c1_i32_478
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v846 : BitVec 32 := Scalar.addi v375 c0_i32_477
  let v848 : Index := Scalar.indexCast v846
  let c96_479 : Index := 96#32
  ![1, v848.toNat, 96]
def k0_off140 (k0_t7 : Fin k0_t7_loop.trips) (c0_i32_489 : BitVec 32) : Fin 3 → Nat :=
  let c2_i32_490 : BitVec 32 := 2#32
  let v867 : Index := Scalar.indexCast c2_i32_490
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v866 : BitVec 32 := Scalar.addi v375 c0_i32_489
  let v868 : Index := Scalar.indexCast v866
  let c96_491 : Index := 96#32
  ![2, v868.toNat, 96]
def k0_off141 (k0_t7 : Fin k0_t7_loop.trips) (c0_i32_501 : BitVec 32) : Fin 3 → Nat :=
  let c3_i32_502 : BitVec 32 := 3#32
  let v887 : Index := Scalar.indexCast c3_i32_502
  let c0_i32_171 : BitVec 32 := 0#32
  let c1_i32_173 : BitVec 32 := 1#32
  let arg17 : BitVec 32 := Scf.iv c0_i32_171 c1_i32_173 k0_t7
  let c4_i32_242 : BitVec 32 := 4#32
  let v375 : BitVec 32 := Scalar.muli arg17 c4_i32_242
  let v886 : BitVec 32 := Scalar.addi v375 c0_i32_501
  let v888 : Index := Scalar.indexCast v886
  let c96_503 : Index := 96#32
  ![3, v888.toNat, 96]
def k0_cond3 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c6_i32 : BitVec 32 := 6#32
  let v296 : BitVec 1 := Scalar.cmpi .slt arg16 c6_i32
  let v297 : BitVec 32 := Scalar.extui v296
  let c0_i32_193 : BitVec 32 := 0#32
  let v298 : BitVec 1 := Scalar.cmpi .ne v297 c0_i32_193
  v298

def k0_off142 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_146 : BitVec 32 := 4#32
  let v223 : BitVec 32 := Scalar.muli arg16 c4_i32_146
  let c2_i32_147 : BitVec 32 := 2#32
  let v224 : BitVec 32 := Scalar.addi v223 c2_i32_147
  let c2_i32_192 : BitVec 32 := 2#32
  let v295 : BitVec 32 := Scalar.addi v224 c2_i32_192
  let c4_i32_242 : BitVec 32 := 4#32
  let v375 : BitVec 32 := Scalar.subi v295 c4_i32_242
  let c0_i32_244 : BitVec 32 := 0#32
  let v377 : BitVec 1 := Scalar.cmpi .sgt v375 c0_i32_244
  let v378 : BitVec 32 := Scalar.extui v377
  let c0_i32_245 : BitVec 32 := 0#32
  let v379 : BitVec 1 := Scalar.cmpi .slt v375 c0_i32_245
  let v380 : BitVec 32 := Scalar.extui v379
  let v381 : BitVec 32 := Scalar.subi v378 v380
  let c4_i32_243 : BitVec 32 := 4#32
  let c0_i32_246 : BitVec 32 := 0#32
  let v382 : BitVec 1 := Scalar.cmpi .sgt c4_i32_243 c0_i32_246
  let v383 : BitVec 32 := Scalar.extui v382
  let c0_i32_247 : BitVec 32 := 0#32
  let v384 : BitVec 1 := Scalar.cmpi .slt c4_i32_243 c0_i32_247
  let v385 : BitVec 32 := Scalar.extui v384
  let v386 : BitVec 32 := Scalar.subi v383 v385
  let v387 : BitVec 1 := Scalar.cmpi .ne v381 v386
  let v388 : BitVec 32 := Scalar.remsi v375 c4_i32_243
  let c0_i32_248 : BitVec 32 := 0#32
  let v389 : BitVec 1 := Scalar.cmpi .ne v388 c0_i32_248
  let v390 : BitVec 1 := Scalar.andi v387 v389
  let v376 : BitVec 32 := Scalar.divsi v375 c4_i32_243
  let c1_i32_249 : BitVec 32 := 1#32
  let v391 : BitVec 32 := Scalar.subi v376 c1_i32_249
  let v392 : BitVec 32 := Scalar.select v390 v391 v376
  let c4_i32_256 : BitVec 32 := 4#32
  let v403 : BitVec 32 := Scalar.muli v392 c4_i32_256
  let v404 : BitVec 32 := Scalar.addi v29 v403
  let c4_i32_250 : BitVec 32 := 4#32
  let c0_i32_251 : BitVec 32 := 0#32
  let v393 : BitVec 1 := Scalar.cmpi .eq c4_i32_250 c0_i32_251
  let c1_i32_252 : BitVec 32 := 1#32
  let v394 : BitVec 32 := Scalar.select v393 c1_i32_252 c4_i32_250
  let v395 : BitVec 32 := Scalar.remsi v375 v394
  let c0_i32_254 : BitVec 32 := 0#32
  let v397 : BitVec 1 := Scalar.cmpi .slt v395 c0_i32_254
  let c0_i32_255 : BitVec 32 := 0#32
  let v398 : BitVec 1 := Scalar.cmpi .slt v394 c0_i32_255
  let v399 : BitVec 1 := Scalar.xori v397 v398
  let c0_i32_253 : BitVec 32 := 0#32
  let v396 : BitVec 1 := Scalar.cmpi .ne v395 c0_i32_253
  let v400 : BitVec 1 := Scalar.andi v399 v396
  let v401 : BitVec 32 := Scalar.addi v395 v394
  let v402 : BitVec 32 := Scalar.select v400 v401 v395
  let c56_i32_257 : BitVec 32 := 56#32
  let v405 : BitVec 32 := Scalar.muli v402 c56_i32_257
  let c0_i32_258 : BitVec 32 := 0#32
  ![v18.toNat, v404.toNat, v405.toNat, 0]
def k0_off143 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_146 : BitVec 32 := 4#32
  let v223 : BitVec 32 := Scalar.muli arg16 c4_i32_146
  let c2_i32_147 : BitVec 32 := 2#32
  let v224 : BitVec 32 := Scalar.addi v223 c2_i32_147
  let c2_i32_192 : BitVec 32 := 2#32
  let v295 : BitVec 32 := Scalar.addi v224 c2_i32_192
  let c0_i32_261 : BitVec 32 := 0#32
  let v411 : BitVec 1 := Scalar.cmpi .sgt v295 c0_i32_261
  let v412 : BitVec 32 := Scalar.extui v411
  let c0_i32_262 : BitVec 32 := 0#32
  let v413 : BitVec 1 := Scalar.cmpi .slt v295 c0_i32_262
  let v414 : BitVec 32 := Scalar.extui v413
  let v415 : BitVec 32 := Scalar.subi v412 v414
  let c4_i32_260 : BitVec 32 := 4#32
  let c0_i32_263 : BitVec 32 := 0#32
  let v416 : BitVec 1 := Scalar.cmpi .sgt c4_i32_260 c0_i32_263
  let v417 : BitVec 32 := Scalar.extui v416
  let c0_i32_264 : BitVec 32 := 0#32
  let v418 : BitVec 1 := Scalar.cmpi .slt c4_i32_260 c0_i32_264
  let v419 : BitVec 32 := Scalar.extui v418
  let v420 : BitVec 32 := Scalar.subi v417 v419
  let v421 : BitVec 1 := Scalar.cmpi .ne v415 v420
  let v422 : BitVec 32 := Scalar.remsi v295 c4_i32_260
  let c0_i32_265 : BitVec 32 := 0#32
  let v423 : BitVec 1 := Scalar.cmpi .ne v422 c0_i32_265
  let v424 : BitVec 1 := Scalar.andi v421 v423
  let v410 : BitVec 32 := Scalar.divsi v295 c4_i32_260
  let c1_i32_266 : BitVec 32 := 1#32
  let v425 : BitVec 32 := Scalar.subi v410 c1_i32_266
  let v426 : BitVec 32 := Scalar.select v424 v425 v410
  let c4_i32_273 : BitVec 32 := 4#32
  let v437 : BitVec 32 := Scalar.muli v426 c4_i32_273
  let v438 : BitVec 32 := Scalar.addi v29 v437
  let c4_i32_267 : BitVec 32 := 4#32
  let c0_i32_268 : BitVec 32 := 0#32
  let v427 : BitVec 1 := Scalar.cmpi .eq c4_i32_267 c0_i32_268
  let c1_i32_269 : BitVec 32 := 1#32
  let v428 : BitVec 32 := Scalar.select v427 c1_i32_269 c4_i32_267
  let v429 : BitVec 32 := Scalar.remsi v295 v428
  let c0_i32_271 : BitVec 32 := 0#32
  let v431 : BitVec 1 := Scalar.cmpi .slt v429 c0_i32_271
  let c0_i32_272 : BitVec 32 := 0#32
  let v432 : BitVec 1 := Scalar.cmpi .slt v428 c0_i32_272
  let v433 : BitVec 1 := Scalar.xori v431 v432
  let c0_i32_270 : BitVec 32 := 0#32
  let v430 : BitVec 1 := Scalar.cmpi .ne v429 c0_i32_270
  let v434 : BitVec 1 := Scalar.andi v433 v430
  let v435 : BitVec 32 := Scalar.addi v429 v428
  let v436 : BitVec 32 := Scalar.select v434 v435 v429
  let c56_i32_274 : BitVec 32 := 56#32
  let v439 : BitVec 32 := Scalar.muli v436 c56_i32_274
  let c0_i32_275 : BitVec 32 := 0#32
  ![v18.toNat, v438.toNat, v439.toNat, 0]
@[reducible] def k0_t8_loop : Scf.Loop 32 :=
  let c0_i32_213 : BitVec 32 := 0#32
  let c28_i32_214 : BitVec 32 := 28#32
  let v335 : BitVec 32 := Scalar.addi c0_i32_213 c28_i32_214
  let c1_i32_215 : BitVec 32 := 1#32
  ⟨c0_i32_213, v335, c1_i32_215⟩
def k0_off144 (k0_t8 : Fin k0_t8_loop.trips) : Fin 3 → Nat :=
  let c0_i32_244 : BitVec 32 := 0#32
  let v377 : Index := Scalar.indexCast c0_i32_244
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v378 : Index := Scalar.indexCast v375
  let c0 : Index := 0#32
  ![0, v378.toNat, 0]
def k0_off145 (k0_t8 : Fin k0_t8_loop.trips) : Fin 3 → Nat :=
  let c0_i32_245 : BitVec 32 := 0#32
  let v381 : Index := Scalar.indexCast c0_i32_245
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v382 : Index := Scalar.indexCast v376
  let c0_246 : Index := 0#32
  ![0, v382.toNat, 0]
def k0_off146 (k0_t8 : Fin k0_t8_loop.trips) : Fin 3 → Nat :=
  let c1_i32_247 : BitVec 32 := 1#32
  let v385 : Index := Scalar.indexCast c1_i32_247
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v386 : Index := Scalar.indexCast v375
  let c0_248 : Index := 0#32
  ![1, v386.toNat, 0]
def k0_off147 (k0_t8 : Fin k0_t8_loop.trips) : Fin 3 → Nat :=
  let c1_i32_249 : BitVec 32 := 1#32
  let v389 : Index := Scalar.indexCast c1_i32_249
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v390 : Index := Scalar.indexCast v376
  let c0_250 : Index := 0#32
  ![1, v390.toNat, 0]
def k0_off148 (k0_t8 : Fin k0_t8_loop.trips) : Fin 3 → Nat :=
  let c0_i32_263 : BitVec 32 := 0#32
  let v426 : Index := Scalar.indexCast c0_i32_263
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v427 : Index := Scalar.indexCast v375
  let c16 : Index := 16#32
  ![0, v427.toNat, 16]
def k0_off149 (k0_t8 : Fin k0_t8_loop.trips) : Fin 3 → Nat :=
  let c0_i32_264 : BitVec 32 := 0#32
  let v430 : Index := Scalar.indexCast c0_i32_264
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v431 : Index := Scalar.indexCast v376
  let c16_265 : Index := 16#32
  ![0, v431.toNat, 16]
def k0_off150 (k0_t8 : Fin k0_t8_loop.trips) : Fin 3 → Nat :=
  let c1_i32_266 : BitVec 32 := 1#32
  let v434 : Index := Scalar.indexCast c1_i32_266
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v435 : Index := Scalar.indexCast v375
  let c16_267 : Index := 16#32
  ![1, v435.toNat, 16]
def k0_off151 (k0_t8 : Fin k0_t8_loop.trips) : Fin 3 → Nat :=
  let c1_i32_268 : BitVec 32 := 1#32
  let v438 : Index := Scalar.indexCast c1_i32_268
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v439 : Index := Scalar.indexCast v376
  let c16_269 : Index := 16#32
  ![1, v439.toNat, 16]
def k0_off152 (k0_t8 : Fin k0_t8_loop.trips) : Fin 3 → Nat :=
  let c0_i32_283 : BitVec 32 := 0#32
  let v475 : Index := Scalar.indexCast c0_i32_283
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v476 : Index := Scalar.indexCast v375
  let c32 : Index := 32#32
  ![0, v476.toNat, 32]
def k0_off153 (k0_t8 : Fin k0_t8_loop.trips) : Fin 3 → Nat :=
  let c0_i32_284 : BitVec 32 := 0#32
  let v479 : Index := Scalar.indexCast c0_i32_284
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v480 : Index := Scalar.indexCast v376
  let c32_285 : Index := 32#32
  ![0, v480.toNat, 32]
def k0_off154 (k0_t8 : Fin k0_t8_loop.trips) : Fin 3 → Nat :=
  let c1_i32_286 : BitVec 32 := 1#32
  let v483 : Index := Scalar.indexCast c1_i32_286
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v484 : Index := Scalar.indexCast v375
  let c32_287 : Index := 32#32
  ![1, v484.toNat, 32]
def k0_off155 (k0_t8 : Fin k0_t8_loop.trips) : Fin 3 → Nat :=
  let c1_i32_288 : BitVec 32 := 1#32
  let v487 : Index := Scalar.indexCast c1_i32_288
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v488 : Index := Scalar.indexCast v376
  let c32_289 : Index := 32#32
  ![1, v488.toNat, 32]
def k0_off156 (k0_t8 : Fin k0_t8_loop.trips) : Fin 3 → Nat :=
  let c0_i32_303 : BitVec 32 := 0#32
  let v524 : Index := Scalar.indexCast c0_i32_303
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v525 : Index := Scalar.indexCast v375
  let c48 : Index := 48#32
  ![0, v525.toNat, 48]
def k0_off157 (k0_t8 : Fin k0_t8_loop.trips) : Fin 3 → Nat :=
  let c0_i32_304 : BitVec 32 := 0#32
  let v528 : Index := Scalar.indexCast c0_i32_304
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v529 : Index := Scalar.indexCast v376
  let c48_305 : Index := 48#32
  ![0, v529.toNat, 48]
def k0_off158 (k0_t8 : Fin k0_t8_loop.trips) : Fin 3 → Nat :=
  let c1_i32_306 : BitVec 32 := 1#32
  let v532 : Index := Scalar.indexCast c1_i32_306
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v533 : Index := Scalar.indexCast v375
  let c48_307 : Index := 48#32
  ![1, v533.toNat, 48]
def k0_off159 (k0_t8 : Fin k0_t8_loop.trips) : Fin 3 → Nat :=
  let c1_i32_308 : BitVec 32 := 1#32
  let v536 : Index := Scalar.indexCast c1_i32_308
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v537 : Index := Scalar.indexCast v376
  let c48_309 : Index := 48#32
  ![1, v537.toNat, 48]
def k0_off160 (k0_t8 : Fin k0_t8_loop.trips) : Fin 3 → Nat :=
  let c2_i32_323 : BitVec 32 := 2#32
  let v573 : Index := Scalar.indexCast c2_i32_323
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v574 : Index := Scalar.indexCast v375
  let c0_324 : Index := 0#32
  ![2, v574.toNat, 0]
def k0_off161 (k0_t8 : Fin k0_t8_loop.trips) : Fin 3 → Nat :=
  let c2_i32_325 : BitVec 32 := 2#32
  let v577 : Index := Scalar.indexCast c2_i32_325
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v578 : Index := Scalar.indexCast v376
  let c0_326 : Index := 0#32
  ![2, v578.toNat, 0]
def k0_off162 (k0_t8 : Fin k0_t8_loop.trips) : Fin 3 → Nat :=
  let c3_i32_327 : BitVec 32 := 3#32
  let v581 : Index := Scalar.indexCast c3_i32_327
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v582 : Index := Scalar.indexCast v375
  let c0_328 : Index := 0#32
  ![3, v582.toNat, 0]
def k0_off163 (k0_t8 : Fin k0_t8_loop.trips) : Fin 3 → Nat :=
  let c3_i32_329 : BitVec 32 := 3#32
  let v585 : Index := Scalar.indexCast c3_i32_329
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v586 : Index := Scalar.indexCast v376
  let c0_330 : Index := 0#32
  ![3, v586.toNat, 0]
def k0_off164 (k0_t8 : Fin k0_t8_loop.trips) : Fin 3 → Nat :=
  let c2_i32_344 : BitVec 32 := 2#32
  let v622 : Index := Scalar.indexCast c2_i32_344
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v623 : Index := Scalar.indexCast v375
  let c16_345 : Index := 16#32
  ![2, v623.toNat, 16]
def k0_off165 (k0_t8 : Fin k0_t8_loop.trips) : Fin 3 → Nat :=
  let c2_i32_346 : BitVec 32 := 2#32
  let v626 : Index := Scalar.indexCast c2_i32_346
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v627 : Index := Scalar.indexCast v376
  let c16_347 : Index := 16#32
  ![2, v627.toNat, 16]
def k0_off166 (k0_t8 : Fin k0_t8_loop.trips) : Fin 3 → Nat :=
  let c3_i32_348 : BitVec 32 := 3#32
  let v630 : Index := Scalar.indexCast c3_i32_348
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v631 : Index := Scalar.indexCast v375
  let c16_349 : Index := 16#32
  ![3, v631.toNat, 16]
def k0_off167 (k0_t8 : Fin k0_t8_loop.trips) : Fin 3 → Nat :=
  let c3_i32_350 : BitVec 32 := 3#32
  let v634 : Index := Scalar.indexCast c3_i32_350
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v635 : Index := Scalar.indexCast v376
  let c16_351 : Index := 16#32
  ![3, v635.toNat, 16]
def k0_off168 (k0_t8 : Fin k0_t8_loop.trips) : Fin 3 → Nat :=
  let c2_i32_365 : BitVec 32 := 2#32
  let v671 : Index := Scalar.indexCast c2_i32_365
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v672 : Index := Scalar.indexCast v375
  let c32_366 : Index := 32#32
  ![2, v672.toNat, 32]
def k0_off169 (k0_t8 : Fin k0_t8_loop.trips) : Fin 3 → Nat :=
  let c2_i32_367 : BitVec 32 := 2#32
  let v675 : Index := Scalar.indexCast c2_i32_367
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v676 : Index := Scalar.indexCast v376
  let c32_368 : Index := 32#32
  ![2, v676.toNat, 32]
def k0_off170 (k0_t8 : Fin k0_t8_loop.trips) : Fin 3 → Nat :=
  let c3_i32_369 : BitVec 32 := 3#32
  let v679 : Index := Scalar.indexCast c3_i32_369
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v680 : Index := Scalar.indexCast v375
  let c32_370 : Index := 32#32
  ![3, v680.toNat, 32]
def k0_off171 (k0_t8 : Fin k0_t8_loop.trips) : Fin 3 → Nat :=
  let c3_i32_371 : BitVec 32 := 3#32
  let v683 : Index := Scalar.indexCast c3_i32_371
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v684 : Index := Scalar.indexCast v376
  let c32_372 : Index := 32#32
  ![3, v684.toNat, 32]
def k0_off172 (k0_t8 : Fin k0_t8_loop.trips) : Fin 3 → Nat :=
  let c2_i32_386 : BitVec 32 := 2#32
  let v720 : Index := Scalar.indexCast c2_i32_386
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v721 : Index := Scalar.indexCast v375
  let c48_387 : Index := 48#32
  ![2, v721.toNat, 48]
def k0_off173 (k0_t8 : Fin k0_t8_loop.trips) : Fin 3 → Nat :=
  let c2_i32_388 : BitVec 32 := 2#32
  let v724 : Index := Scalar.indexCast c2_i32_388
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v725 : Index := Scalar.indexCast v376
  let c48_389 : Index := 48#32
  ![2, v725.toNat, 48]
def k0_off174 (k0_t8 : Fin k0_t8_loop.trips) : Fin 3 → Nat :=
  let c3_i32_390 : BitVec 32 := 3#32
  let v728 : Index := Scalar.indexCast c3_i32_390
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let v729 : Index := Scalar.indexCast v375
  let c48_391 : Index := 48#32
  ![3, v729.toNat, 48]
def k0_off175 (k0_t8 : Fin k0_t8_loop.trips) : Fin 3 → Nat :=
  let c3_i32_392 : BitVec 32 := 3#32
  let v732 : Index := Scalar.indexCast c3_i32_392
  let c0_i32_213 : BitVec 32 := 0#32
  let c1_i32_215 : BitVec 32 := 1#32
  let arg17 : BitVec 32 := Scf.iv c0_i32_213 c1_i32_215 k0_t8
  let c2_i32_242 : BitVec 32 := 2#32
  let v375 : BitVec 32 := Scalar.muli arg17 c2_i32_242
  let c1_i32_243 : BitVec 32 := 1#32
  let v376 : BitVec 32 := Scalar.addi v375 c1_i32_243
  let v733 : Index := Scalar.indexCast v376
  let c48_393 : Index := 48#32
  ![3, v733.toNat, 48]
@[reducible] def k0_t9_loop : Scf.Loop 32 :=
  let c0_i32_218 : BitVec 32 := 0#32
  let c14_i32_219 : BitVec 32 := 14#32
  let v336 : BitVec 32 := Scalar.addi c0_i32_218 c14_i32_219
  let c1_i32_220 : BitVec 32 := 1#32
  ⟨c0_i32_218, v336, c1_i32_220⟩
def k0_off176 (k0_t9 : Fin k0_t9_loop.trips) (c0_i32_243 : BitVec 32) : Fin 3 → Nat :=
  let c0_i32_244 : BitVec 32 := 0#32
  let v377 : Index := Scalar.indexCast c0_i32_244
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v376 : BitVec 32 := Scalar.addi v375 c0_i32_243
  let v378 : Index := Scalar.indexCast v376
  let c64 : Index := 64#32
  ![0, v378.toNat, 64]
def k0_off177 (k0_t9 : Fin k0_t9_loop.trips) (c0_i32_254 : BitVec 32) : Fin 3 → Nat :=
  let c1_i32_255 : BitVec 32 := 1#32
  let v397 : Index := Scalar.indexCast c1_i32_255
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v396 : BitVec 32 := Scalar.addi v375 c0_i32_254
  let v398 : Index := Scalar.indexCast v396
  let c64_256 : Index := 64#32
  ![1, v398.toNat, 64]
def k0_off178 (k0_t9 : Fin k0_t9_loop.trips) (c0_i32_266 : BitVec 32) : Fin 3 → Nat :=
  let c2_i32_267 : BitVec 32 := 2#32
  let v417 : Index := Scalar.indexCast c2_i32_267
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v416 : BitVec 32 := Scalar.addi v375 c0_i32_266
  let v418 : Index := Scalar.indexCast v416
  let c64_268 : Index := 64#32
  ![2, v418.toNat, 64]
def k0_off179 (k0_t9 : Fin k0_t9_loop.trips) (c0_i32_278 : BitVec 32) : Fin 3 → Nat :=
  let c3_i32_279 : BitVec 32 := 3#32
  let v437 : Index := Scalar.indexCast c3_i32_279
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v436 : BitVec 32 := Scalar.addi v375 c0_i32_278
  let v438 : Index := Scalar.indexCast v436
  let c64_280 : Index := 64#32
  ![3, v438.toNat, 64]
def k0_off180 (k0_t9 : Fin k0_t9_loop.trips) (c0_i32_354 : BitVec 32) : Fin 3 → Nat :=
  let c0_i32_355 : BitVec 32 := 0#32
  let v602 : Index := Scalar.indexCast c0_i32_355
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v601 : BitVec 32 := Scalar.addi v375 c0_i32_354
  let v603 : Index := Scalar.indexCast v601
  let c80 : Index := 80#32
  ![0, v603.toNat, 80]
def k0_off181 (k0_t9 : Fin k0_t9_loop.trips) (c0_i32_365 : BitVec 32) : Fin 3 → Nat :=
  let c1_i32_366 : BitVec 32 := 1#32
  let v622 : Index := Scalar.indexCast c1_i32_366
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v621 : BitVec 32 := Scalar.addi v375 c0_i32_365
  let v623 : Index := Scalar.indexCast v621
  let c80_367 : Index := 80#32
  ![1, v623.toNat, 80]
def k0_off182 (k0_t9 : Fin k0_t9_loop.trips) (c0_i32_377 : BitVec 32) : Fin 3 → Nat :=
  let c2_i32_378 : BitVec 32 := 2#32
  let v642 : Index := Scalar.indexCast c2_i32_378
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v641 : BitVec 32 := Scalar.addi v375 c0_i32_377
  let v643 : Index := Scalar.indexCast v641
  let c80_379 : Index := 80#32
  ![2, v643.toNat, 80]
def k0_off183 (k0_t9 : Fin k0_t9_loop.trips) (c0_i32_389 : BitVec 32) : Fin 3 → Nat :=
  let c3_i32_390 : BitVec 32 := 3#32
  let v662 : Index := Scalar.indexCast c3_i32_390
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v661 : BitVec 32 := Scalar.addi v375 c0_i32_389
  let v663 : Index := Scalar.indexCast v661
  let c80_391 : Index := 80#32
  ![3, v663.toNat, 80]
def k0_off184 (k0_t9 : Fin k0_t9_loop.trips) (c0_i32_466 : BitVec 32) : Fin 3 → Nat :=
  let c0_i32_467 : BitVec 32 := 0#32
  let v827 : Index := Scalar.indexCast c0_i32_467
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v826 : BitVec 32 := Scalar.addi v375 c0_i32_466
  let v828 : Index := Scalar.indexCast v826
  let c96 : Index := 96#32
  ![0, v828.toNat, 96]
def k0_off185 (k0_t9 : Fin k0_t9_loop.trips) (c0_i32_477 : BitVec 32) : Fin 3 → Nat :=
  let c1_i32_478 : BitVec 32 := 1#32
  let v847 : Index := Scalar.indexCast c1_i32_478
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v846 : BitVec 32 := Scalar.addi v375 c0_i32_477
  let v848 : Index := Scalar.indexCast v846
  let c96_479 : Index := 96#32
  ![1, v848.toNat, 96]
def k0_off186 (k0_t9 : Fin k0_t9_loop.trips) (c0_i32_489 : BitVec 32) : Fin 3 → Nat :=
  let c2_i32_490 : BitVec 32 := 2#32
  let v867 : Index := Scalar.indexCast c2_i32_490
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v866 : BitVec 32 := Scalar.addi v375 c0_i32_489
  let v868 : Index := Scalar.indexCast v866
  let c96_491 : Index := 96#32
  ![2, v868.toNat, 96]
def k0_off187 (k0_t9 : Fin k0_t9_loop.trips) (c0_i32_501 : BitVec 32) : Fin 3 → Nat :=
  let c3_i32_502 : BitVec 32 := 3#32
  let v887 : Index := Scalar.indexCast c3_i32_502
  let c0_i32_218 : BitVec 32 := 0#32
  let c1_i32_220 : BitVec 32 := 1#32
  let arg17 : BitVec 32 := Scf.iv c0_i32_218 c1_i32_220 k0_t9
  let c4_i32_242 : BitVec 32 := 4#32
  let v375 : BitVec 32 := Scalar.muli arg17 c4_i32_242
  let v886 : BitVec 32 := Scalar.addi v375 c0_i32_501
  let v888 : Index := Scalar.indexCast v886
  let c96_503 : Index := 96#32
  ![3, v888.toNat, 96]
def k0_cond4 (k0_t1 : Fin k0_t1_loop.trips) : BitVec 1 :=
  let c0_i32_28 : BitVec 32 := 0#32
  let c1_i32_29 : BitVec 32 := 1#32
  let arg16 : BitVec 32 := Scf.iv c0_i32_28 c1_i32_29 k0_t1
  let c6_i32_240 : BitVec 32 := 6#32
  let v372 : BitVec 1 := Scalar.cmpi .slt arg16 c6_i32_240
  let v373 : BitVec 32 := Scalar.extui v372
  let c0_i32_241 : BitVec 32 := 0#32
  let v374 : BitVec 1 := Scalar.cmpi .ne v373 c0_i32_241
  v374

def k0_off188 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_194 : BitVec 32 := 4#32
  let v299 : BitVec 32 := Scalar.muli arg16 c4_i32_194
  let c3_i32 : BitVec 32 := 3#32
  let v300 : BitVec 32 := Scalar.addi v299 c3_i32
  let c2_i32_239 : BitVec 32 := 2#32
  let v371 : BitVec 32 := Scalar.addi v300 c2_i32_239
  let c4_i32_242 : BitVec 32 := 4#32
  let v375 : BitVec 32 := Scalar.subi v371 c4_i32_242
  let c0_i32_244 : BitVec 32 := 0#32
  let v377 : BitVec 1 := Scalar.cmpi .sgt v375 c0_i32_244
  let v378 : BitVec 32 := Scalar.extui v377
  let c0_i32_245 : BitVec 32 := 0#32
  let v379 : BitVec 1 := Scalar.cmpi .slt v375 c0_i32_245
  let v380 : BitVec 32 := Scalar.extui v379
  let v381 : BitVec 32 := Scalar.subi v378 v380
  let c4_i32_243 : BitVec 32 := 4#32
  let c0_i32_246 : BitVec 32 := 0#32
  let v382 : BitVec 1 := Scalar.cmpi .sgt c4_i32_243 c0_i32_246
  let v383 : BitVec 32 := Scalar.extui v382
  let c0_i32_247 : BitVec 32 := 0#32
  let v384 : BitVec 1 := Scalar.cmpi .slt c4_i32_243 c0_i32_247
  let v385 : BitVec 32 := Scalar.extui v384
  let v386 : BitVec 32 := Scalar.subi v383 v385
  let v387 : BitVec 1 := Scalar.cmpi .ne v381 v386
  let v388 : BitVec 32 := Scalar.remsi v375 c4_i32_243
  let c0_i32_248 : BitVec 32 := 0#32
  let v389 : BitVec 1 := Scalar.cmpi .ne v388 c0_i32_248
  let v390 : BitVec 1 := Scalar.andi v387 v389
  let v376 : BitVec 32 := Scalar.divsi v375 c4_i32_243
  let c1_i32_249 : BitVec 32 := 1#32
  let v391 : BitVec 32 := Scalar.subi v376 c1_i32_249
  let v392 : BitVec 32 := Scalar.select v390 v391 v376
  let c4_i32_256 : BitVec 32 := 4#32
  let v403 : BitVec 32 := Scalar.muli v392 c4_i32_256
  let v404 : BitVec 32 := Scalar.addi v29 v403
  let c4_i32_250 : BitVec 32 := 4#32
  let c0_i32_251 : BitVec 32 := 0#32
  let v393 : BitVec 1 := Scalar.cmpi .eq c4_i32_250 c0_i32_251
  let c1_i32_252 : BitVec 32 := 1#32
  let v394 : BitVec 32 := Scalar.select v393 c1_i32_252 c4_i32_250
  let v395 : BitVec 32 := Scalar.remsi v375 v394
  let c0_i32_254 : BitVec 32 := 0#32
  let v397 : BitVec 1 := Scalar.cmpi .slt v395 c0_i32_254
  let c0_i32_255 : BitVec 32 := 0#32
  let v398 : BitVec 1 := Scalar.cmpi .slt v394 c0_i32_255
  let v399 : BitVec 1 := Scalar.xori v397 v398
  let c0_i32_253 : BitVec 32 := 0#32
  let v396 : BitVec 1 := Scalar.cmpi .ne v395 c0_i32_253
  let v400 : BitVec 1 := Scalar.andi v399 v396
  let v401 : BitVec 32 := Scalar.addi v395 v394
  let v402 : BitVec 32 := Scalar.select v400 v401 v395
  let c56_i32_257 : BitVec 32 := 56#32
  let v405 : BitVec 32 := Scalar.muli v402 c56_i32_257
  let c0_i32_258 : BitVec 32 := 0#32
  ![v18.toNat, v404.toNat, v405.toNat, 0]
def k0_off189 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28_i32 : BitVec 32 := 28#32
  let v29 : BitVec 32 := Scalar.muli v28 c28_i32
  let c0_i32_28 : BitVec 32 := 0#32
  let c1_i32_29 : BitVec 32 := 1#32
  let arg16 : BitVec 32 := Scf.iv c0_i32_28 c1_i32_29 k0_t1
  let c4_i32_194 : BitVec 32 := 4#32
  let v299 : BitVec 32 := Scalar.muli arg16 c4_i32_194
  let c3_i32 : BitVec 32 := 3#32
  let v300 : BitVec 32 := Scalar.addi v299 c3_i32
  let c2_i32_239 : BitVec 32 := 2#32
  let v371 : BitVec 32 := Scalar.addi v300 c2_i32_239
  let c0_i32_261 : BitVec 32 := 0#32
  let v411 : BitVec 1 := Scalar.cmpi .sgt v371 c0_i32_261
  let v412 : BitVec 32 := Scalar.extui v411
  let c0_i32_262 : BitVec 32 := 0#32
  let v413 : BitVec 1 := Scalar.cmpi .slt v371 c0_i32_262
  let v414 : BitVec 32 := Scalar.extui v413
  let v415 : BitVec 32 := Scalar.subi v412 v414
  let c4_i32_260 : BitVec 32 := 4#32
  let c0_i32_263 : BitVec 32 := 0#32
  let v416 : BitVec 1 := Scalar.cmpi .sgt c4_i32_260 c0_i32_263
  let v417 : BitVec 32 := Scalar.extui v416
  let c0_i32_264 : BitVec 32 := 0#32
  let v418 : BitVec 1 := Scalar.cmpi .slt c4_i32_260 c0_i32_264
  let v419 : BitVec 32 := Scalar.extui v418
  let v420 : BitVec 32 := Scalar.subi v417 v419
  let v421 : BitVec 1 := Scalar.cmpi .ne v415 v420
  let v422 : BitVec 32 := Scalar.remsi v371 c4_i32_260
  let c0_i32_265 : BitVec 32 := 0#32
  let v423 : BitVec 1 := Scalar.cmpi .ne v422 c0_i32_265
  let v424 : BitVec 1 := Scalar.andi v421 v423
  let v410 : BitVec 32 := Scalar.divsi v371 c4_i32_260
  let c1_i32_266 : BitVec 32 := 1#32
  let v425 : BitVec 32 := Scalar.subi v410 c1_i32_266
  let v426 : BitVec 32 := Scalar.select v424 v425 v410
  let c4_i32_273 : BitVec 32 := 4#32
  let v437 : BitVec 32 := Scalar.muli v426 c4_i32_273
  let v438 : BitVec 32 := Scalar.addi v29 v437
  let c4_i32_267 : BitVec 32 := 4#32
  let c0_i32_268 : BitVec 32 := 0#32
  let v427 : BitVec 1 := Scalar.cmpi .eq c4_i32_267 c0_i32_268
  let c1_i32_269 : BitVec 32 := 1#32
  let v428 : BitVec 32 := Scalar.select v427 c1_i32_269 c4_i32_267
  let v429 : BitVec 32 := Scalar.remsi v371 v428
  let c0_i32_271 : BitVec 32 := 0#32
  let v431 : BitVec 1 := Scalar.cmpi .slt v429 c0_i32_271
  let c0_i32_272 : BitVec 32 := 0#32
  let v432 : BitVec 1 := Scalar.cmpi .slt v428 c0_i32_272
  let v433 : BitVec 1 := Scalar.xori v431 v432
  let c0_i32_270 : BitVec 32 := 0#32
  let v430 : BitVec 1 := Scalar.cmpi .ne v429 c0_i32_270
  let v434 : BitVec 1 := Scalar.andi v433 v430
  let v435 : BitVec 32 := Scalar.addi v429 v428
  let v436 : BitVec 32 := Scalar.select v434 v435 v429
  let c56_i32_274 : BitVec 32 := 56#32
  let v439 : BitVec 32 := Scalar.muli v436 c56_i32_274
  let c0_i32_275 : BitVec 32 := 0#32
  ![v18.toNat, v438.toNat, v439.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Value.lean ====
module

public import proofs.«01_k».proof.Proof.Launch
public import Idealize.ShloMosaic.Lib.Pipeline.Value

@[expose] public section

/-! # The kernel's value

The tiles write what they read, and the two transpositions undo each other: the result is the
argument. -/

noncomputable section

namespace Cert.Kernel.Hand

open Cert.Kernel Cert.Kernel.Gen
open Idealize.ShloMosaic

variable {F : FTy → Type} [FloatOps F]
variable (m : (ℓ : Loc nD τ sig) → Buf (Elt F) ℓ)

/-- An array transposed into channels-last order and back is the array. -/
theorem transpose_back {α : Type} (x : S4x128x224x224.Idx → α) :
    transpose S4x128x224x224 [0, 3, 1, 2]
      (transpose S4x224x224x128 [0, 2, 3, 1] x transposes_S4x128x224x224_S4x224x224x128_0_2_3_1)
      transposes_S4x224x224x128_S4x128x224x224_0_3_1_2 = x := by
  funext j
  unfold transpose
  congr 1
  funext b
  apply Fin.ext
  match b with
  | 0 => rfl
  | 1 => rfl
  | 2 => rfl
  | 3 => rfl

theorem RA_eq (d : Dev nD) : RA m d = m (aLoc d) := transpose_back _

end Cert.Kernel.Hand
-- ==== Proof.GeomIdeal.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

/-! # Where each tile's chunks lie

The tile on SparseCore `c`, subcore `s` has number `g = 2 s + c`. It owns image `g / 8` and, of that
image, the band of 28 rows from `28 (g % 8)`. The band is cut into 28 chunks of 4 rows by 56 columns
by all 128 channels; chunk `k` starts at row `4 (k / 4)` and column `56 (k % 4)` of the band. This
module gives the chunks their closed form, identifies every slice the kernel takes with one of
them, and shows that the chunks of all tiles are a partition of the array. -/

noncomputable section

namespace Cert.KernelIdeal.Hand

open Cert.KernelIdeal Cert.KernelIdeal.Gen
open Idealize.ShloMosaic

/-- The number of the tile at launch coordinates `L`. -/
def tileNo (L : grid0.Coords) : ℕ := (L 1).val * 2 + (L 0).val

theorem tileNo_lt (L : grid0.Coords) : tileNo L < 32 := by
  have h0 : (L 0).val < 2 := (L 0).isLt
  have h1 : (L 1).val < 16 := (L 1).isLt
  unfold tileNo; omega

/-- Where chunk `k` of tile `g` starts. (`k` is read modulo 28, so that it is a place for every `k`.) -/
def chunkOff (g k : ℕ) : Fin 4 → ℕ := ![g / 8, (g % 8) * 28 + ((k % 28) / 4) * 4, (k % 28 % 4) * 56, 0]

theorem chunkOff_inb {g : ℕ} (hg : g < 32) (k : ℕ) :
    ∀ a, chunkOff g k a + S1x4x56x128.size a ≤ S4x224x224x128.size a := by
  have h0 : g / 8 + 1 ≤ 4 := by omega
  have h1 : (g % 8) * 28 + ((k % 28) / 4) * 4 + 4 ≤ 224 := by omega
  have h2 : (k % 28 % 4) * 56 + 56 ≤ 224 := by omega
  intro a
  match a with
  | 0 => exact h0
  | 1 => exact h1
  | 2 => exact h2
  | 3 => exact Nat.le_refl 128

/-- The box of chunk `k` of the tile at `L`. -/
def chunkRect (L : grid0.Coords) (k : ℕ) : Rect S4x224x224x128 :=
  Rect.unit (s := S4x224x224x128) (chunkOff (tileNo L) k) S1x4x56x128.size (chunkOff_inb (tileNo_lt L) k)

/-- Chunk `k` of a whole-array memref. -/
def chunkOf (m : Memref sig .scVector .hbm S4x224x224x128 .f32) (L : grid0.Coords) (k : ℕ) :
    Memref sig .scVector .hbm S4x56x128 .f32 :=
  (m.slice (chunkRect L k) (fun _ => rfl)).squeeze S4x56x128 squeezes_S1x4x56x128_S4x56x128

/-- A slice whose offsets are a chunk's is that chunk. -/
theorem chunkOf_of_off (m : Memref sig .scVector .hbm S4x224x224x128 .f32) (L : grid0.Coords) (k : ℕ)
    {off : Fin 4 → ℕ} (h : off = chunkOff (tileNo L) k)
    (p : ∀ a, off a + S1x4x56x128.size a ≤ S4x224x224x128.size a) :
    (m.slice (Rect.unit (s := S4x224x224x128) off S1x4x56x128.size p) (fun _ => rfl)).squeeze S4x56x128
      squeezes_S1x4x56x128_S4x56x128 = chunkOf m L k := by
  subst h; rfl

/-! ## The kernel's offsets -/

/-- The launch coordinates of a pair of numbers. -/
def coordsV (c : Fin 2) (s : Fin 16) : grid0.Coords :=
  fun | 0 => c | 1 => s | ⟨_ + 2, h⟩ => absurd h (Nat.not_lt.2 (Nat.le_add_left _ _))

theorem coords_eq (L : grid0.Coords) : L = coordsV (L 0) (L 1) := by
  funext a
  match a with
  | 0 => rfl
  | 1 => rfl
  | ⟨_ + 2, h⟩ => exact absurd h (Nat.not_lt.2 (Nat.le_add_left _ _))

theorem off1_first (L : grid0.Coords) : k0_off1 L 0#32 = chunkOff (tileNo L) 0 := by
  rw [coords_eq L]; generalize L 0 = c; generalize L 1 = s; revert c s; decide +kernel
theorem off2_first (L : grid0.Coords) : k0_off2 L 0#32 = chunkOff (tileNo L) 1 := by
  rw [coords_eq L]; generalize L 0 = c; generalize L 1 = s; revert c s; decide +kernel
theorem off3_first (L : grid0.Coords) : k0_off3 L 0#32 = chunkOff (tileNo L) 2 := by
  rw [coords_eq L]; generalize L 0 = c; generalize L 1 = s; revert c s; decide +kernel
theorem off4_first (L : grid0.Coords) : k0_off4 L 0#32 = chunkOff (tileNo L) 3 := by
  rw [coords_eq L]; generalize L 0 = c; generalize L 1 = s; revert c s; decide +kernel

theorem off5_0 (L : grid0.Coords) (t : Fin k0_t1_loop.trips) :
    k0_off5 L t 0#32 = chunkOff (tileNo L) (4 * t.val + 0) := by
  rw [coords_eq L]; generalize L 0 = c; generalize L 1 = s; revert c s t; decide +kernel
theorem off5_1 (L : grid0.Coords) (t : Fin k0_t1_loop.trips) :
    k0_off5 L t 1#32 = chunkOff (tileNo L) (4 * t.val + 1) := by
  rw [coords_eq L]; generalize L 0 = c; generalize L 1 = s; revert c s t; decide +kernel
theorem off5_2 (L : grid0.Coords) (t : Fin k0_t1_loop.trips) :
    k0_off5 L t 2#32 = chunkOff (tileNo L) (4 * t.val + 2) := by
  rw [coords_eq L]; generalize L 0 = c; generalize L 1 = s; revert c s t; decide +kernel
theorem off5_3 (L : grid0.Coords) (t : Fin k0_t1_loop.trips) :
    k0_off5 L t 3#32 = chunkOff (tileNo L) (4 * t.val + 3) := by
  rw [coords_eq L]; generalize L 0 = c; generalize L 1 = s; revert c s t; decide +kernel

theorem off7_eq (L : grid0.Coords) (t : Fin k0_t1_loop.trips) :
    k0_off7 L t = chunkOff (tileNo L) (4 * t.val + 2) := by
  rw [coords_eq L]; generalize L 0 = c; generalize L 1 = s; revert c s t; decide +kernel
theorem off9_eq (L : grid0.Coords) (t : Fin k0_t1_loop.trips) :
    k0_off9 L t = chunkOff (tileNo L) (4 * t.val + 3) := by
  rw [coords_eq L]; generalize L 0 = c; generalize L 1 = s; revert c s t; decide +kernel
theorem off11_eq (L : grid0.Coords) (t : Fin k0_t1_loop.trips) (h : t.val < 6) :
    k0_off11 L t = chunkOff (tileNo L) (4 * t.val + 4) := by
  rw [coords_eq L]; generalize L 0 = c; generalize L 1 = s; revert c s t; decide +kernel
theorem off13_eq (L : grid0.Coords) (t : Fin k0_t1_loop.trips) (h : t.val < 6) :
    k0_off13 L t = chunkOff (tileNo L) (4 * t.val + 5) := by
  rw [coords_eq L]; generalize L 0 = c; generalize L 1 = s; revert c s t; decide +kernel

theorem cond1_iff (t : Fin k0_t1_loop.trips) : k0_cond1 t = 1#1 ↔ 0 < t.val := by
  revert t; decide +kernel
theorem cond2_iff (t : Fin k0_t1_loop.trips) : k0_cond2 t = 1#1 ↔ 0 < t.val := by
  revert t; decide +kernel
theorem cond3_iff (t : Fin k0_t1_loop.trips) : k0_cond3 t = 1#1 ↔ t.val < 6 := by
  revert t; decide +kernel
theorem cond4_iff (t : Fin k0_t1_loop.trips) : k0_cond4 t = 1#1 ↔ t.val < 6 := by
  revert t; decide +kernel

/-! ## The chunks are a partition -/

/-- The places of chunk `k` of the tile at `L`. -/
def chunkSet (L : grid0.Coords) (k : ℕ) : Finset S4x224x224x128.Idx := (chunkRect L k).set

theorem mem_chunkSet (L : grid0.Coords) (k : ℕ) (i : S4x224x224x128.Idx) :
    i ∈ chunkSet L k ↔ (i 0).val = tileNo L / 8 ∧
      (i 1).val / 4 = (tileNo L % 8) * 7 + (k % 28) / 4 ∧ (i 2).val / 56 = k % 28 % 4 := by
  unfold chunkSet chunkRect
  rw [Rect.mem_set_unit]
  have h3 : (i 3).val < 128 := (i 3).isLt
  have h2 : (i 2).val < 224 := (i 2).isLt
  have h1 : (i 1).val < 224 := (i 1).isLt
  have h0 : (i 0).val < 4 := (i 0).isLt
  constructor
  · intro h
    have a0 : tileNo L / 8 ≤ (i 0).val ∧ (i 0).val < tileNo L / 8 + 1 := h 0
    have a1 : (tileNo L % 8) * 28 + ((k % 28) / 4) * 4 ≤ (i 1).val ∧
      (i 1).val < (tileNo L % 8) * 28 + ((k % 28) / 4) * 4 + 4 := h 1
    have a2 : (k % 28 % 4) * 56 ≤ (i 2).val ∧ (i 2).val < (k % 28 % 4) * 56 + 56 := h 2
    omega
  · rintro ⟨b0, b1, b2⟩ a
    match a with
    | 0 => show tileNo L / 8 ≤ (i 0).val ∧ (i 0).val < tileNo L / 8 + 1; omega
    | 1 =>
      show (tileNo L % 8) * 28 + ((k % 28) / 4) * 4 ≤ (i 1).val ∧
        (i 1).val < (tileNo L % 8) * 28 + ((k % 28) / 4) * 4 + 4
      omega
    | 2 => show (k % 28 % 4) * 56 ≤ (i 2).val ∧ (i 2).val < (k % 28 % 4) * 56 + 56; omega
    | 3 => show 0 ≤ (i 3).val ∧ (i 3).val < 0 + 128; omega

/-- A chunk's name: SparseCore, subcore, chunk number. -/
abbrev ChunkName : Type := Fin 2 × Fin 16 × Fin 28

/-- The places of the chunk of that name. -/
def nameSet (n : ChunkName) : Finset S4x224x224x128.Idx := chunkSet (coordsV n.1 n.2.1) n.2.2.val

/-- The chunk a place lies in. -/
def nameOf (i : S4x224x224x128.Idx) : ChunkName :=
  have h2 : (i 2).val < 224 := (i 2).isLt
  have h1 : (i 1).val < 224 := (i 1).isLt
  have h0 : (i 0).val < 4 := (i 0).isLt
  ⟨⟨((i 0).val * 8 + (i 1).val / 28) % 2, by omega⟩, ⟨((i 0).val * 8 + (i 1).val / 28) / 2, by omega⟩,
    ⟨((i 1).val % 28) / 4 * 4 + (i 2).val / 56, by omega⟩⟩

theorem mem_nameSet (n : ChunkName) (i : S4x224x224x128.Idx) : i ∈ nameSet n ↔ n = nameOf i := by
  obtain ⟨c, s, k⟩ := n
  have h2 : (i 2).val < 224 := (i 2).isLt
  have h1 : (i 1).val < 224 := (i 1).isLt
  have h0 : (i 0).val < 4 := (i 0).isLt
  have hk := k.isLt
  have hc := c.isLt
  have hs := s.isLt
  unfold nameSet nameOf
  rw [mem_chunkSet]
  have hg : tileNo (coordsV c s) = s.val * 2 + c.val := rfl
  rw [hg]
  simp only [Prod.mk.injEq, Fin.ext_iff]
  omega

theorem nameSet_disjoint (n n' : ChunkName) (h : n ≠ n') : Disjoint (nameSet n) (nameSet n') := by
  rw [Finset.disjoint_left]
  intro i hi hi'
  exact h (((mem_nameSet n i).mp hi).trans ((mem_nameSet n' i).mp hi').symm)

theorem nameSet_cover : (Finset.univ : Finset ChunkName).biUnion nameSet = Finset.univ := by
  ext i
  simp only [Finset.mem_biUnion, Finset.mem_univ, true_and, iff_true]
  exact ⟨nameOf i, (mem_nameSet _ i).mpr rfl⟩

/-! ## A chunk of a whole array -/

/-- The whole input array, as a tile names it. -/
abbrev xV : Memref sig .scVector .hbm S4x224x224x128 .f32 := Memref.whole main_v0_scv
/-- The whole output array, as a tile names it. -/
abbrev yV : Memref sig .scVector .hbm S4x224x224x128 .f32 := Memref.whole main_v1_scv

theorem chunk_set_x (L : grid0.Coords) (k : ℕ) : (chunkOf xV L k).view.set = chunkSet L k := by
  have h : ∀ (s : Shape) (hs : s.numel = (chunkRect L k).shape.numel),
      (((View.whole main_v0_scv).slice (chunkRect L k)).reshape s hs).set = chunkSet L k := fun s hs => by
    rw [View.set_reshape]; exact View.set_slice_whole _ _
  exact h _ _

theorem chunk_set_y (L : grid0.Coords) (k : ℕ) : (chunkOf yV L k).view.set = chunkSet L k := by
  have h : ∀ (s : Shape) (hs : s.numel = (chunkRect L k).shape.numel),
      (((View.whole main_v1_scv).slice (chunkRect L k)).reshape s hs).set = chunkSet L k := fun s hs => by
    rw [View.set_reshape]; exact View.set_slice_whole _ _
  exact h _ _

end Cert.KernelIdeal.Hand
-- ==== Proof.CopiesIdeal.lean ====
module

public import proofs.«01_k».proof.Proof.GeomIdeal
public import Idealize.ShloMosaic.Lib.Transfers

@[expose] public section

/-! # One copy at a time

Every copy of the kernel goes between a chunk of an array and one of four buffers, and every buffer has a semaphore
for the copy that fills it and one for the copy that empties it. A chunk is in one of four states:
not yet read (`pend`), on its way into a buffer (`inFl`), on its way out of it (`outFl`), or done
(`done`). This module states what starting and awaiting a copy does to that state, for any chunk,
buffer and pair of semaphores. -/

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type}

/-! ## The launch's names and ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own rounds, and the counters the copies take their tokens from. -/
abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-- The input and output arrays, as locations of device `d`. -/
abbrev xLoc (d : Dev nD) : Loc nD τ sig := (SparseCore.T d).loc main_v0
abbrev yLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The tile at `L`, as a thread of device `d`. -/
abbrev thr (d : Dev nD) (L : grid0.Coords) : Thread nD τ := V d (cV L) (jV L)

/-- A tile's buffer, as one of the kernel's four. -/
abbrev BufM : Type := Memref sig .scVector .vmem S4x56x128 .f32

section Steps

variable [FloatOps F] (d : Dev nD) (L : grid0.Coords)

/-- What chunk `k` of the input holds. -/
def inVal (X : Buf (Elt F) (xLoc d)) (k : ℕ) : S4x56x128.Idx → Elt F .f32 :=
  (chunkOf xV L k).view.read (Elt F) X

/-- What the tiles make of the input: they copy it. -/
def outOf (X : Buf (Elt F) (xLoc d)) : Buf (Elt F) (yLoc d) := X

/-- What chunk `k` of an output holds. -/
def outVal (Y : Buf (Elt F) (yLoc d)) (k : ℕ) : S4x56x128.Idx → Elt F .f32 :=
  (chunkOf yV L k).view.read (Elt F) Y

/-- Chunk `k` of the input, holding what `X` says. -/
def xP (X : Buf (Elt F) (xLoc d)) (k : ℕ) : sProp 𝕄 := xLoc d ↦[chunkSet L k]{fullShare} X
/-- Chunk `k` of the output, holding what `Y` says. -/
def yP (Y : Buf (Elt F) (yLoc d)) (k : ℕ) : sProp 𝕄 := yLoc d ↦[chunkSet L k]{fullShare} Y

/-- The buffer `B` of the tile, reading as `v`. -/
def bufIs (B : BufM) (v : S4x56x128.Idx → Elt F .f32) : sProp 𝕄 :=
  iprop(∃ f : Buf (Elt F) (B.view.loc (thr d L)), ⌜B.view.read (Elt F) f = v⌝
    ∗ B.view.loc (thr d L) ↦[B.view.set]{fullShare} f)
/-- The buffer `B` of the tile, holding anything. -/
def bufAny (B : BufM) : sProp 𝕄 := iprop(∃ v, bufIs d L B v)

/-- A semaphore of the tile at zero. -/
abbrev sem0 (s : DmaSem sig) : sProp 𝕄 := semVal (thr d L, SemLoc.dma s) 0

/-- How far a copy into `B`, and one out to chunk `k`, move their semaphores. -/
abbrev NIn (B : BufM) : ℕ := B.view.dmaCredit
abbrev NOut : ℕ := (chunkOf yV L 0).view.dmaCredit

/-- Chunk `k` on its way into `B`; its place in the output still holds `y₀`. -/
def inFl (X : Buf (Elt F) (xLoc d)) (y₀ : Buf (Elt F) (yLoc d)) (B : BufM) (si so : DmaSem sig) (k : ℕ) : sProp 𝕄 :=
  iprop(Flight countersEmb (thr d L) (SemLoc.dma si) (none : HIx 1) (NIn B) iprop(bufIs d L B (inVal d L X k) ∗ xP d L X k)
    ∗ yP d L y₀ k ∗ sem0 d L so)

/-- Chunk `k` on its way from `B` to the output, where it makes `Y`. -/
def outFl (X : Buf (Elt F) (xLoc d)) (Y : Buf (Elt F) (yLoc d)) (B : BufM) (si so : DmaSem sig) (k : ℕ) : sProp 𝕄 :=
  iprop(Flight countersEmb (thr d L) (SemLoc.dma so) (none : HIx 1) (NOut L) iprop(yP d L Y k ∗ bufAny d L B)
    ∗ xP d L X k ∗ sem0 d L si)

/-- Every chunk's copy out moves its semaphore as far. -/
theorem credit_out (off : Fin 4 → ℕ) (p : ∀ a, off a + S1x4x56x128.size a ≤ S4x224x224x128.size a) :
    ((yV.slice (Rect.unit (s := S4x224x224x128) off S1x4x56x128.size p) (fun _ => rfl)).squeeze S4x56x128
      squeezes_S1x4x56x128_S4x56x128).view.dmaCredit = NOut L := rfl

/-- What the tile owes its launch, and that it may wait on any of its own semaphores. -/
def ow (O : CellTallies nD τ sig (HIx 1)) (W : Waits sig (HIx 1)) : sProp 𝕄 :=
  iprop(MayWaits (thr d L) (none : HIx 1) O ∗ ∃ W', ⌜∀ p ∈ W', p ∈ W ∨ p.2 = none⌝ ∗ owes (thr d L) O W')

theorem inVal_eq_outVal (X : Buf (Elt F) (xLoc d)) (k : ℕ) : inVal d L X k = outVal d L (outOf d X) k := rfl

variable {d L} {X : Buf (Elt F) (xLoc d)} {y₀ Y : Buf (Elt F) (yLoc d)}
  {O : CellTallies nD τ sig (HIx 1)} {W : Waits sig (HIx 1)} {B : BufM} {si so : DmaSem sig}
  {α : Type} {Q : α → sProp (MT nD τ sig (HIx 1) (Elt F) ℕ UU ℕ)}

theorem pts_x (X : Buf (Elt F) (xLoc d)) (k : ℕ) :
    ((chunkOf xV L k).view.loc (thr d L) ↦[(chunkOf xV L k).view.set]{fullShare} X : sProp 𝕄) = xP d L X k := by
  unfold xP; rw [chunk_set_x]; rfl
theorem pts_y (Y : Buf (Elt F) (yLoc d)) (k : ℕ) :
    ((chunkOf yV L k).view.loc (thr d L) ↦[(chunkOf yV L k).view.set]{fullShare} Y : sProp 𝕄) = yP d L Y k := by
  unfold yP; rw [chunk_set_y]; rfl

/-- The output after chunk `k` was written with what `Y` has there. -/
theorem yP_write (k : ℕ) (w : S4x56x128.Idx → Elt F .f32) (hw : w = outVal d L Y k) :
    ((chunkOf yV L k).view.loc (thr d L) ↦[(chunkOf yV L k).view.set]{fullShare}
      ((chunkOf yV L k).view.write (Elt F) y₀ w Finset.univ) : sProp 𝕄) = yP d L Y k := by
  rw [← pts_y]
  refine pointsTo_congr fun i hi => ?_
  obtain ⟨j, -, rfl⟩ := Finset.mem_map.mp hi
  subst hw
  exact (View.write_emb_of_mem (v := (chunkOf yV L k).view) y₀ (outVal d L Y k) (Finset.mem_univ j)).trans rfl

/-- Starting the copy of chunk `k` into a free buffer. -/
theorem start_in {κ : PUnit → Prog (TpuEff nD τ sig (Elt F) Λ₀ (thr d L).2) α} (k : ℕ)
    {src : Memref sig .scVector .hbm S4x56x128 .f32} (hs : src = chunkOf xV L k)
    {h1 : src.view.WordExact} {h2 : B.view.WordExact} {h3 : DmaTarget.Typed (nD := nD) (p := (thr d L).2) (.hbm) (SemLoc.dma si) (.here B)} :
    iprop(xP d L X k ∗ yP d L y₀ k ∗ bufAny d L B ∗ sem0 d L si ∗ sem0 d L so)
      ⊢ iprop((inFl d L X y₀ B si so k -∗ wp frame (wpE (defs₀ (F := F)) 𝒱₀ (thr d L) none) Set.univ (κ ⟨⟩) Q)
          -∗ wp frame (wpE (defs₀ (F := F)) 𝒱₀ (thr d L) none) Set.univ
              (.op (.enqueueDma src (.here B) (SemLoc.dma si) h1 h2 h3) κ) Q) := by
  subst hs
  unfold bufAny bufIs inFl
  iintro ⟨Hx, Hy, ⟨%v, %f, %hf, Hb⟩, Hsi, Hso⟩ Hk
  iapply (Transfers.wp_dmaLocal countersEmb 𝒱₀ (thr d L) none (none : HIx 1) (NIn B) rfl
    (View.dmaCredit_pos _ (by decide)) (Finset.Subset.refl _)) $$ [Hx Hb Hsi]
  · isplitl [Hx]
    · iapply (Entails.of_eq (pts_x X k).symm); iexact Hx
    · isplitl [Hb]
      · iexact Hb
      · iexact Hsi
  · iintro Hfl
    iapply Hk
    isplitl [Hfl]
    · have hmono := Transfers.Flight_mono (Ix := HIx 1) (EC := (countersEmb : UEmb Counters 𝕄)) (c := thr d L) (sm := SemLoc.dma si) (ι := none) (N := NIn B)
        (D := iprop((B.view.loc (thr d L) ↦[B.view.set]{fullShare} (B.view.write (Elt F) f ((ReadAs.same : ReadAs (Elt F) S4x56x128 .f32 S4x56x128 .f32).apply ((chunkOf xV L k).view.read (Elt F) X)) Finset.univ))
          ∗ ((chunkOf xV L k).view.loc (thr d L) ↦[(chunkOf xV L k).view.set]{fullShare} X)))
        (D' := iprop(bufIs d L B (inVal d L X k) ∗ xP d L X k)) (by
          unfold bufIs
          iintro ⟨Hb, Hx⟩
          isplitl [Hb]
          · iexists (B.view.write (Elt F) f (inVal d L X k) Finset.univ)
            isplitr
            · ipureintro; exact View.read_write_univ _ _
            · iexact Hb
          · iapply (Entails.of_eq (pts_x X k)); iexact Hx)
      iapply hmono $$ [Hfl]
      iexact Hfl
    · isplitl [Hy]
      · iexact Hy
      · iexact Hso

/-- Awaiting the copy of chunk `k` into its buffer. -/
theorem wait_in {κ : PUnit → Prog (TpuEff nD τ sig (Elt F) Λ₀ (thr d L).2) α} (k : ℕ)
    {src : Memref sig .scVector .hbm S4x56x128 .f32} {h1 : src.view.WordExact} {h2 : B.view.WordExact} :
    iprop(inFl d L X y₀ B si so k ∗ ow d L O W)
      ⊢ iprop((iprop(bufIs d L B (inVal d L X k) ∗ xP d L X k ∗ yP d L y₀ k ∗ sem0 d L si ∗ sem0 d L so ∗ ow d L O W)
            -∗ wp frame (wpE (defs₀ (F := F)) 𝒱₀ (thr d L) none) Set.univ (κ ⟨⟩) Q)
          -∗ wp frame (wpE (defs₀ (F := F)) 𝒱₀ (thr d L) none) Set.univ (.op (.waitDma2 si src B h1 h2) κ) Q) := by
  unfold inFl ow
  iintro ⟨⟨Hfl, Hy, Hso⟩, #Hmw, %W', %hW', HO⟩ Hk
  iapply (Transfers.wp_waitLocalO countersEmb 𝒱₀ (thr d L) none (none : HIx 1) (rfl : B.view.dmaCredit = NIn B)) $$ [Hfl HO]
  · isplitl [Hfl]; · iexact Hfl
    isplitl [HO]; · iexact HO
    iapply (Transfers.MayWaits.elim (SemLoc.dma si)); iexact Hmw
  · iintro ⟨⟨Hb, Hx⟩, Hsi, HO⟩
    iapply Hk
    isplitl [Hb]; · iexact Hb
    isplitl [Hx]; · iexact Hx
    isplitl [Hy]; · iexact Hy
    isplitl [Hsi]; · iexact Hsi
    isplitl [Hso]; · iexact Hso
    isplitr; · iexact Hmw
    iexists _
    isplitr
    swap; · iexact HO
    ipureintro
    intro p hp
    rcases Finset.mem_insert.mp hp with rfl | hp
    · exact Or.inr rfl
    · exact hW' p hp

/-- Starting the copy of a buffer out to chunk `k`, the buffer holding what the output is to hold there. -/
theorem start_out {κ : PUnit → Prog (TpuEff nD τ sig (Elt F) Λ₀ (thr d L).2) α} (k : ℕ)
    {dst : Memref sig .scVector .hbm S4x56x128 .f32} (hd : dst = chunkOf yV L k)
    {h1 : B.view.WordExact} {h2 : dst.view.WordExact} {h3 : DmaTarget.Typed (nD := nD) (p := (thr d L).2) (.vmem) (SemLoc.dma so) (.here dst)} :
    iprop(bufIs d L B (outVal d L Y k) ∗ xP d L X k ∗ yP d L y₀ k ∗ sem0 d L si ∗ sem0 d L so)
      ⊢ iprop((outFl d L X Y B si so k -∗ wp frame (wpE (defs₀ (F := F)) 𝒱₀ (thr d L) none) Set.univ (κ ⟨⟩) Q)
          -∗ wp frame (wpE (defs₀ (F := F)) 𝒱₀ (thr d L) none) Set.univ
              (.op (.enqueueDma B (.here dst) (SemLoc.dma so) h1 h2 h3) κ) Q) := by
  subst hd
  unfold bufIs outFl
  iintro ⟨⟨%f, %hf, Hb⟩, Hx, Hy, Hsi, Hso⟩ Hk
  iapply (Transfers.wp_dmaLocal countersEmb 𝒱₀ (thr d L) none (none : HIx 1) (NOut L) rfl
    (View.dmaCredit_pos _ (by decide)) (Finset.Subset.refl _)) $$ [Hy Hb Hso]
  · isplitl [Hb]
    · iexact Hb
    · isplitl [Hy]
      · iapply (Entails.of_eq (pts_y y₀ k).symm); iexact Hy
      · iexact Hso
  · iintro Hfl
    iapply Hk
    isplitl [Hfl]
    · have hmono := Transfers.Flight_mono (Ix := HIx 1) (EC := (countersEmb : UEmb Counters 𝕄)) (c := thr d L) (sm := SemLoc.dma so) (ι := none) (N := NOut L)
        (D := iprop(((chunkOf yV L k).view.loc (thr d L) ↦[(chunkOf yV L k).view.set]{fullShare} ((chunkOf yV L k).view.write (Elt F) y₀ ((ReadAs.same : ReadAs (Elt F) S4x56x128 .f32 S4x56x128 .f32).apply (B.view.read (Elt F) f)) Finset.univ))
          ∗ (B.view.loc (thr d L) ↦[B.view.set]{fullShare} f)))
        (D' := iprop(yP d L Y k ∗ bufAny d L B)) (by
          unfold bufAny bufIs
          rw [ReadAs.apply_same, yP_write k _ hf]
          iintro ⟨Hy, Hb⟩
          isplitl [Hy]
          · iexact Hy
          · iexists _, _
            isplitr
            swap; · iexact Hb
            ipureintro; rfl)
      iapply hmono $$ [Hfl]
      iexact Hfl
    · isplitl [Hx]
      · iexact Hx
      · iexact Hsi

/-- Awaiting the copy of a buffer out to chunk `k`. -/
theorem wait_out {κ : PUnit → Prog (TpuEff nD τ sig (Elt F) Λ₀ (thr d L).2) α} (k : ℕ)
    {dst : Memref sig .scVector .hbm S4x56x128 .f32} {h1 : B.view.WordExact} {h2 : dst.view.WordExact}
    (hN : dst.view.dmaCredit = NOut L) :
    iprop(outFl d L X Y B si so k ∗ ow d L O W)
      ⊢ iprop((iprop(xP d L X k ∗ yP d L Y k ∗ bufAny d L B ∗ sem0 d L si ∗ sem0 d L so ∗ ow d L O W)
            -∗ wp frame (wpE (defs₀ (F := F)) 𝒱₀ (thr d L) none) Set.univ (κ ⟨⟩) Q)
          -∗ wp frame (wpE (defs₀ (F := F)) 𝒱₀ (thr d L) none) Set.univ (.op (.waitDma2 so B dst h1 h2) κ) Q) := by
  unfold outFl ow
  iintro ⟨⟨Hfl, Hx, Hsi⟩, #Hmw, %W', %hW', HO⟩ Hk
  iapply (Transfers.wp_waitLocalO countersEmb 𝒱₀ (thr d L) none (none : HIx 1) hN) $$ [Hfl HO]
  · isplitl [Hfl]; · iexact Hfl
    isplitl [HO]; · iexact HO
    iapply (Transfers.MayWaits.elim (SemLoc.dma so)); iexact Hmw
  · iintro ⟨⟨Hy, Hb⟩, Hso, HO⟩
    iapply Hk
    isplitl [Hx]; · iexact Hx
    isplitl [Hy]; · iexact Hy
    isplitl [Hb]; · iexact Hb
    isplitl [Hsi]; · iexact Hsi
    isplitl [Hso]; · iexact Hso
    isplitr; · iexact Hmw
    iexists _
    isplitr
    swap; · iexact HO
    ipureintro
    intro p hp
    rcases Finset.mem_insert.mp hp with rfl | hp
    · exact Or.inr rfl
    · exact hW' p hp

/-- A chunk turned around: its copy in is awaited and its copy out started, the buffer untouched between. -/
theorem turn {κ : PUnit → Prog (TpuEff nD τ sig (Elt F) Λ₀ (thr d L).2) α} (k : ℕ) (hk : inVal d L X k = outVal d L Y k)
    {src dst : Memref sig .scVector .hbm S4x56x128 .f32} (hd : dst = chunkOf yV L k)
    {a1 : src.view.WordExact} {a2 : B.view.WordExact} {h1 : B.view.WordExact} {h2 : dst.view.WordExact}
    {h3 : DmaTarget.Typed (nD := nD) (p := (thr d L).2) (.vmem) (SemLoc.dma so) (.here dst)} :
    iprop(inFl d L X y₀ B si so k ∗ ow d L O W)
      ⊢ iprop((iprop(outFl d L X Y B si so k ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 si src B a1 a2) fun _ => .op (.enqueueDma B (.here dst) (SemLoc.dma so) h1 h2 h3) κ) Q) := by
  iintro ⟨Hin, How⟩ Hk
  iapply (wait_in k) $$ [Hin How]
  · isplitl [Hin]; · iexact Hin
    iexact How
  iintro ⟨Hb, Hx, Hy, Hsi, Hso, How⟩
  iapply (start_out k hd) $$ [Hb Hx Hy Hsi Hso]
  · isplitl [Hb]
    · rw [hk]; iexact Hb
    isplitl [Hx]; · iexact Hx
    isplitl [Hy]; · iexact Hy
    isplitl [Hsi]; · iexact Hsi
    iexact Hso
  iintro Hout
  iapply Hk
  isplitl [Hout]; · iexact Hout
  iexact How

/-- A buffer refilled: the copy of chunk `k` out of it is awaited and the copy of chunk `k'` into it started. -/
theorem refill {κ : PUnit → Prog (TpuEff nD τ sig (Elt F) Λ₀ (thr d L).2) α} (k k' : ℕ)
    {src dst : Memref sig .scVector .hbm S4x56x128 .f32} (hN : dst.view.dmaCredit = NOut L) (hs : src = chunkOf xV L k')
    {a1 : B.view.WordExact} {a2 : dst.view.WordExact} {h1 : src.view.WordExact} {h2 : B.view.WordExact}
    {h3 : DmaTarget.Typed (nD := nD) (p := (thr d L).2) (.hbm) (SemLoc.dma si) (.here B)} :
    iprop(outFl d L X Y B si so k ∗ (xP d L X k' ∗ yP d L y₀ k') ∗ ow d L O W)
      ⊢ iprop((iprop(inFl d L X y₀ B si so k' ∗ (xP d L X k ∗ yP d L Y k) ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 so B dst a1 a2) fun _ => .op (.enqueueDma src (.here B) (SemLoc.dma si) h1 h2 h3) κ) Q) := by
  iintro ⟨Hout, ⟨Hx', Hy'⟩, How⟩ Hk
  iapply (wait_out k hN) $$ [Hout How]
  · isplitl [Hout]; · iexact Hout
    iexact How
  iintro ⟨Hx, Hy, Hb, Hsi, Hso, How⟩
  iapply (start_in k' hs) $$ [Hx' Hy' Hb Hsi Hso]
  · isplitl [Hx']; · iexact Hx'
    isplitl [Hy']; · iexact Hy'
    isplitl [Hb]; · iexact Hb
    isplitl [Hsi]; · iexact Hsi
    iexact Hso
  iintro Hin
  iapply Hk
  isplitl [Hin]; · iexact Hin
  isplitl [Hx Hy]
  · isplitl [Hx]; · iexact Hx
    iexact Hy
  iexact How

end Steps

end Cert.KernelIdeal.Hand
-- ==== Proof.TileIdeal.lean ====
module

public import proofs.«01_k».proof.Proof.CopiesIdeal

@[expose] public section

/-! # A tile's run

The invariant of the kernel's loop and the run of one tile, at a symbolic SparseCore and subcore.
At the loop's entry for the `t`-th time chunks `4 t` and `4 t + 1` are on their way into the first
two buffers, chunks `4 t - 2` and `4 t - 1` on their way out of the last two, everything before them is
done and everything after them not yet read. -/

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

section Loop

variable [FloatOps F] (d : Dev nD) (L : grid0.Coords)
variable (X : Buf (Elt F) (xLoc d)) (y₀ Y : Buf (Elt F) (yLoc d))
  (O : CellTallies nD τ sig (HIx 1)) (W : Waits sig (HIx 1))

/-- The first `n` chunks, done. -/
def doneTo (n : ℕ) : sProp 𝕄 := bigSep (Finset.range n) fun k => iprop(xP d L X k ∗ yP d L Y k)
/-- The chunks from the `n`-th on, not yet read. -/
def pendFrom (n : ℕ) : sProp 𝕄 := bigSep (Finset.Ico n 28) fun k => iprop(xP d L X k ∗ yP d L y₀ k)

variable {d L X Y y₀} in
theorem doneTo_push (n : ℕ) : iprop(doneTo d L X Y n ∗ xP d L X n ∗ yP d L Y n) ⊢ doneTo d L X Y (n + 1) := by
  unfold doneTo
  rw [Finset.range_add_one, SparseCore.bigSep_insert' Finset.notMem_range_self]
  iintro ⟨Hd, Hx, Hy⟩
  isplitl [Hx Hy]
  · isplitl [Hx]; · iexact Hx
    iexact Hy
  · iexact Hd

variable {d L X Y y₀} in
theorem pendFrom_pop (n : ℕ) (h : n < 28) :
    pendFrom d L X y₀ n ⊢ iprop((xP d L X n ∗ yP d L y₀ n) ∗ pendFrom d L X y₀ (n + 1)) := by
  unfold pendFrom
  rw [← Finset.insert_Ico_add_one_left_eq_Ico h, SparseCore.bigSep_insert' (by simp)]

/-- One of the first two buffers at the loop's `t`-th entry. -/
def slotA (B : BufM) (si so : DmaSem sig) (b t : ℕ) : sProp 𝕄 :=
  if t < 7 then inFl d L X y₀ B si so (4 * t + b) else outFl d L X Y B si so (24 + b)
/-- One of the last two buffers at the loop's `t`-th entry. -/
def slotB (B : BufM) (si so : DmaSem sig) (b t : ℕ) : sProp 𝕄 :=
  if t = 0 then inFl d L X y₀ B si so b else outFl d L X Y B si so (4 * (t - 1) + b)

variable (B0 : BufM) (h0 : B0.IsWhole) (B1 : BufM) (h1 : B1.IsWhole) (B2 : BufM) (h2 : B2.IsWhole) (B3 : BufM) (h3 : B3.IsWhole)
  (i0 i1 i2 i3 o0 o1 o2 o3 : DmaSems sig S_)

/-- The state of a tile at the loop's `t`-th entry. -/
def loopInv (t : ℕ) : sProp 𝕄 :=
  iprop(ow d L O W ∗ doneTo d L X Y (min (4 * t - 2) 24) ∗ pendFrom d L X y₀ (max 4 (min 28 (4 * t + 2)))
    ∗ slotA d L X y₀ Y B0 i0.sem o0.sem 0 t ∗ slotA d L X y₀ Y B1 i1.sem o1.sem 1 t
    ∗ slotB d L X y₀ Y B2 i2.sem o2.sem 2 t ∗ slotB d L X y₀ Y B3 i3.sem o3.sem 3 t)

variable {d L X Y y₀ O W B0 B1 B2 B3 i0 i1 i2 i3 o0 o1 o2 o3} in
theorem body_first (hXY : ∀ k, inVal d L X k = outVal d L Y k) (t : Fin k0_t1_loop.trips) (ht : t.val = 0) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have c1 : ¬ k0_cond1 t = 1#1 := fun h => by have := (cond1_iff t).mp h; omega
  have c2 : ¬ k0_cond2 t = 1#1 := fun h => by have := (cond2_iff t).mp h; omega
  have c3 : k0_cond3 t = 1#1 := (cond3_iff t).mpr (by omega)
  have c4 : k0_cond4 t = 1#1 := (cond4_iff t).mpr (by omega)
  have e1 : loopInv d L X y₀ Y O W B0 B1 B2 B3 i0 i1 i2 i3 o0 o1 o2 o3 t.val
      = iprop(ow d L O W ∗ doneTo d L X Y (4 * t.val) ∗ pendFrom d L X y₀ (4 * t.val + 4)
        ∗ inFl d L X y₀ B0 i0.sem o0.sem (4 * t.val + 0) ∗ inFl d L X y₀ B1 i1.sem o1.sem (4 * t.val + 1)
        ∗ inFl d L X y₀ B2 i2.sem o2.sem (4 * t.val + 2) ∗ inFl d L X y₀ B3 i3.sem o3.sem (4 * t.val + 3)) := by
    unfold loopInv slotA slotB; simp [ht]
  have e2 : loopInv d L X y₀ Y O W B0 B1 B2 B3 i0 i1 i2 i3 o0 o1 o2 o3 (t.val + 1)
      = iprop(ow d L O W ∗ doneTo d L X Y (4 * t.val + 1 + 1) ∗ pendFrom d L X y₀ (4 * t.val + 5 + 1)
        ∗ inFl d L X y₀ B0 i0.sem o0.sem (4 * t.val + 4) ∗ inFl d L X y₀ B1 i1.sem o1.sem (4 * t.val + 5)
        ∗ outFl d L X Y B2 i2.sem o2.sem (4 * t.val + 2) ∗ outFl d L X Y B3 i3.sem o3.sem (4 * t.val + 3)) := by
    unfold loopInv slotA slotB; simp [ht]
  rw [e1, e2]
  unfold k0_t1_body
  simp only [k0_part5_eq_skeleton, k0_part6_eq_skeleton, k0_part7_eq_skeleton, k0_part8_eq_skeleton, k0_part9_eq_skeleton,
    k0_part10_eq_skeleton, k0_part11_eq_skeleton]
  unfold k0_part5_skel k0_part6_skel k0_part7_skel k0_part8_skel k0_part9_skel k0_part10_skel k0_part11_skel
  simp only [k0_part3_eq_skeleton, k0_part4_eq_skeleton, dif_pos c3, dif_pos c4, dif_neg c1, dif_neg c2]
  unfold k0_part3_skel k0_part4_skel
  simp only [Prog.lift, Prog.bind_op, Prog.bind_ret, Prog.pure_eq_ret, dif_pos c3, dif_pos c4, dif_neg c1, dif_neg c2]
  iintro ⟨How, Hd, Hp, H0, H1, H2, H3⟩
  iapply (turn (4 * t.val + 0) (hXY _) (chunkOf_of_off _ L _ (off5_0 L t) _)) $$ [H0 How]
  · isplitl [H0]; · iexact H0
    iexact How
  iintro ⟨H0, How⟩
  iapply (turn (4 * t.val + 1) (hXY _) (chunkOf_of_off _ L _ (off5_1 L t) _)) $$ [H1 How]
  · isplitl [H1]; · iexact H1
    iexact How
  iintro ⟨H1, How⟩
  iapply (turn (4 * t.val + 2) (hXY _) (chunkOf_of_off _ L _ (off5_2 L t) _)) $$ [H2 How]
  · isplitl [H2]; · iexact H2
    iexact How
  iintro ⟨H2, How⟩
  ihave Hpk := (pendFrom_pop (4 * t.val + 4) (by omega)) $$ Hp
  icases Hpk with ⟨Hk, Hp⟩
  iapply (refill (4 * t.val) (4 * t.val + 4) (credit_out L _ _) (chunkOf_of_off _ L _ (off11_eq L t (by omega)) _)) $$ [H0 Hk How]
  · isplitl [H0]; · iexact H0
    isplitl [Hk]; · iexact Hk
    iexact How
  iintro ⟨H0, ⟨Hx, Hy⟩, How⟩
  ihave Hd := (doneTo_push (4 * t.val)) $$ [Hd Hx Hy]
  · isplitl [Hd]; · iexact Hd
    isplitl [Hx]; · iexact Hx
    iexact Hy
  iapply (turn (4 * t.val + 3) (hXY _) (chunkOf_of_off _ L _ (off5_3 L t) _)) $$ [H3 How]
  · isplitl [H3]; · iexact H3
    iexact How
  iintro ⟨H3, How⟩
  ihave Hpk := (pendFrom_pop (4 * t.val + 5) (by omega)) $$ Hp
  icases Hpk with ⟨Hk, Hp⟩
  iapply (refill (4 * t.val + 1) (4 * t.val + 5) (credit_out L _ _) (chunkOf_of_off _ L _ (off13_eq L t (by omega)) _)) $$ [H1 Hk How]
  · isplitl [H1]; · iexact H1
    isplitl [Hk]; · iexact Hk
    iexact How
  iintro ⟨H1, ⟨Hx, Hy⟩, How⟩
  ihave Hd := (doneTo_push (4 * t.val + 1)) $$ [Hd Hx Hy]
  · isplitl [Hd]; · iexact Hd
    isplitl [Hx]; · iexact Hx
    iexact Hy
  rw [wp_ret]
  imodintro
  isplitl [How]; · iexact How
  isplitl [Hd]; · iexact Hd
  isplitl [Hp]; · iexact Hp
  isplitl [H0]; · iexact H0
  isplitl [H1]; · iexact H1
  isplitl [H2]; · iexact H2
  iexact H3

variable {d L X Y y₀ O W B0 B1 B2 B3 i0 i1 i2 i3 o0 o1 o2 o3} in
theorem body_mid (hXY : ∀ k, inVal d L X k = outVal d L Y k) (t : Fin k0_t1_loop.trips) (ht : 0 < t.val ∧ t.val < 6) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have c1 : k0_cond1 t = 1#1 := (cond1_iff t).mpr (by omega)
  have c2 : k0_cond2 t = 1#1 := (cond2_iff t).mpr (by omega)
  have c3 : k0_cond3 t = 1#1 := (cond3_iff t).mpr (by omega)
  have c4 : k0_cond4 t = 1#1 := (cond4_iff t).mpr (by omega)
  obtain ⟨u, hu⟩ : ∃ u, t.val = u + 1 := ⟨t.val - 1, by omega⟩
  have e1 : loopInv d L X y₀ Y O W B0 B1 B2 B3 i0 i1 i2 i3 o0 o1 o2 o3 t.val
      = iprop(ow d L O W ∗ doneTo d L X Y (4 * u + 2) ∗ pendFrom d L X y₀ (4 * t.val + 2)
        ∗ inFl d L X y₀ B0 i0.sem o0.sem (4 * t.val + 0) ∗ inFl d L X y₀ B1 i1.sem o1.sem (4 * t.val + 1)
        ∗ outFl d L X Y B2 i2.sem o2.sem (4 * u + 2) ∗ outFl d L X Y B3 i3.sem o3.sem (4 * u + 3)) := by
    unfold loopInv slotA slotB
    rw [if_pos (by omega : t.val < 7), if_pos (by omega : t.val < 7), if_neg (by omega : ¬ t.val = 0), if_neg (by omega : ¬ t.val = 0),
      show min (4 * t.val - 2) 24 = 4 * u + 2 by omega, show max 4 (min 28 (4 * t.val + 2)) = 4 * t.val + 2 by omega,
      show t.val - 1 = u by omega]
  have e2 : loopInv d L X y₀ Y O W B0 B1 B2 B3 i0 i1 i2 i3 o0 o1 o2 o3 (t.val + 1)
      = iprop(ow d L O W ∗ doneTo d L X Y (4 * t.val + 1 + 1) ∗ pendFrom d L X y₀ (4 * t.val + 5 + 1)
        ∗ inFl d L X y₀ B0 i0.sem o0.sem (4 * t.val + 4) ∗ inFl d L X y₀ B1 i1.sem o1.sem (4 * t.val + 5)
        ∗ outFl d L X Y B2 i2.sem o2.sem (4 * t.val + 2) ∗ outFl d L X Y B3 i3.sem o3.sem (4 * t.val + 3)) := by
    unfold loopInv slotA slotB
    rw [if_pos (by omega : t.val + 1 < 7), if_pos (by omega : t.val + 1 < 7), if_neg (by omega : ¬ t.val + 1 = 0), if_neg (by omega : ¬ t.val + 1 = 0),
      show min (4 * (t.val + 1) - 2) 24 = 4 * t.val + 1 + 1 by omega, show max 4 (min 28 (4 * (t.val + 1) + 2)) = 4 * t.val + 5 + 1 by omega,
      show t.val + 1 - 1 = t.val by omega, show 4 * (t.val + 1) + 0 = 4 * t.val + 4 by omega, show 4 * (t.val + 1) + 1 = 4 * t.val + 5 by omega]
  rw [e1, e2]
  unfold k0_t1_body
  simp only [k0_part5_eq_skeleton, k0_part6_eq_skeleton, k0_part7_eq_skeleton, k0_part8_eq_skeleton, k0_part9_eq_skeleton,
    k0_part10_eq_skeleton, k0_part11_eq_skeleton]
  unfold k0_part5_skel k0_part6_skel k0_part7_skel k0_part8_skel k0_part9_skel k0_part10_skel k0_part11_skel
  simp only [k0_part1_eq_skeleton, k0_part2_eq_skeleton, k0_part3_eq_skeleton, k0_part4_eq_skeleton, dif_pos c1, dif_pos c2, dif_pos c3, dif_pos c4]
  unfold k0_part1_skel k0_part2_skel k0_part3_skel k0_part4_skel
  simp only [Prog.lift, Prog.bind_op, Prog.bind_ret, Prog.pure_eq_ret, dif_pos c1, dif_pos c2, dif_pos c3, dif_pos c4]
  iintro ⟨How, Hd, Hp, H0, H1, H2, H3⟩
  iapply (turn (4 * t.val + 0) (hXY _) (chunkOf_of_off _ L _ (off5_0 L t) _)) $$ [H0 How]
  · isplitl [H0]; · iexact H0
    iexact How
  iintro ⟨H0, How⟩
  ihave Hpk := (pendFrom_pop (4 * t.val + 2) (by omega)) $$ Hp
  icases Hpk with ⟨Hk, Hp⟩
  iapply (refill (4 * u + 2) (4 * t.val + 2) (credit_out L _ _) (chunkOf_of_off _ L _ (off7_eq L t) _)) $$ [H2 Hk How]
  · isplitl [H2]; · iexact H2
    isplitl [Hk]; · iexact Hk
    iexact How
  iintro ⟨H2, ⟨Hx, Hy⟩, How⟩
  ihave Hd := (doneTo_push (4 * u + 2)) $$ [Hd Hx Hy]
  · isplitl [Hd]; · iexact Hd
    isplitl [Hx]; · iexact Hx
    iexact Hy
  iapply (turn (4 * t.val + 1) (hXY _) (chunkOf_of_off _ L _ (off5_1 L t) _)) $$ [H1 How]
  · isplitl [H1]; · iexact H1
    iexact How
  iintro ⟨H1, How⟩
  ihave Hpk := (pendFrom_pop (4 * t.val + 3) (by omega)) $$ Hp
  icases Hpk with ⟨Hk, Hp⟩
  iapply (refill (4 * u + 3) (4 * t.val + 3) (credit_out L _ _) (chunkOf_of_off _ L _ (off9_eq L t) _)) $$ [H3 Hk How]
  · isplitl [H3]; · iexact H3
    isplitl [Hk]; · iexact Hk
    iexact How
  iintro ⟨H3, ⟨Hx, Hy⟩, How⟩
  ihave Hd := (doneTo_push (4 * u + 3)) $$ [Hd Hx Hy]
  · isplitl [Hd]; · iexact Hd
    isplitl [Hx]; · iexact Hx
    iexact Hy
  iapply (turn (4 * t.val + 2) (hXY _) (chunkOf_of_off _ L _ (off5_2 L t) _)) $$ [H2 How]
  · isplitl [H2]; · iexact H2
    iexact How
  iintro ⟨H2, How⟩
  rw [show 4 * u + 3 + 1 = 4 * t.val by omega]
  ihave Hpk := (pendFrom_pop (4 * t.val + 4) (by omega)) $$ Hp
  icases Hpk with ⟨Hk, Hp⟩
  iapply (refill (4 * t.val) (4 * t.val + 4) (credit_out L _ _) (chunkOf_of_off _ L _ (off11_eq L t (by omega)) _)) $$ [H0 Hk How]
  · isplitl [H0]; · iexact H0
    isplitl [Hk]; · iexact Hk
    iexact How
  iintro ⟨H0, ⟨Hx, Hy⟩, How⟩
  ihave Hd := (doneTo_push (4 * t.val)) $$ [Hd Hx Hy]
  · isplitl [Hd]; · iexact Hd
    isplitl [Hx]; · iexact Hx
    iexact Hy
  iapply (turn (4 * t.val + 3) (hXY _) (chunkOf_of_off _ L _ (off5_3 L t) _)) $$ [H3 How]
  · isplitl [H3]; · iexact H3
    iexact How
  iintro ⟨H3, How⟩
  ihave Hpk := (pendFrom_pop (4 * t.val + 5) (by omega)) $$ Hp
  icases Hpk with ⟨Hk, Hp⟩
  iapply (refill (4 * t.val + 1) (4 * t.val + 5) (credit_out L _ _) (chunkOf_of_off _ L _ (off13_eq L t (by omega)) _)) $$ [H1 Hk How]
  · isplitl [H1]; · iexact H1
    isplitl [Hk]; · iexact Hk
    iexact How
  iintro ⟨H1, ⟨Hx, Hy⟩, How⟩
  ihave Hd := (doneTo_push (4 * t.val + 1)) $$ [Hd Hx Hy]
  · isplitl [Hd]; · iexact Hd
    isplitl [Hx]; · iexact Hx
    iexact Hy
  rw [wp_ret]
  imodintro
  isplitl [How]; · iexact How
  isplitl [Hd]; · iexact Hd
  isplitl [Hp]; · iexact Hp
  isplitl [H0]; · iexact H0
  isplitl [H1]; · iexact H1
  isplitl [H2]; · iexact H2
  iexact H3

variable {d L X Y y₀ O W B0 B1 B2 B3 i0 i1 i2 i3 o0 o1 o2 o3} in
theorem body_last (hXY : ∀ k, inVal d L X k = outVal d L Y k) (t : Fin k0_t1_loop.trips) (ht : t.val = 6) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have c1 : k0_cond1 t = 1#1 := (cond1_iff t).mpr (by omega)
  have c2 : k0_cond2 t = 1#1 := (cond2_iff t).mpr (by omega)
  have c3 : ¬ k0_cond3 t = 1#1 := fun h => by have := (cond3_iff t).mp h; omega
  have c4 : ¬ k0_cond4 t = 1#1 := fun h => by have := (cond4_iff t).mp h; omega
  have e1 : loopInv d L X y₀ Y O W B0 B1 B2 B3 i0 i1 i2 i3 o0 o1 o2 o3 t.val
      = iprop(ow d L O W ∗ doneTo d L X Y (4 * 5 + 2) ∗ pendFrom d L X y₀ (4 * t.val + 2)
        ∗ inFl d L X y₀ B0 i0.sem o0.sem (4 * t.val + 0) ∗ inFl d L X y₀ B1 i1.sem o1.sem (4 * t.val + 1)
        ∗ outFl d L X Y B2 i2.sem o2.sem (4 * 5 + 2) ∗ outFl d L X Y B3 i3.sem o3.sem (4 * 5 + 3)) := by
    unfold loopInv slotA slotB; simp [ht]
  have e2 : loopInv d L X y₀ Y O W B0 B1 B2 B3 i0 i1 i2 i3 o0 o1 o2 o3 (t.val + 1)
      = iprop(ow d L O W ∗ doneTo d L X Y (4 * 5 + 3 + 1) ∗ pendFrom d L X y₀ (4 * t.val + 3 + 1)
        ∗ outFl d L X Y B0 i0.sem o0.sem (4 * t.val + 0) ∗ outFl d L X Y B1 i1.sem o1.sem (4 * t.val + 1)
        ∗ outFl d L X Y B2 i2.sem o2.sem (4 * t.val + 2) ∗ outFl d L X Y B3 i3.sem o3.sem (4 * t.val + 3)) := by
    unfold loopInv slotA slotB; simp [ht]
  rw [e1, e2]
  unfold k0_t1_body
  simp only [k0_part5_eq_skeleton, k0_part6_eq_skeleton, k0_part7_eq_skeleton, k0_part8_eq_skeleton, k0_part9_eq_skeleton,
    k0_part10_eq_skeleton, k0_part11_eq_skeleton]
  unfold k0_part5_skel k0_part6_skel k0_part7_skel k0_part8_skel k0_part9_skel k0_part10_skel k0_part11_skel
  simp only [k0_part1_eq_skeleton, k0_part2_eq_skeleton, dif_pos c1, dif_pos c2, dif_neg c3, dif_neg c4]
  unfold k0_part1_skel k0_part2_skel
  simp only [Prog.lift, Prog.bind_op, Prog.bind_ret, Prog.pure_eq_ret, dif_pos c1, dif_pos c2, dif_neg c3, dif_neg c4]
  iintro ⟨How, Hd, Hp, H0, H1, H2, H3⟩
  iapply (turn (4 * t.val + 0) (hXY _) (chunkOf_of_off _ L _ (off5_0 L t) _)) $$ [H0 How]
  · isplitl [H0]; · iexact H0
    iexact How
  iintro ⟨H0, How⟩
  ihave Hpk := (pendFrom_pop (4 * t.val + 2) (by omega)) $$ Hp
  icases Hpk with ⟨Hk, Hp⟩
  iapply (refill (4 * 5 + 2) (4 * t.val + 2) (credit_out L _ _) (chunkOf_of_off _ L _ (off7_eq L t) _)) $$ [H2 Hk How]
  · isplitl [H2]; · iexact H2
    isplitl [Hk]; · iexact Hk
    iexact How
  iintro ⟨H2, ⟨Hx, Hy⟩, How⟩
  ihave Hd := (doneTo_push (4 * 5 + 2)) $$ [Hd Hx Hy]
  · isplitl [Hd]; · iexact Hd
    isplitl [Hx]; · iexact Hx
    iexact Hy
  iapply (turn (4 * t.val + 1) (hXY _) (chunkOf_of_off _ L _ (off5_1 L t) _)) $$ [H1 How]
  · isplitl [H1]; · iexact H1
    iexact How
  iintro ⟨H1, How⟩
  ihave Hpk := (pendFrom_pop (4 * t.val + 3) (by omega)) $$ Hp
  icases Hpk with ⟨Hk, Hp⟩
  iapply (refill (4 * 5 + 3) (4 * t.val + 3) (credit_out L _ _) (chunkOf_of_off _ L _ (off9_eq L t) _)) $$ [H3 Hk How]
  · isplitl [H3]; · iexact H3
    isplitl [Hk]; · iexact Hk
    iexact How
  iintro ⟨H3, ⟨Hx, Hy⟩, How⟩
  ihave Hd := (doneTo_push (4 * 5 + 3)) $$ [Hd Hx Hy]
  · isplitl [Hd]; · iexact Hd
    isplitl [Hx]; · iexact Hx
    iexact Hy
  iapply (turn (4 * t.val + 2) (hXY _) (chunkOf_of_off _ L _ (off5_2 L t) _)) $$ [H2 How]
  · isplitl [H2]; · iexact H2
    iexact How
  iintro ⟨H2, How⟩
  iapply (turn (4 * t.val + 3) (hXY _) (chunkOf_of_off _ L _ (off5_3 L t) _)) $$ [H3 How]
  · isplitl [H3]; · iexact H3
    iexact How
  iintro ⟨H3, How⟩
  rw [wp_ret]
  imodintro
  isplitl [How]; · iexact How
  isplitl [Hd]; · iexact Hd
  isplitl [Hp]; · iexact Hp
  isplitl [H0]; · iexact H0
  isplitl [H1]; · iexact H1
  isplitl [H2]; · iexact H2
  iexact H3

variable {d L X Y y₀ O W B0 B1 B2 B3 i0 i1 i2 i3 o0 o1 o2 o3} in
theorem body_step (hXY : ∀ k, inVal d L X k = outVal d L Y k) (t : Fin k0_t1_loop.trips) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have h7 : t.val < 7 := t.isLt
  rcases (by omega : t.val = 0 ∨ (0 < t.val ∧ t.val < 6) ∨ t.val = 6) with h | h | h
  · exact body_first h0 h1 h2 h3 hXY t h v
  · exact body_mid h0 h1 h2 h3 hXY t h v
  · exact body_last h0 h1 h2 h3 hXY t h v

variable {d L X Y y₀ O W B0 B1 B2 B3 i0 i1 i2 i3 o0 o1 o2 o3} in
/-- One tile's run: from its 28 chunks of the input and of the output, its four buffers and its eight
    semaphores at zero, to the same with every chunk of the output holding what `Y` says. -/
theorem tile_run (hXY : ∀ k, inVal d L X k = outVal d L Y k) :
    iprop(ow d L O W ∗ pendFrom d L X y₀ 0
        ∗ bufAny d L B0 ∗ bufAny d L B1 ∗ bufAny d L B2 ∗ bufAny d L B3
        ∗ sem0 d L i0.sem ∗ sem0 d L i1.sem ∗ sem0 d L i2.sem ∗ sem0 d L i3.sem
        ∗ sem0 d L o0.sem ∗ sem0 d L o1.sem ∗ sem0 d L o2.sem ∗ sem0 d L o3.sem)
      ⊢ wp frame (wpE (defs₀ (F := F)) 𝒱₀ (thr d L) none) Set.univ
          (cc0__block_relu_nhwc (F := F) L xV (Memref.isWhole_whole _) yV (Memref.isWhole_whole _) B0 h0 B1 h1 B2 h2 B3 h3
            i0 i1 i2 i3 o0 o1 o2 o3)
          fun _ => iprop(ow d L O W ∗ doneTo d L X Y 28
            ∗ bufAny d L B0 ∗ bufAny d L B1 ∗ bufAny d L B2 ∗ bufAny d L B3
            ∗ sem0 d L i0.sem ∗ sem0 d L i1.sem ∗ sem0 d L i2.sem ∗ sem0 d L i3.sem
            ∗ sem0 d L o0.sem ∗ sem0 d L o1.sem ∗ sem0 d L o2.sem ∗ sem0 d L o3.sem) := by
  simp only [cc0__block_relu_nhwc_eq_skeleton]
  unfold cc0__block_relu_nhwc_skel
  simp only [k0_part12_eq_skeleton, k0_part13_eq_skeleton]
  unfold k0_part12_skel k0_part13_skel
  simp only [Prog.lift, Prog.bind_op, Prog.bind_ret, Prog.pure_eq_ret, Prog.bind_assoc]
  iintro ⟨How, Hp, Hb0, Hb1, Hb2, Hb3, Hi0, Hi1, Hi2, Hi3, Ho0, Ho1, Ho2, Ho3⟩
  ihave Hpk := (pendFrom_pop 0 (by omega)) $$ Hp
  icases Hpk with ⟨⟨Hx, Hy⟩, Hp⟩
  iapply (start_in 0 (chunkOf_of_off _ L _ (off1_first L) _)) $$ [Hx Hy Hb0 Hi0 Ho0]
  · isplitl [Hx]; · iexact Hx
    isplitl [Hy]; · iexact Hy
    isplitl [Hb0]; · iexact Hb0
    isplitl [Hi0]; · iexact Hi0
    iexact Ho0
  iintro H0
  ihave Hpk := (pendFrom_pop 1 (by omega)) $$ Hp
  icases Hpk with ⟨⟨Hx, Hy⟩, Hp⟩
  iapply (start_in 1 (chunkOf_of_off _ L _ (off2_first L) _)) $$ [Hx Hy Hb1 Hi1 Ho1]
  · isplitl [Hx]; · iexact Hx
    isplitl [Hy]; · iexact Hy
    isplitl [Hb1]; · iexact Hb1
    isplitl [Hi1]; · iexact Hi1
    iexact Ho1
  iintro H1
  ihave Hpk := (pendFrom_pop 2 (by omega)) $$ Hp
  icases Hpk with ⟨⟨Hx, Hy⟩, Hp⟩
  iapply (start_in 2 (chunkOf_of_off _ L _ (off3_first L) _)) $$ [Hx Hy Hb2 Hi2 Ho2]
  · isplitl [Hx]; · iexact Hx
    isplitl [Hy]; · iexact Hy
    isplitl [Hb2]; · iexact Hb2
    isplitl [Hi2]; · iexact Hi2
    iexact Ho2
  iintro H2
  ihave Hpk := (pendFrom_pop 3 (by omega)) $$ Hp
  icases Hpk with ⟨⟨Hx, Hy⟩, Hp⟩
  iapply (start_in 3 (chunkOf_of_off _ L _ (off4_first L) _)) $$ [Hx Hy Hb3 Hi3 Ho3]
  · isplitl [Hx]; · iexact Hx
    isplitl [Hy]; · iexact Hy
    isplitl [Hb3]; · iexact Hb3
    isplitl [Hi3]; · iexact Hi3
    iexact Ho3
  iintro H3
  sl_for (fun t _ => loopInv d L X y₀ Y O W B0 B1 B2 B3 i0 i1 i2 i3 o0 o1 o2 o3 t) $$ [How Hp H0 H1 H2 H3]
  case region =>
    intro t _
    exact body_step h0 h1 h2 h3 hXY t _
  · have e : loopInv d L X y₀ Y O W B0 B1 B2 B3 i0 i1 i2 i3 o0 o1 o2 o3 0
        = iprop(ow d L O W ∗ doneTo d L X Y 0 ∗ pendFrom d L X y₀ (3 + 1)
          ∗ inFl d L X y₀ B0 i0.sem o0.sem 0 ∗ inFl d L X y₀ B1 i1.sem o1.sem 1
          ∗ inFl d L X y₀ B2 i2.sem o2.sem 2 ∗ inFl d L X y₀ B3 i3.sem o3.sem 3) := by
      unfold loopInv slotA slotB; simp
    rw [e]
    isplitl [How]; · iexact How
    isplitr
    · unfold doneTo; rw [Finset.range_zero, bigSep_empty]; iempintro
    isplitl [Hp]; · iexact Hp
    isplitl [H0]; · iexact H0
    isplitl [H1]; · iexact H1
    isplitl [H2]; · iexact H2
    iexact H3
  iintro %_ HI
  have e : loopInv d L X y₀ Y O W B0 B1 B2 B3 i0 i1 i2 i3 o0 o1 o2 o3 k0_t1_loop.trips
      = iprop(ow d L O W ∗ doneTo d L X Y 24 ∗ pendFrom d L X y₀ 28
        ∗ outFl d L X Y B0 i0.sem o0.sem 24 ∗ outFl d L X Y B1 i1.sem o1.sem 25
        ∗ outFl d L X Y B2 i2.sem o2.sem 26 ∗ outFl d L X Y B3 i3.sem o3.sem 27) := by
    rw [show k0_t1_loop.trips = 7 from rfl]
    unfold loopInv slotA slotB; simp
  ihave HI := (Entails.of_eq e) $$ HI
  icases HI with ⟨How, Hd, -, H0, H1, H2, H3⟩
  iapply (wait_out 24 (credit_out L _ _)) $$ [H0 How]
  · isplitl [H0]; · iexact H0
    iexact How
  iintro ⟨Hx, Hy, Hb0, Hi0, Ho0, How⟩
  ihave Hd := (doneTo_push 24) $$ [Hd Hx Hy]
  · isplitl [Hd]; · iexact Hd
    isplitl [Hx]; · iexact Hx
    iexact Hy
  iapply (wait_out 25 (credit_out L _ _)) $$ [H1 How]
  · isplitl [H1]; · iexact H1
    iexact How
  iintro ⟨Hx, Hy, Hb1, Hi1, Ho1, How⟩
  ihave Hd := (doneTo_push 25) $$ [Hd Hx Hy]
  · isplitl [Hd]; · iexact Hd
    isplitl [Hx]; · iexact Hx
    iexact Hy
  iapply (wait_out 26 (credit_out L _ _)) $$ [H2 How]
  · isplitl [H2]; · iexact H2
    iexact How
  iintro ⟨Hx, Hy, Hb2, Hi2, Ho2, How⟩
  ihave Hd := (doneTo_push 26) $$ [Hd Hx Hy]
  · isplitl [Hd]; · iexact Hd
    isplitl [Hx]; · iexact Hx
    iexact Hy
  iapply (wait_out 27 (credit_out L _ _)) $$ [H3 How]
  · isplitl [H3]; · iexact H3
    iexact How
  iintro ⟨Hx, Hy, Hb3, Hi3, Ho3, How⟩
  ihave Hd := (doneTo_push 27) $$ [Hd Hx Hy]
  · isplitl [Hd]; · iexact Hd
    isplitl [Hx]; · iexact Hx
    iexact Hy
  rw [wp_ret]
  imodintro
  isplitl [How]; · iexact How
  isplitl [Hd]; · iexact Hd
  isplitl [Hb0]; · iexact Hb0
  isplitl [Hb1]; · iexact Hb1
  isplitl [Hb2]; · iexact Hb2
  isplitl [Hb3]; · iexact Hb3
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  iexact Ho3

end Loop

end Cert.KernelIdeal.Hand
-- ==== Proof.LaunchIdeal.lean ====
module

public import proofs.«01_k».proof.Proof.TileIdeal
public import Idealize.ShloMosaic.Lib.Pipeline.Kit

@[expose] public section

/-! # The launch

The whole program: the transposition into channels-last order, the kernel's call on the 32 tiles,
and the transposition back. Every weakly fair execution ends without a fault, with the argument
unchanged, every semaphore at zero, and the result the transposition of what the tiles wrote. -/

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

variable [FloatOps F]

/-- The argument in channels-last order: what the kernel reads. -/
def XA (d : Dev nD) : Buf (Elt F) (xLoc d) :=
  (transpose S4x224x224x128 [0, 2, 3, 1] (m (aLoc d) : (⟨S4x128x224x224, .f32⟩ : BufTy).Contents (Elt F))
    transposes_S4x128x224x224_S4x224x224x128_0_2_3_1 : (⟨S4x224x224x128, .f32⟩ : BufTy).Contents (Elt F))

/-- What the tiles write, in channels-last order. -/
def YA (d : Dev nD) : Buf (Elt F) (yLoc d) := outOf d (XA m d)

/-- The result: what the tiles wrote, in the argument's order. -/
def RA (d : Dev nD) : Buf (Elt F) (rLoc d) :=
  (transpose S4x128x224x224 [0, 3, 1, 2] (YA m d : (⟨S4x224x224x128, .f32⟩ : BufTy).Contents (Elt F))
    transposes_S4x224x224x128_S4x128x224x224_0_3_1_2 : (⟨S4x128x224x224, .f32⟩ : BufTy).Contents (Elt F))

/-! ## What the call hands to a tile and gets back -/

abbrev tileIn (d : Dev nD) (L : grid0.Coords) : sProp 𝕄 := pendFrom d L (XA m d) (m (yLoc d)) 0
abbrev tileOut (d : Dev nD) (L : grid0.Coords) : sProp 𝕄 := doneTo d L (XA m d) (YA m d) 28

def P : (K (F := F)).Pay (nD := nD) (Val := Elt F) (Name := ℕ) (U := UU) where
  st := fun q d c => match q with | 0 => bigSep (Finset.univ : Finset (Fin 16)) fun s => tileIn m d (coordsV c s)
  dn := fun q d c => match q with | 0 => bigSep (Finset.univ : Finset (Fin 16)) fun s => tileOut m d (coordsV c s)
  go := fun q d c i => match q with | 0 => tileIn m d (coordsV c i)
  td := fun q d c i => match q with | 0 => tileOut m d (coordsV c i)
  x := fun _ _ => iprop(emp)

instance tileIn_storable (d : Dev nD) (L : grid0.Coords) : BI.Storable (upEmb : UEmb _ 𝕄) (tileIn m d L) := by
  unfold tileIn pendFrom xP yP; infer_instance
instance tileOut_storable (d : Dev nD) (L : grid0.Coords) : BI.Storable (upEmb : UEmb _ 𝕄) (tileOut m d L) := by
  unfold tileOut doneTo xP yP; infer_instance

instance P_storable : (P (F := F) m).IsStorable where
  st q d c := match q with
    | 0 => (inferInstance : BI.Storable (upEmb : UEmb _ 𝕄) (bigSep (Finset.univ : Finset (Fin 16)) fun s => tileIn m d (coordsV c s)))
  dn q d c := match q with
    | 0 => (inferInstance : BI.Storable (upEmb : UEmb _ 𝕄) (bigSep (Finset.univ : Finset (Fin 16)) fun s => tileOut m d (coordsV c s)))
  go q d c i := match q with | 0 => tileIn_storable m d (coordsV c i)
  td q d c i := match q with | 0 => tileOut_storable m d (coordsV c i)

/-! ## A tile's semaphores and buffers among its own -/

section Own

variable (d : Dev nD) (L : grid0.Coords)

/-- The kernel's eight semaphores. -/
def semsV : Finset (DmaSem sig) :=
  {cc0_scratch4.sem, cc0_scratch5.sem, cc0_scratch6.sem, cc0_scratch7.sem, cc0_scratch8.sem, cc0_scratch9.sem,
    cc0_scratch10.sem, cc0_scratch11.sem}

omit [FloatOps F] in
theorem semsV_own : (semsV.image fun s => ((thr d L, SemLoc.dma s) : GSem nD τ sig)) ⊆ ownCells (thr d L) := by
  intro g hg
  obtain ⟨s, hs, rfl⟩ := Finset.mem_image.mp hg
  refine mem_ownCells.mpr ⟨rfl, ?_⟩
  show (SemLoc.dma s : SemLoc sig).isScoped .scVector = true
  exact (by decide : ∀ s ∈ semsV, (SemLoc.dma s : SemLoc sig).isScoped .scVector = true) s hs

omit [FloatOps F] in
theorem ownSems0_V :
    (ownSems0 (thr d L) : sProp 𝕄)
      = iprop((sem0 d L cc0_scratch4.sem ∗ sem0 d L cc0_scratch5.sem ∗ sem0 d L cc0_scratch6.sem ∗ sem0 d L cc0_scratch7.sem
          ∗ sem0 d L cc0_scratch8.sem ∗ sem0 d L cc0_scratch9.sem ∗ sem0 d L cc0_scratch10.sem ∗ sem0 d L cc0_scratch11.sem)
          ∗ bigSep (ownCells (thr d L) \ (semsV.image fun s => ((thr d L, SemLoc.dma s) : GSem nD τ sig))) fun g => semVal g 0) := by
  unfold SparseCore.Cfg.ownSems0
  rw [SparseCore.bigSep_sdiff_split' (semsV_own d L),
    SparseCore.bigSep_image_of_injOn (fun a _ b _ e => by simpa using e)]
  unfold semsV
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The kernel's four buffers. -/
def bufsV : Finset (Ref sig .scVector) := {cc0_scratch0, cc0_scratch1, cc0_scratch2, cc0_scratch3}

omit [FloatOps F] in
theorem bufsV_own : (bufsV.image fun b => (Proc.scVector (cV L) (jV L)).devRef b) ⊆ ownRefs (τ := τ) (.scVector (cV L) (jV L)) := by
  intro g hg
  obtain ⟨b, hb, rfl⟩ := Finset.mem_image.mp hg
  refine SparseCore.Cfg.mem_ownRefs_of_owner (p := Proc.scVector (cV L) (jV L)) ?_
  unfold bufsV at hb
  simp only [Finset.mem_insert, Finset.mem_singleton] at hb
  rcases hb with rfl | rfl | rfl | rfl <;> rfl

omit [FloatOps F] in
theorem ownBufs_V :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f))
          ∗ bigSep (ownRefs (τ := τ) (.scVector (cV L) (jV L)) \ (bufsV.image fun b => (Proc.scVector (cV L) (jV L)).devRef b))
              fun b => iprop(∃ f, ((d, b) : Loc nD τ sig) ↦{fullShare} f)) := by
  unfold SparseCore.Cfg.ownBufs
  rw [SparseCore.bigSep_sdiff_split' (bufsV_own L),
    SparseCore.bigSep_image_of_injOn (fun a _ b _ e => Proc.devRef_injective _ e)]
  unfold bufsV
  rw [SparseCore.bigSep_insert' (show (cc0_scratch0 : Ref sig .scVector) ∉ ({cc0_scratch1, cc0_scratch2, cc0_scratch3} : Finset _) by decide),
    SparseCore.bigSep_insert' (show (cc0_scratch1 : Ref sig .scVector) ∉ ({cc0_scratch2, cc0_scratch3} : Finset _) by decide),
    SparseCore.bigSep_insert' (show (cc0_scratch2 : Ref sig .scVector) ∉ ({cc0_scratch3} : Finset _) by decide),
    bigSep_singleton]

omit [FloatOps F] in
/-- A whole scratch buffer held at some contents is the kernel's buffer holding anything, and back. -/
theorem bufAny_intro (B : BufM) (hB : B.view.set = Finset.univ) :
    iprop(∃ f : Buf (Elt F) (B.view.loc (thr d L)), B.view.loc (thr d L) ↦{fullShare} f) ⊢ (bufAny (F := F) d L B : sProp 𝕄) := by
  unfold bufAny bufIs
  iintro ⟨%f, H⟩
  iexists _, f
  isplitr
  · ipureintro; rfl
  · rw [hB]; iexact H

omit [FloatOps F] in
theorem bufAny_elim (B : BufM) (hB : B.view.set = Finset.univ) :
    (bufAny (F := F) d L B : sProp 𝕄) ⊢ iprop(∃ f : Buf (Elt F) (B.view.loc (thr d L)), B.view.loc (thr d L) ↦{fullShare} f) := by
  unfold bufAny bufIs
  rw [hB]
  iintro ⟨%v, %f, -, H⟩
  iexists f; iexact H

/-- The four buffers and the eight semaphores, as the kernel names them. -/
abbrev M0 : BufM := Memref.whole cc0_scratch0
abbrev M1 : BufM := Memref.whole cc0_scratch1
abbrev M2 : BufM := Memref.whole cc0_scratch2
abbrev M3 : BufM := Memref.whole cc0_scratch3

theorem tile_body (O : CellTallies nD τ sig (HIx 1)) (W : Waits sig (HIx 1)) (hO : ∀ g, O g none = 0) :
    iprop(levAts (K (F := F)).L (K (F := F)).lev ∗ emp ∗ tileIn m d L ∗ scopedBufs (thr d L) ∗ scopedSems0 (thr d L) ∗ owes (thr d L) O W)
      ⊢ wp frame (wpE (defs₀ (F := F)) 𝒱₀ (thr d L) none) Set.univ
          (cc0__block_relu_nhwc (F := F) L xV (Memref.isWhole_whole _) yV (Memref.isWhole_whole _)
            M0 (Memref.isWhole_whole _) M1 (Memref.isWhole_whole _) M2 (Memref.isWhole_whole _) M3 (Memref.isWhole_whole _)
            cc0_scratch4 cc0_scratch5 cc0_scratch6 cc0_scratch7 cc0_scratch8 cc0_scratch9 cc0_scratch10 cc0_scratch11)
          fun _ => iprop(tileOut m d L ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, Hin, ⟨⟨Hb0, Hb1, Hb2, Hb3⟩, Hbufs⟩, ⟨⟨Hi0, Hi1, Hi2, Hi3, Ho0, Ho1, Ho2, Ho3⟩, Hsems⟩, HO⟩
  iapply (wp_wand frame (wpE (defs₀ (F := F)) 𝒱₀ (thr d L) none) Set.univ) $$ [Hin Hb0 Hb1 Hb2 Hb3 Hi0 Hi1 Hi2 Hi3 Ho0 Ho1 Ho2 Ho3 HO]
  · iapply (tile_run (d := d) (L := L) (X := XA m d) (y₀ := m (yLoc d)) (Y := YA m d) (O := O) (W := W)
      _ _ _ _ (fun k => inVal_eq_outVal d L (XA m d) k))
    isplitl [HO]
    · unfold ow
      isplitr
      · iapply ((K (F := F)).mayWaits_none (thr := thr d L) hO); iexact Hlv
      · iexists W
        isplitr
        · ipureintro; exact fun p hp => Or.inl hp
        · iexact HO
    isplitl [Hin]; · iexact Hin
    isplitl [Hb0]; · iapply (bufAny_intro d L M0 (View.set_whole _)); iexact Hb0
    isplitl [Hb1]; · iapply (bufAny_intro d L M1 (View.set_whole _)); iexact Hb1
    isplitl [Hb2]; · iapply (bufAny_intro d L M2 (View.set_whole _)); iexact Hb2
    isplitl [Hb3]; · iapply (bufAny_intro d L M3 (View.set_whole _)); iexact Hb3
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  · iintro %_ ⟨How, Hout, Hb0, Hb1, Hb2, Hb3, Hi0, Hi1, Hi2, Hi3, Ho0, Ho1, Ho2, Ho3⟩
    isplitl [Hout]; · iexact Hout
    isplitl [Hb0 Hb1 Hb2 Hb3 Hbufs]
    · isplitl [Hb0 Hb1 Hb2 Hb3]
      · isplitl [Hb0]; · iapply (bufAny_elim d L M0 (View.set_whole _)); iexact Hb0
        isplitl [Hb1]; · iapply (bufAny_elim d L M1 (View.set_whole _)); iexact Hb1
        isplitl [Hb2]; · iapply (bufAny_elim d L M2 (View.set_whole _)); iexact Hb2
        iapply (bufAny_elim d L M3 (View.set_whole _)); iexact Hb3
      · iexact Hbufs
    isplitl [Hi0 Hi1 Hi2 Hi3 Ho0 Ho1 Ho2 Ho3 Hsems]
    · isplitl [Hi0 Hi1 Hi2 Hi3 Ho0 Ho1 Ho2 Ho3]
      · isplitl [Hi0]; · iexact Hi0
        isplitl [Hi1]; · iexact Hi1
        isplitl [Hi2]; · iexact Hi2
        isplitl [Hi3]; · iexact Hi3
        isplitl [Ho0]; · iexact Ho0
        isplitl [Ho1]; · iexact Ho1
        isplitl [Ho2]; · iexact Ho2
        iexact Ho3
      · iexact Hsems
    unfold ow
    icases How with ⟨-, HO⟩
    iexact HO

end Own

/-! ## The launch theorem's obligations -/

theorem defs₀_vector (c : Fin τ.nSC) (s : Fin τ.nSub) :
    defs₀ (F := F) (.scVector c s) 0 ()
      = SparseCore.onTile hcore0 hsub0 (fun c s => cc0__block_relu_nhwc (F := F) (coordsV c s) xV (Memref.isWhole_whole _) yV (Memref.isWhole_whole _)
            M0 (Memref.isWhole_whole _) M1 (Memref.isWhole_whole _) M2 (Memref.isWhole_whole _) M3 (Memref.isWhole_whole _)
            cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

theorem vecSplit : (K (F := F)).VecSplit' (P m) 0 := by
  intro d c
  show (bigSep (Finset.univ : Finset (Fin 16)) fun s => tileIn m d (coordsV c s)) ⊢ |={Set.univ}=> iprop(
      (bigSep (Finset.univ : Finset (Fin 16)) fun s => tileIn m d (coordsV c s))
      ∗ ((bigSep (Finset.univ : Finset (Fin 16)) fun s => tileOut m d (coordsV c s))
          -∗ (bigSep (Finset.univ : Finset (Fin 16)) fun s => tileOut m d (coordsV c s))))
  iintro H; imodintro
  isplitl [H]; · iexact H
  iintro H; iexact H

/-! ## The launch's ghost state: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, whole and in chunks -/

omit [FloatOps F] in
theorem bigSep_fin_range (n : ℕ) (Φ : ℕ → sProp 𝕄) :
    (bigSep (Finset.univ : Finset (Fin n)) fun k => Φ k.val) = bigSep (Finset.range n) Φ := by
  rw [← SparseCore.bigSep_image_of_injOn (f := fun k : Fin n => k.val) (fun a _ b _ e => Fin.ext e) Φ]
  congr 1
  ext k
  simp only [Finset.mem_image, Finset.mem_univ, true_and, Finset.mem_range]
  exact ⟨fun ⟨a, e⟩ => e ▸ a.isLt, fun h => ⟨⟨k, h⟩, rfl⟩⟩

omit [FloatOps F] in
/-- The two arrays held whole are every tile's chunks of them. -/
theorem whole_chunks (d : Dev nD) (X : Buf (Elt F) (xLoc d)) (Y : Buf (Elt F) (yLoc d)) :
    (iprop((xLoc d ↦{fullShare} X) ∗ (yLoc d ↦{fullShare} Y)) : sProp 𝕄)
      = bigSep (Finset.univ : Finset (Fin 2)) fun c => bigSep (Finset.univ : Finset (Fin 16)) fun s =>
          bigSep (Finset.range 28) fun k => iprop(xP d (coordsV c s) X k ∗ yP d (coordsV c s) Y k) := by
  have hx : (xLoc d ↦{fullShare} X : sProp 𝕄) = bigSep (Finset.univ : Finset ChunkName) fun n => xLoc d ↦[nameSet n]{fullShare} X := by
    rw [← pointsTo_biUnion Finset.univ (ℓ := xLoc d) nameSet (fun a _ b _ h => nameSet_disjoint a b h), nameSet_cover]; try rfl
  have hy : (yLoc d ↦{fullShare} Y : sProp 𝕄) = bigSep (Finset.univ : Finset ChunkName) fun n => yLoc d ↦[nameSet n]{fullShare} Y := by
    rw [← pointsTo_biUnion Finset.univ (ℓ := yLoc d) nameSet (fun a _ b _ h => nameSet_disjoint a b h), nameSet_cover]; try rfl
  rw [hx, hy, ← bigSep_sep', bigSep_univ_prod]
  refine bigSep_congr fun c _ => ?_
  rw [bigSep_univ_prod]
  refine bigSep_congr fun s _ => ?_
  exact bigSep_fin_range 28 (fun k => iprop(xP d (coordsV c s) X k ∗ yP d (coordsV c s) Y k))

theorem st0_eq (d : Dev nD) : (bigSep Finset.univ fun c : Fin ((K (F := F)).nCore 0) => (P m).st 0 d c)
    = iprop((xLoc d ↦{fullShare} XA m d) ∗ (yLoc d ↦{fullShare} m (yLoc d))) := by
  rw [whole_chunks]
  rfl
theorem dn0_eq (d : Dev nD) : (bigSep Finset.univ fun c : Fin ((K (F := F)).nCore 0) => (P m).dn 0 d c)
    = iprop((xLoc d ↦{fullShare} XA m d) ∗ (yLoc d ↦{fullShare} YA m d)) := by
  rw [whole_chunks]
  rfl

/-! ## @main on the TensorCore -/

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)

/-- The transposition into channels-last order, and the one back. -/
abbrev opIn : HloOp τ sig (Elt F) := StableHlo.unary main_arg0 main_v0 ((transpose S4x224x224x128 [0, 2, 3, 1] · transposes_S4x128x224x224_S4x224x224x128_0_2_3_1) : (⟨S4x128x224x224, .f32⟩ : BufTy).Contents (Elt F) → (⟨S4x224x224x128, .f32⟩ : BufTy).Contents (Elt F))
abbrev opOut : HloOp τ sig (Elt F) := StableHlo.unary main_v1 main_v2 ((transpose S4x128x224x224 [0, 3, 1, 2] · transposes_S4x224x224x128_S4x128x224x224_0_3_1_2) : (⟨S4x224x224x128, .f32⟩ : BufTy).Contents (Elt F) → (⟨S4x128x224x224, .f32⟩ : BufTy).Contents (Elt F))

/-- The TensorCore's arrays. -/
abbrev S4 : Finset (DevRef τ sig) := {a', x', y', r'}

omit [FloatOps F] in
theorem held_S4 (d : Dev nD) (W : Valuation τ sig (Elt F)) :
    (held (SparseCore.T d) S4 W : sProp 𝕄) = iprop((aLoc d ↦{fullShare} W a') ∗ (xLoc d ↦{fullShare} W x') ∗ (yLoc d ↦{fullShare} W y') ∗ (rLoc d ↦{fullShare} W r')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (yLoc d ↦{fullShare} W main_v1) ∗ (rLoc d ↦{fullShare} W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The memory at the launch, after the first transposition, after the call, and after the second. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) y' (YA m d)
def V3 (d : Dev nD) : Valuation τ sig (Elt F) := (opOut (F := F)).result (V2 m d)

theorem unscoped_held (d : Dev nD) : (unscopedBufs d (fun b => m ((SparseCore.T d).loc b)) : sProp 𝕄) = held (SparseCore.T d) S4 (V0 m d) := by
  rw [unscopedBufs_eq, held_S4]; rfl

theorem V1_a (d : Dev nD) : V1 m d a' = m (aLoc d) :=
  (opIn (F := F)).result_of_not_mem (V0 m d) (b := a') (show a' ∉ ({x'} : Finset (DevRef τ sig)) by decide)
theorem V1_y (d : Dev nD) : V1 m d y' = m (yLoc d) :=
  (opIn (F := F)).result_of_not_mem (V0 m d) (b := y') (show y' ∉ ({x'} : Finset (DevRef τ sig)) by decide)
theorem V1_x (d : Dev nD) : V1 m d x' = XA m d := StableHlo.unary_result main_arg0 main_v0 _ _ _ (V0 m d)
theorem V2_a (d : Dev nD) : V2 m d a' = m (aLoc d) := (Function.update_of_ne (show a' ≠ y' by decide) _ _).trans (V1_a m d)
theorem V2_x (d : Dev nD) : V2 m d x' = XA m d := (Function.update_of_ne (show x' ≠ y' by decide) _ _).trans (V1_x m d)
theorem V2_r (d : Dev nD) : V2 m d r' = V1 m d r' := Function.update_of_ne (show r' ≠ y' by decide) _ _
theorem V2_y (d : Dev nD) : V2 m d y' = YA m d := Function.update_self _ _ _
theorem V3_a (d : Dev nD) : V3 m d a' = m (aLoc d) :=
  ((opOut (F := F)).result_of_not_mem (V2 m d) (b := a') (show a' ∉ ({r'} : Finset (DevRef τ sig)) by decide)).trans (V2_a m d)
theorem V3_r (d : Dev nD) : V3 m d r' = RA m d := by
  refine (StableHlo.unary_result main_v1 main_v2 _ _ _ (V2 m d)).trans ?_
  unfold RA; rw [← V2_y]

theorem hIn : (opIn (F := F)).bufs ⊆ S4 := show ({a', x'} : Finset (DevRef τ sig)) ⊆ S4 by decide
theorem hOut : (opOut (F := F)).bufs ⊆ S4 := show ({y', r'} : Finset (DevRef τ sig)) ⊆ S4 by decide

/-- What @main leaves the claims: the argument unchanged and the result. -/
abbrev FIN (d : Dev nD) : sProp 𝕄 := iprop((aLoc d ↦{fullShare} m (aLoc d)) ∗ (rLoc d ↦{fullShare} RA m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (show held (SparseCore.T d) S4 ((opIn (F := F)).result (V0 m d)) = _ from held_S4 (F := F) d (V1 m d))) $$ Hheld
  icases Hh with ⟨Ha, Hx, Hy, Hr⟩
  rw [V1_a, V1_x, V1_y]
  rw [wp_ret]; imodintro
  iapply ((K (F := F)).wp_run (D (F := F)) 𝒱 (EH := EH) (P := P m) κ d 0) $$ [Hst Ha Hx Hy Hb Hr Hts]
  isplitr; · iexact Hctx
  isplitl [Hst]; · iexact Hst
  isplitl [Hx Hy]
  · rw [st0_eq]
    isplitl [Hx]; · iexact Hx
    iexact Hy
  iintro ⟨Hst, Hdn⟩
  ihave Hdn' := (Entails.of_eq (dn0_eq m d)) $$ Hdn
  icases Hdn' with ⟨Hx, Hy⟩
  iapply (wp_hlo_within 𝒱 (SparseCore.T d) none Set.univ (op := opOut) (S := S4) hOut (V := V2 m d)) $$ [Hb Ha Hx Hy Hr]
  · isplitl [Hb]; · iexact Hb
    rw [held_S4, V2_a, V2_x, V2_y, V2_r]
    isplitl [Ha]; · iexact Ha
    isplitl [Hx]; · iexact Hx
    isplitl [Hy]; · iexact Hy
    iexact Hr
  iintro ⟨Hb, Hheld⟩
  ihave Hh := (Entails.of_eq (show held (SparseCore.T d) S4 ((opOut (F := F)).result (V2 m d)) = _ from held_S4 (F := F) d (V3 m d))) $$ Hheld
  icases Hh with ⟨Ha, -, -, Hr⟩
  rw [V3_a, V3_r]
  rw [wp_ret]; imodintro; imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = RA m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := RA m d)) $$ [HSI Hr]
  · isplitl [HSI] <;> iassumption
  icases H with %h2
  ipureintro; exact ⟨funext fun i => h1 i (Finset.mem_univ i), funext fun i => h2 i (Finset.mem_univ i)⟩

/-! ## The program's run -/

/-- What a run ends with. -/
def QC : PUnit × MemSt nD τ sig (Elt F) → Prop :=
  fun r => (∀ c : Dev nD, r.2.mem (aLoc c) = m (aLoc c) ∧ r.2.mem (rLoc c) = RA m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Hand
-- ==== Proof.ValueIdeal.lean ====
module

public import proofs.«01_k».proof.Proof.LaunchIdeal
public import Idealize.ShloMosaic.Lib.Pipeline.Value

@[expose] public section

/-! # The kernel's value

The tiles write what they read, and the two transpositions undo each other: the result is the
argument. -/

noncomputable section

namespace Cert.KernelIdeal.Hand

open Cert.KernelIdeal Cert.KernelIdeal.Gen
open Idealize.ShloMosaic

variable {F : FTy → Type} [FloatOps F]
variable (m : (ℓ : Loc nD τ sig) → Buf (Elt F) ℓ)

/-- An array transposed into channels-last order and back is the array. -/
theorem transpose_back {α : Type} (x : S4x128x224x224.Idx → α) :
    transpose S4x128x224x224 [0, 3, 1, 2]
      (transpose S4x224x224x128 [0, 2, 3, 1] x transposes_S4x128x224x224_S4x224x224x128_0_2_3_1)
      transposes_S4x224x224x128_S4x128x224x224_0_3_1_2 = x := by
  funext j
  unfold transpose
  congr 1
  funext b
  apply Fin.ext
  match b with
  | 0 => rfl
  | 1 => rfl
  | 2 => rfl
  | 3 => rfl

theorem RA_eq (d : Dev nD) : RA m d = m (aLoc d) := transpose_back _

end Cert.KernelIdeal.Hand
-- ==== Proof.RefValue.lean ====
module

public import proofs.«01_k».proof.Defs
public import proofs.«01_k».proof.Proof.Gen.ReferenceIdeal
public import proofs.«01_k».proof.Proof.Gen.ReferenceIdeal.Run
public import proofs.«01_k».proof.Proof.Gen.On_kept
public import Idealize.ShloMosaic.Lib.IdealHost
public import Idealize.ShloMosaic.Lib.ValueIdx

@[expose] public section

/-! # The reference's value

The reference multiplies its argument by a map of ones and zeros, and the mask of the claim about
the kernel as written selects the elements where that map is 1 or the argument is 0. -/

noncomputable section

namespace Cert.ReferenceIdeal.Hand

open Cert.ReferenceIdeal Cert.ReferenceIdeal.Gen
open Idealize.ShloMosaic Idealize.SL.Sem
open Idealize.ShloMosaic.ValueIdx

/-- Per 2 by 2 block of channels 0..63: whether the block's sum is at least 0, as 1 or 0, at each of the block's elements. -/
def map2 (x : FVec Ideal S4x128x224x224 .f32) : FVec Ideal S4x64x224x224 .f32 :=
  shapeCast _ (broadcastInDim S4x64x112x2x112x2 ![0, 1, 2, 3, 4, 5] bcast_S4x64x112x1x112x1_S4x64x112x2x112x2_0_1_2_3_4_5
    (uitofp .f32 (cmpf .oge
      (broadcastInDim S4x64x112x1x112x1 ![0, 1, 2, 4] bcast_S4x64x112x112_S4x64x112x1x112x1_0_1_2_4
        (Host.reduceAdd (shapeCast _ (extractStridedSlice S4x64x224x224 ![0, 0, 0, 0] x slices_S4x128x224x224_S4x64x224x224_0_0_0_0)
            shapeCasts_S4x64x224x224_S4x64x112x2x112x2)
          (constant S_ .f32 0x00000000#32) reducesTo_S4x64x112x2x112x2_S4x64x112x112_d3_5 h_S_))
      (broadcastInDim S4x64x112x1x112x1 ![] bcast_S_S4x64x112x1x112x1 (constant S_ .f32 0x00000000#32)))))
    shapeCasts_S4x64x112x2x112x2_S4x64x224x224

/-- The same per 4 by 4 block of channels 64..111. -/
def map4 (x : FVec Ideal S4x128x224x224 .f32) : FVec Ideal S4x48x224x224 .f32 :=
  shapeCast _ (broadcastInDim S4x48x56x4x56x4 ![0, 1, 2, 3, 4, 5] bcast_S4x48x56x1x56x1_S4x48x56x4x56x4_0_1_2_3_4_5
    (uitofp .f32 (cmpf .oge
      (broadcastInDim S4x48x56x1x56x1 ![0, 1, 2, 4] bcast_S4x48x56x56_S4x48x56x1x56x1_0_1_2_4
        (Host.reduceAdd (shapeCast _ (extractStridedSlice S4x48x224x224 ![0, 64, 0, 0] x slices_S4x128x224x224_S4x48x224x224_0_64_0_0)
            shapeCasts_S4x48x224x224_S4x48x56x4x56x4)
          (constant S_ .f32 0x00000000#32) reducesTo_S4x48x56x4x56x4_S4x48x56x56_d3_5 h_S_))
      (broadcastInDim S4x48x56x1x56x1 ![] bcast_S_S4x48x56x1x56x1 (constant S_ .f32 0x00000000#32)))))
    shapeCasts_S4x48x56x4x56x4_S4x48x224x224

/-- Ones, for channels 112..127. -/
def map1 : FVec Ideal S4x16x224x224 .f32 :=
  broadcastInDim S4x16x224x224 ![] bcast_S_S4x16x224x224 (constant S_ .f32 0x3F800000#32)

/-- The whole map. -/
def mapOf (x : FVec Ideal S4x128x224x224 .f32) : FVec Ideal S4x128x224x224 .f32 :=
  concatenate S4x128x224x224 1 [⟨S4x64x224x224, map2 x⟩, ⟨S4x48x224x224, map4 x⟩, ⟨S4x16x224x224, map1⟩]
    concatenates_S4x64x224x224_S4x48x224x224_S4x16x224x224_S4x128x224x224_d1

/-- What the reference ends with: the argument times the map. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = (mulf (m ((c.tc : Thread nD τ).loc main_arg0) : FVec Ideal S4x128x224x224 .f32) (mapOf (m ((c.tc : Thread nD τ).loc main_arg0))))
        ∧ r.2.mem ((c.tc : Thread nD τ).loc main_arg0) = m ((c.tc : Thread nD τ).loc main_arg0) :=
  Cert.ReferenceIdeal.Value.run m ρ

/-- Where the mask is set, the map is 1 or the argument 0. -/
theorem kept_cases (x : FVec Ideal S4x128x224x224 .f32) (i : S4x128x224x224.Idx)
    (h : (Cert.On_kept.fn (F := Ideal) x) i = 1#1) : mapOf x i = 1 ∨ x i = 0 := by
  have e : (Cert.On_kept.fn (F := Ideal) x) i
      = Ideal.cmp .oeq (mapOf x i) (Ideal.ofBits .f32 0x3F800000#32) ||| Ideal.cmp .oeq (x i) (Ideal.ofBits .f32 0x00000000#32) := rfl
  rw [e, Ideal.ofBits_one_f32, Ideal.ofBits_zero_f32] at h
  by_cases h1 : mapOf x i = 1
  · exact Or.inl h1
  by_cases h0 : x i = 0
  · exact Or.inr h0
  exfalso
  simp [Ideal.cmp, h1, h0] at h

/-- Where the mask is set, the reference's element is the argument's. -/
theorem kept_value (x : FVec Ideal S4x128x224x224 .f32) (i : S4x128x224x224.Idx)
    (h : (Cert.On_kept.fn (F := Ideal) x) i = 1#1) : mulf x (mapOf x) i = x i := by
  show x i * mapOf x i = x i
  rcases kept_cases x i h with h | h
  · rw [h, mul_one]
  · rw [h, zero_mul]

end Cert.ReferenceIdeal.Hand
-- ==== Proof.GeomComputedIdeal.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.ComputedIdeal
public import proofs.«01_k».proof.Proof.Gen.ComputedIdeal.Skeleton

@[expose] public section

/-! # Where each tile's chunks lie

The tile on SparseCore `c`, subcore `s` has number `g = 2 s + c`. It owns image `g / 8` and, of that
image, the band of 28 rows from `28 (g % 8)`. The band is cut into 28 chunks of 4 rows by 56 columns
by all 128 channels; chunk `k` starts at row `4 (k / 4)` and column `56 (k % 4)` of the band. This
module gives the chunks their closed form, identifies every slice the kernel takes with one of
them, and shows that the chunks of all tiles are a partition of the array. -/

noncomputable section

namespace Cert.ComputedIdeal.Hand

open Cert.ComputedIdeal Cert.ComputedIdeal.Gen
open Idealize.ShloMosaic

/-- The number of the tile at launch coordinates `L`. -/
def tileNo (L : grid0.Coords) : ℕ := (L 1).val * 2 + (L 0).val

theorem tileNo_lt (L : grid0.Coords) : tileNo L < 32 := by
  have h0 : (L 0).val < 2 := (L 0).isLt
  have h1 : (L 1).val < 16 := (L 1).isLt
  unfold tileNo; omega

/-- Where chunk `k` of tile `g` starts. (`k` is read modulo 28, so that it is a place for every `k`.) -/
def chunkOff (g k : ℕ) : Fin 4 → ℕ := ![g / 8, (g % 8) * 28 + ((k % 28) / 4) * 4, (k % 28 % 4) * 56, 0]

theorem chunkOff_inb {g : ℕ} (hg : g < 32) (k : ℕ) :
    ∀ a, chunkOff g k a + S1x4x56x128.size a ≤ S4x224x224x128.size a := by
  have h0 : g / 8 + 1 ≤ 4 := by omega
  have h1 : (g % 8) * 28 + ((k % 28) / 4) * 4 + 4 ≤ 224 := by omega
  have h2 : (k % 28 % 4) * 56 + 56 ≤ 224 := by omega
  intro a
  match a with
  | 0 => exact h0
  | 1 => exact h1
  | 2 => exact h2
  | 3 => exact Nat.le_refl 128

/-- The box of chunk `k` of the tile at `L`. -/
def chunkRect (L : grid0.Coords) (k : ℕ) : Rect S4x224x224x128 :=
  Rect.unit (s := S4x224x224x128) (chunkOff (tileNo L) k) S1x4x56x128.size (chunkOff_inb (tileNo_lt L) k)

/-- Chunk `k` of a whole-array memref. -/
def chunkOf (m : Memref sig .scVector .hbm S4x224x224x128 .f32) (L : grid0.Coords) (k : ℕ) :
    Memref sig .scVector .hbm S4x56x128 .f32 :=
  (m.slice (chunkRect L k) (fun _ => rfl)).squeeze S4x56x128 squeezes_S1x4x56x128_S4x56x128

/-- A slice whose offsets are a chunk's is that chunk. -/
theorem chunkOf_of_off (m : Memref sig .scVector .hbm S4x224x224x128 .f32) (L : grid0.Coords) (k : ℕ)
    {off : Fin 4 → ℕ} (h : off = chunkOff (tileNo L) k)
    (p : ∀ a, off a + S1x4x56x128.size a ≤ S4x224x224x128.size a) :
    (m.slice (Rect.unit (s := S4x224x224x128) off S1x4x56x128.size p) (fun _ => rfl)).squeeze S4x56x128
      squeezes_S1x4x56x128_S4x56x128 = chunkOf m L k := by
  subst h; rfl

/-! ## The kernel's offsets -/

/-- The launch coordinates of a pair of numbers. -/
def coordsV (c : Fin 2) (s : Fin 16) : grid0.Coords :=
  fun | 0 => c | 1 => s | ⟨_ + 2, h⟩ => absurd h (Nat.not_lt.2 (Nat.le_add_left _ _))

theorem coords_eq (L : grid0.Coords) : L = coordsV (L 0) (L 1) := by
  funext a
  match a with
  | 0 => rfl
  | 1 => rfl
  | ⟨_ + 2, h⟩ => exact absurd h (Nat.not_lt.2 (Nat.le_add_left _ _))

theorem off1_first (L : grid0.Coords) : k0_off1 L 0#32 = chunkOff (tileNo L) 0 := by
  rw [coords_eq L]; generalize L 0 = c; generalize L 1 = s; revert c s; decide +kernel
theorem off2_first (L : grid0.Coords) : k0_off2 L 0#32 = chunkOff (tileNo L) 1 := by
  rw [coords_eq L]; generalize L 0 = c; generalize L 1 = s; revert c s; decide +kernel
theorem off3_first (L : grid0.Coords) : k0_off3 L 0#32 = chunkOff (tileNo L) 2 := by
  rw [coords_eq L]; generalize L 0 = c; generalize L 1 = s; revert c s; decide +kernel
theorem off4_first (L : grid0.Coords) : k0_off4 L 0#32 = chunkOff (tileNo L) 3 := by
  rw [coords_eq L]; generalize L 0 = c; generalize L 1 = s; revert c s; decide +kernel

theorem off5_0 (L : grid0.Coords) (t : Fin k0_t1_loop.trips) :
    k0_off5 L t 0#32 = chunkOff (tileNo L) (4 * t.val + 0) := by
  rw [coords_eq L]; generalize L 0 = c; generalize L 1 = s; revert c s t; decide +kernel
theorem off5_1 (L : grid0.Coords) (t : Fin k0_t1_loop.trips) :
    k0_off5 L t 1#32 = chunkOff (tileNo L) (4 * t.val + 1) := by
  rw [coords_eq L]; generalize L 0 = c; generalize L 1 = s; revert c s t; decide +kernel
theorem off5_2 (L : grid0.Coords) (t : Fin k0_t1_loop.trips) :
    k0_off5 L t 2#32 = chunkOff (tileNo L) (4 * t.val + 2) := by
  rw [coords_eq L]; generalize L 0 = c; generalize L 1 = s; revert c s t; decide +kernel
theorem off5_3 (L : grid0.Coords) (t : Fin k0_t1_loop.trips) :
    k0_off5 L t 3#32 = chunkOff (tileNo L) (4 * t.val + 3) := by
  rw [coords_eq L]; generalize L 0 = c; generalize L 1 = s; revert c s t; decide +kernel

theorem off51_eq (L : grid0.Coords) (t : Fin k0_t1_loop.trips) :
    k0_off51 L t = chunkOff (tileNo L) (4 * t.val + 2) := by
  rw [coords_eq L]; generalize L 0 = c; generalize L 1 = s; revert c s t; decide +kernel
theorem off97_eq (L : grid0.Coords) (t : Fin k0_t1_loop.trips) :
    k0_off97 L t = chunkOff (tileNo L) (4 * t.val + 3) := by
  rw [coords_eq L]; generalize L 0 = c; generalize L 1 = s; revert c s t; decide +kernel
theorem off143_eq (L : grid0.Coords) (t : Fin k0_t1_loop.trips) (h : t.val < 6) :
    k0_off143 L t = chunkOff (tileNo L) (4 * t.val + 4) := by
  rw [coords_eq L]; generalize L 0 = c; generalize L 1 = s; revert c s t; decide +kernel
theorem off189_eq (L : grid0.Coords) (t : Fin k0_t1_loop.trips) (h : t.val < 6) :
    k0_off189 L t = chunkOff (tileNo L) (4 * t.val + 5) := by
  rw [coords_eq L]; generalize L 0 = c; generalize L 1 = s; revert c s t; decide +kernel

theorem cond1_iff (t : Fin k0_t1_loop.trips) : k0_cond1 t = 1#1 ↔ 0 < t.val := by
  revert t; decide +kernel
theorem cond2_iff (t : Fin k0_t1_loop.trips) : k0_cond2 t = 1#1 ↔ 0 < t.val := by
  revert t; decide +kernel
theorem cond3_iff (t : Fin k0_t1_loop.trips) : k0_cond3 t = 1#1 ↔ t.val < 6 := by
  revert t; decide +kernel
theorem cond4_iff (t : Fin k0_t1_loop.trips) : k0_cond4 t = 1#1 ↔ t.val < 6 := by
  revert t; decide +kernel

/-! ## The chunks are a partition -/

/-- The places of chunk `k` of the tile at `L`. -/
def chunkSet (L : grid0.Coords) (k : ℕ) : Finset S4x224x224x128.Idx := (chunkRect L k).set

theorem mem_chunkSet (L : grid0.Coords) (k : ℕ) (i : S4x224x224x128.Idx) :
    i ∈ chunkSet L k ↔ (i 0).val = tileNo L / 8 ∧
      (i 1).val / 4 = (tileNo L % 8) * 7 + (k % 28) / 4 ∧ (i 2).val / 56 = k % 28 % 4 := by
  unfold chunkSet chunkRect
  rw [Rect.mem_set_unit]
  have h3 : (i 3).val < 128 := (i 3).isLt
  have h2 : (i 2).val < 224 := (i 2).isLt
  have h1 : (i 1).val < 224 := (i 1).isLt
  have h0 : (i 0).val < 4 := (i 0).isLt
  constructor
  · intro h
    have a0 : tileNo L / 8 ≤ (i 0).val ∧ (i 0).val < tileNo L / 8 + 1 := h 0
    have a1 : (tileNo L % 8) * 28 + ((k % 28) / 4) * 4 ≤ (i 1).val ∧
      (i 1).val < (tileNo L % 8) * 28 + ((k % 28) / 4) * 4 + 4 := h 1
    have a2 : (k % 28 % 4) * 56 ≤ (i 2).val ∧ (i 2).val < (k % 28 % 4) * 56 + 56 := h 2
    omega
  · rintro ⟨b0, b1, b2⟩ a
    match a with
    | 0 => show tileNo L / 8 ≤ (i 0).val ∧ (i 0).val < tileNo L / 8 + 1; omega
    | 1 =>
      show (tileNo L % 8) * 28 + ((k % 28) / 4) * 4 ≤ (i 1).val ∧
        (i 1).val < (tileNo L % 8) * 28 + ((k % 28) / 4) * 4 + 4
      omega
    | 2 => show (k % 28 % 4) * 56 ≤ (i 2).val ∧ (i 2).val < (k % 28 % 4) * 56 + 56; omega
    | 3 => show 0 ≤ (i 3).val ∧ (i 3).val < 0 + 128; omega

/-- A chunk's name: SparseCore, subcore, chunk number. -/
abbrev ChunkName : Type := Fin 2 × Fin 16 × Fin 28

/-- The places of the chunk of that name. -/
def nameSet (n : ChunkName) : Finset S4x224x224x128.Idx := chunkSet (coordsV n.1 n.2.1) n.2.2.val

/-- The chunk a place lies in. -/
def nameOf (i : S4x224x224x128.Idx) : ChunkName :=
  have h2 : (i 2).val < 224 := (i 2).isLt
  have h1 : (i 1).val < 224 := (i 1).isLt
  have h0 : (i 0).val < 4 := (i 0).isLt
  ⟨⟨((i 0).val * 8 + (i 1).val / 28) % 2, by omega⟩, ⟨((i 0).val * 8 + (i 1).val / 28) / 2, by omega⟩,
    ⟨((i 1).val % 28) / 4 * 4 + (i 2).val / 56, by omega⟩⟩

theorem mem_nameSet (n : ChunkName) (i : S4x224x224x128.Idx) : i ∈ nameSet n ↔ n = nameOf i := by
  obtain ⟨c, s, k⟩ := n
  have h2 : (i 2).val < 224 := (i 2).isLt
  have h1 : (i 1).val < 224 := (i 1).isLt
  have h0 : (i 0).val < 4 := (i 0).isLt
  have hk := k.isLt
  have hc := c.isLt
  have hs := s.isLt
  unfold nameSet nameOf
  rw [mem_chunkSet]
  have hg : tileNo (coordsV c s) = s.val * 2 + c.val := rfl
  rw [hg]
  simp only [Prod.mk.injEq, Fin.ext_iff]
  omega

theorem nameSet_disjoint (n n' : ChunkName) (h : n ≠ n') : Disjoint (nameSet n) (nameSet n') := by
  rw [Finset.disjoint_left]
  intro i hi hi'
  exact h (((mem_nameSet n i).mp hi).trans ((mem_nameSet n' i).mp hi').symm)

theorem nameSet_cover : (Finset.univ : Finset ChunkName).biUnion nameSet = Finset.univ := by
  ext i
  simp only [Finset.mem_biUnion, Finset.mem_univ, true_and, iff_true]
  exact ⟨nameOf i, (mem_nameSet _ i).mpr rfl⟩

/-! ## A chunk of a whole array -/

/-- The whole input array, as a tile names it. -/
abbrev xV : Memref sig .scVector .hbm S4x224x224x128 .f32 := Memref.whole main_v0_scv
/-- The whole output array, as a tile names it. -/
abbrev yV : Memref sig .scVector .hbm S4x224x224x128 .f32 := Memref.whole main_v1_scv

theorem chunk_set_x (L : grid0.Coords) (k : ℕ) : (chunkOf xV L k).view.set = chunkSet L k := by
  have h : ∀ (s : Shape) (hs : s.numel = (chunkRect L k).shape.numel),
      (((View.whole main_v0_scv).slice (chunkRect L k)).reshape s hs).set = chunkSet L k := fun s hs => by
    rw [View.set_reshape]; exact View.set_slice_whole _ _
  exact h _ _

theorem chunk_set_y (L : grid0.Coords) (k : ℕ) : (chunkOf yV L k).view.set = chunkSet L k := by
  have h : ∀ (s : Shape) (hs : s.numel = (chunkRect L k).shape.numel),
      (((View.whole main_v1_scv).slice (chunkRect L k)).reshape s hs).set = chunkSet L k := fun s hs => by
    rw [View.set_reshape]; exact View.set_slice_whole _ _
  exact h _ _

end Cert.ComputedIdeal.Hand
-- ==== Proof.CopiesComputedIdeal.lean ====
module

public import proofs.«01_k».proof.Proof.GeomComputedIdeal
public import Idealize.ShloMosaic.Lib.Transfers

@[expose] public section

/-! # One copy at a time

Every copy of the kernel goes between a chunk of an array and one of four buffers, and every buffer has a semaphore
for the copy that fills it and one for the copy that empties it. A chunk is in one of four states:
not yet read (`pend`), on its way into a buffer (`inFl`), on its way out of it (`outFl`), or done
(`done`). This module states what starting and awaiting a copy does to that state, for any chunk,
buffer and pair of semaphores. -/

noncomputable section

namespace Cert.ComputedIdeal.Hand

open Cert.ComputedIdeal Cert.ComputedIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type}

/-! ## The launch's names and ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own rounds, and the counters the copies take their tokens from. -/
abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-- The input and output arrays, as locations of device `d`. -/
abbrev xLoc (d : Dev nD) : Loc nD τ sig := (SparseCore.T d).loc main_v0
abbrev yLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The tile at `L`, as a thread of device `d`. -/
abbrev thr (d : Dev nD) (L : grid0.Coords) : Thread nD τ := V d (cV L) (jV L)

/-- A tile's buffer, as one of the kernel's four. -/
abbrev BufM : Type := Memref sig .scVector .vmem S4x56x128 .f32

section Steps

variable [FloatOps F] (d : Dev nD) (L : grid0.Coords)

/-- What chunk `k` of the input holds. -/
def inVal (X : Buf (Elt F) (xLoc d)) (k : ℕ) : S4x56x128.Idx → Elt F .f32 :=
  (chunkOf xV L k).view.read (Elt F) X

/-- What chunk `k` of an output holds. -/
def outVal (Y : Buf (Elt F) (yLoc d)) (k : ℕ) : S4x56x128.Idx → Elt F .f32 :=
  (chunkOf yV L k).view.read (Elt F) Y

/-- Chunk `k` of the input, holding what `X` says. -/
def xP (X : Buf (Elt F) (xLoc d)) (k : ℕ) : sProp 𝕄 := xLoc d ↦[chunkSet L k]{fullShare} X
/-- Chunk `k` of the output, holding what `Y` says. -/
def yP (Y : Buf (Elt F) (yLoc d)) (k : ℕ) : sProp 𝕄 := yLoc d ↦[chunkSet L k]{fullShare} Y

/-- The buffer `B` of the tile, reading as `v`. -/
def bufIs (B : BufM) (v : S4x56x128.Idx → Elt F .f32) : sProp 𝕄 :=
  iprop(∃ f : Buf (Elt F) (B.view.loc (thr d L)), ⌜B.view.read (Elt F) f = v⌝
    ∗ B.view.loc (thr d L) ↦[B.view.set]{fullShare} f)
/-- The buffer `B` of the tile, holding anything. -/
def bufAny (B : BufM) : sProp 𝕄 := iprop(∃ v, bufIs d L B v)

/-- A semaphore of the tile at zero. -/
abbrev sem0 (s : DmaSem sig) : sProp 𝕄 := semVal (thr d L, SemLoc.dma s) 0

/-- How far a copy into `B`, and one out to chunk `k`, move their semaphores. -/
abbrev NIn (B : BufM) : ℕ := B.view.dmaCredit
abbrev NOut : ℕ := (chunkOf yV L 0).view.dmaCredit

/-- Chunk `k` on its way into `B`; its place in the output still holds `y₀`. -/
def inFl (X : Buf (Elt F) (xLoc d)) (y₀ : Buf (Elt F) (yLoc d)) (B : BufM) (si so : DmaSem sig) (k : ℕ) : sProp 𝕄 :=
  iprop(Flight countersEmb (thr d L) (SemLoc.dma si) (none : HIx 1) (NIn B) iprop(bufIs d L B (inVal d L X k) ∗ xP d L X k)
    ∗ yP d L y₀ k ∗ sem0 d L so)

/-- Chunk `k` on its way from `B` to the output, where it makes `Y`. -/
def outFl (X : Buf (Elt F) (xLoc d)) (Y : Buf (Elt F) (yLoc d)) (B : BufM) (si so : DmaSem sig) (k : ℕ) : sProp 𝕄 :=
  iprop(Flight countersEmb (thr d L) (SemLoc.dma so) (none : HIx 1) (NOut L) iprop(yP d L Y k ∗ bufAny d L B)
    ∗ xP d L X k ∗ sem0 d L si)

/-- Every chunk's copy out moves its semaphore as far. -/
theorem credit_out (off : Fin 4 → ℕ) (p : ∀ a, off a + S1x4x56x128.size a ≤ S4x224x224x128.size a) :
    ((yV.slice (Rect.unit (s := S4x224x224x128) off S1x4x56x128.size p) (fun _ => rfl)).squeeze S4x56x128
      squeezes_S1x4x56x128_S4x56x128).view.dmaCredit = NOut L := rfl

/-- What the tile owes its launch, and that it may wait on any of its own semaphores. -/
def ow (O : CellTallies nD τ sig (HIx 1)) (W : Waits sig (HIx 1)) : sProp 𝕄 :=
  iprop(MayWaits (thr d L) (none : HIx 1) O ∗ ∃ W', ⌜∀ p ∈ W', p ∈ W ∨ p.2 = none⌝ ∗ owes (thr d L) O W')

variable {d L} {X : Buf (Elt F) (xLoc d)} {y₀ Y : Buf (Elt F) (yLoc d)}
  {O : CellTallies nD τ sig (HIx 1)} {W : Waits sig (HIx 1)} {B : BufM} {si so : DmaSem sig}
  {α : Type} {Q : α → sProp (MT nD τ sig (HIx 1) (Elt F) ℕ UU ℕ)}

theorem pts_x (X : Buf (Elt F) (xLoc d)) (k : ℕ) :
    ((chunkOf xV L k).view.loc (thr d L) ↦[(chunkOf xV L k).view.set]{fullShare} X : sProp 𝕄) = xP d L X k := by
  unfold xP; rw [chunk_set_x]; rfl
theorem pts_y (Y : Buf (Elt F) (yLoc d)) (k : ℕ) :
    ((chunkOf yV L k).view.loc (thr d L) ↦[(chunkOf yV L k).view.set]{fullShare} Y : sProp 𝕄) = yP d L Y k := by
  unfold yP; rw [chunk_set_y]; rfl

/-- The output after chunk `k` was written with what `Y` has there. -/
theorem yP_write (k : ℕ) (w : S4x56x128.Idx → Elt F .f32) (hw : w = outVal d L Y k) :
    ((chunkOf yV L k).view.loc (thr d L) ↦[(chunkOf yV L k).view.set]{fullShare}
      ((chunkOf yV L k).view.write (Elt F) y₀ w Finset.univ) : sProp 𝕄) = yP d L Y k := by
  rw [← pts_y]
  refine pointsTo_congr fun i hi => ?_
  obtain ⟨j, -, rfl⟩ := Finset.mem_map.mp hi
  subst hw
  exact (View.write_emb_of_mem (v := (chunkOf yV L k).view) y₀ (outVal d L Y k) (Finset.mem_univ j)).trans rfl

/-- Starting the copy of chunk `k` into a free buffer. -/
theorem start_in {κ : PUnit → Prog (TpuEff nD τ sig (Elt F) Λ₀ (thr d L).2) α} (k : ℕ)
    {src : Memref sig .scVector .hbm S4x56x128 .f32} (hs : src = chunkOf xV L k)
    {h1 : src.view.WordExact} {h2 : B.view.WordExact} {h3 : DmaTarget.Typed (nD := nD) (p := (thr d L).2) (.hbm) (SemLoc.dma si) (.here B)} :
    iprop(xP d L X k ∗ yP d L y₀ k ∗ bufAny d L B ∗ sem0 d L si ∗ sem0 d L so)
      ⊢ iprop((inFl d L X y₀ B si so k -∗ wp frame (wpE (defs₀ (F := F)) 𝒱₀ (thr d L) none) Set.univ (κ ⟨⟩) Q)
          -∗ wp frame (wpE (defs₀ (F := F)) 𝒱₀ (thr d L) none) Set.univ
              (.op (.enqueueDma src (.here B) (SemLoc.dma si) h1 h2 h3) κ) Q) := by
  subst hs
  unfold bufAny bufIs inFl
  iintro ⟨Hx, Hy, ⟨%v, %f, %hf, Hb⟩, Hsi, Hso⟩ Hk
  iapply (Transfers.wp_dmaLocal countersEmb 𝒱₀ (thr d L) none (none : HIx 1) (NIn B) rfl
    (View.dmaCredit_pos _ (by decide)) (Finset.Subset.refl _)) $$ [Hx Hb Hsi]
  · isplitl [Hx]
    · iapply (Entails.of_eq (pts_x X k).symm); iexact Hx
    · isplitl [Hb]
      · iexact Hb
      · iexact Hsi
  · iintro Hfl
    iapply Hk
    isplitl [Hfl]
    · have hmono := Transfers.Flight_mono (Ix := HIx 1) (EC := (countersEmb : UEmb Counters 𝕄)) (c := thr d L) (sm := SemLoc.dma si) (ι := none) (N := NIn B)
        (D := iprop((B.view.loc (thr d L) ↦[B.view.set]{fullShare} (B.view.write (Elt F) f ((ReadAs.same : ReadAs (Elt F) S4x56x128 .f32 S4x56x128 .f32).apply ((chunkOf xV L k).view.read (Elt F) X)) Finset.univ))
          ∗ ((chunkOf xV L k).view.loc (thr d L) ↦[(chunkOf xV L k).view.set]{fullShare} X)))
        (D' := iprop(bufIs d L B (inVal d L X k) ∗ xP d L X k)) (by
          unfold bufIs
          iintro ⟨Hb, Hx⟩
          isplitl [Hb]
          · iexists (B.view.write (Elt F) f (inVal d L X k) Finset.univ)
            isplitr
            · ipureintro; exact View.read_write_univ _ _
            · iexact Hb
          · iapply (Entails.of_eq (pts_x X k)); iexact Hx)
      iapply hmono $$ [Hfl]
      iexact Hfl
    · isplitl [Hy]
      · iexact Hy
      · iexact Hso

/-- Awaiting the copy of chunk `k` into its buffer. -/
theorem wait_in {κ : PUnit → Prog (TpuEff nD τ sig (Elt F) Λ₀ (thr d L).2) α} (k : ℕ)
    {src : Memref sig .scVector .hbm S4x56x128 .f32} {h1 : src.view.WordExact} {h2 : B.view.WordExact} :
    iprop(inFl d L X y₀ B si so k ∗ ow d L O W)
      ⊢ iprop((iprop(bufIs d L B (inVal d L X k) ∗ xP d L X k ∗ yP d L y₀ k ∗ sem0 d L si ∗ sem0 d L so ∗ ow d L O W)
            -∗ wp frame (wpE (defs₀ (F := F)) 𝒱₀ (thr d L) none) Set.univ (κ ⟨⟩) Q)
          -∗ wp frame (wpE (defs₀ (F := F)) 𝒱₀ (thr d L) none) Set.univ (.op (.waitDma2 si src B h1 h2) κ) Q) := by
  unfold inFl ow
  iintro ⟨⟨Hfl, Hy, Hso⟩, #Hmw, %W', %hW', HO⟩ Hk
  iapply (Transfers.wp_waitLocalO countersEmb 𝒱₀ (thr d L) none (none : HIx 1) (rfl : B.view.dmaCredit = NIn B)) $$ [Hfl HO]
  · isplitl [Hfl]; · iexact Hfl
    isplitl [HO]; · iexact HO
    iapply (Transfers.MayWaits.elim (SemLoc.dma si)); iexact Hmw
  · iintro ⟨⟨Hb, Hx⟩, Hsi, HO⟩
    iapply Hk
    isplitl [Hb]; · iexact Hb
    isplitl [Hx]; · iexact Hx
    isplitl [Hy]; · iexact Hy
    isplitl [Hsi]; · iexact Hsi
    isplitl [Hso]; · iexact Hso
    isplitr; · iexact Hmw
    iexists _
    isplitr
    swap; · iexact HO
    ipureintro
    intro p hp
    rcases Finset.mem_insert.mp hp with rfl | hp
    · exact Or.inr rfl
    · exact hW' p hp

/-- Starting the copy of a buffer out to chunk `k`, the buffer holding what the output is to hold there. -/
theorem start_out {κ : PUnit → Prog (TpuEff nD τ sig (Elt F) Λ₀ (thr d L).2) α} (k : ℕ)
    {dst : Memref sig .scVector .hbm S4x56x128 .f32} (hd : dst = chunkOf yV L k)
    {h1 : B.view.WordExact} {h2 : dst.view.WordExact} {h3 : DmaTarget.Typed (nD := nD) (p := (thr d L).2) (.vmem) (SemLoc.dma so) (.here dst)} :
    iprop(bufIs d L B (outVal d L Y k) ∗ xP d L X k ∗ yP d L y₀ k ∗ sem0 d L si ∗ sem0 d L so)
      ⊢ iprop((outFl d L X Y B si so k -∗ wp frame (wpE (defs₀ (F := F)) 𝒱₀ (thr d L) none) Set.univ (κ ⟨⟩) Q)
          -∗ wp frame (wpE (defs₀ (F := F)) 𝒱₀ (thr d L) none) Set.univ
              (.op (.enqueueDma B (.here dst) (SemLoc.dma so) h1 h2 h3) κ) Q) := by
  subst hd
  unfold bufIs outFl
  iintro ⟨⟨%f, %hf, Hb⟩, Hx, Hy, Hsi, Hso⟩ Hk
  iapply (Transfers.wp_dmaLocal countersEmb 𝒱₀ (thr d L) none (none : HIx 1) (NOut L) rfl
    (View.dmaCredit_pos _ (by decide)) (Finset.Subset.refl _)) $$ [Hy Hb Hso]
  · isplitl [Hb]
    · iexact Hb
    · isplitl [Hy]
      · iapply (Entails.of_eq (pts_y y₀ k).symm); iexact Hy
      · iexact Hso
  · iintro Hfl
    iapply Hk
    isplitl [Hfl]
    · have hmono := Transfers.Flight_mono (Ix := HIx 1) (EC := (countersEmb : UEmb Counters 𝕄)) (c := thr d L) (sm := SemLoc.dma so) (ι := none) (N := NOut L)
        (D := iprop(((chunkOf yV L k).view.loc (thr d L) ↦[(chunkOf yV L k).view.set]{fullShare} ((chunkOf yV L k).view.write (Elt F) y₀ ((ReadAs.same : ReadAs (Elt F) S4x56x128 .f32 S4x56x128 .f32).apply (B.view.read (Elt F) f)) Finset.univ))
          ∗ (B.view.loc (thr d L) ↦[B.view.set]{fullShare} f)))
        (D' := iprop(yP d L Y k ∗ bufAny d L B)) (by
          unfold bufAny bufIs
          rw [ReadAs.apply_same, yP_write k _ hf]
          iintro ⟨Hy, Hb⟩
          isplitl [Hy]
          · iexact Hy
          · iexists _, _
            isplitr
            swap; · iexact Hb
            ipureintro; rfl)
      iapply hmono $$ [Hfl]
      iexact Hfl
    · isplitl [Hx]
      · iexact Hx
      · iexact Hsi

/-- Awaiting the copy of a buffer out to chunk `k`. -/
theorem wait_out {κ : PUnit → Prog (TpuEff nD τ sig (Elt F) Λ₀ (thr d L).2) α} (k : ℕ)
    {dst : Memref sig .scVector .hbm S4x56x128 .f32} {h1 : B.view.WordExact} {h2 : dst.view.WordExact}
    (hN : dst.view.dmaCredit = NOut L) :
    iprop(outFl d L X Y B si so k ∗ ow d L O W)
      ⊢ iprop((iprop(xP d L X k ∗ yP d L Y k ∗ bufAny d L B ∗ sem0 d L si ∗ sem0 d L so ∗ ow d L O W)
            -∗ wp frame (wpE (defs₀ (F := F)) 𝒱₀ (thr d L) none) Set.univ (κ ⟨⟩) Q)
          -∗ wp frame (wpE (defs₀ (F := F)) 𝒱₀ (thr d L) none) Set.univ (.op (.waitDma2 so B dst h1 h2) κ) Q) := by
  unfold outFl ow
  iintro ⟨⟨Hfl, Hx, Hsi⟩, #Hmw, %W', %hW', HO⟩ Hk
  iapply (Transfers.wp_waitLocalO countersEmb 𝒱₀ (thr d L) none (none : HIx 1) hN) $$ [Hfl HO]
  · isplitl [Hfl]; · iexact Hfl
    isplitl [HO]; · iexact HO
    iapply (Transfers.MayWaits.elim (SemLoc.dma so)); iexact Hmw
  · iintro ⟨⟨Hy, Hb⟩, Hso, HO⟩
    iapply Hk
    isplitl [Hx]; · iexact Hx
    isplitl [Hy]; · iexact Hy
    isplitl [Hb]; · iexact Hb
    isplitl [Hsi]; · iexact Hsi
    isplitl [Hso]; · iexact Hso
    isplitr; · iexact Hmw
    iexists _
    isplitr
    swap; · iexact HO
    ipureintro
    intro p hp
    rcases Finset.mem_insert.mp hp with rfl | hp
    · exact Or.inr rfl
    · exact hW' p hp

/-- A buffer refilled: the copy of chunk `k` out of it is awaited and the copy of chunk `k'` into it started. -/
theorem refill {κ : PUnit → Prog (TpuEff nD τ sig (Elt F) Λ₀ (thr d L).2) α} (k k' : ℕ)
    {src dst : Memref sig .scVector .hbm S4x56x128 .f32} (hN : dst.view.dmaCredit = NOut L) (hs : src = chunkOf xV L k')
    {a1 : B.view.WordExact} {a2 : dst.view.WordExact} {h1 : src.view.WordExact} {h2 : B.view.WordExact}
    {h3 : DmaTarget.Typed (nD := nD) (p := (thr d L).2) (.hbm) (SemLoc.dma si) (.here B)} :
    iprop(outFl d L X Y B si so k ∗ (xP d L X k' ∗ yP d L y₀ k') ∗ ow d L O W)
      ⊢ iprop((iprop(inFl d L X y₀ B si so k' ∗ (xP d L X k ∗ yP d L Y k) ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 so B dst a1 a2) fun _ => .op (.enqueueDma src (.here B) (SemLoc.dma si) h1 h2 h3) κ) Q) := by
  iintro ⟨Hout, ⟨Hx', Hy'⟩, How⟩ Hk
  iapply (wait_out k hN) $$ [Hout How]
  · isplitl [Hout]; · iexact Hout
    iexact How
  iintro ⟨Hx, Hy, Hb, Hsi, Hso, How⟩
  iapply (start_in k' hs) $$ [Hx' Hy' Hb Hsi Hso]
  · isplitl [Hx']; · iexact Hx'
    isplitl [Hy']; · iexact Hy'
    isplitl [Hb]; · iexact Hb
    isplitl [Hsi]; · iexact Hsi
    iexact Hso
  iintro Hin
  iapply Hk
  isplitl [Hin]; · iexact Hin
  isplitl [Hx Hy]
  · isplitl [Hx]; · iexact Hx
    iexact Hy
  iexact How

end Steps

end Cert.ComputedIdeal.Hand
-- ==== Proof.KeepComputedIdeal.lean ====
module

public import proofs.«01_k».proof.Proof.CopiesComputedIdeal

@[expose] public section

/-! # What the kernel makes of a chunk

In channels 0..63 a block is 2 rows by 2 columns of one channel, in channels 64..111 it is 4 by 4, and channels
112..127 have none. An element is kept if the sum of its block is at least 0, and is replaced by 0
otherwise; the channels without blocks are kept. This module states that for a chunk and for
the whole array, and that the chunks of the whole array's are the chunks'. -/

noncomputable section

namespace Cert.ComputedIdeal.Hand

open Cert.ComputedIdeal Cert.ComputedIdeal.Gen
open Idealize.ShloMosaic

variable {F : FTy → Type} [FloatOps F]

/-- `x` if `s` is at least 0, and 0 otherwise. -/
def keepIf (s x : F .f32) : F .f32 :=
  Scalar.select (FloatOps.cmpf .oge s (Scalar.ofBits .f32 0x00000000#32)) x (Scalar.ofBits .f32 0x00000000#32)

/-- The sum of four, two by two. -/
def add4 (a b c d : F .f32) : F .f32 := FloatOps.addf (FloatOps.addf a b) (FloatOps.addf c d)

/-- The sum over a 2 by 2 block whose elements `v` names by row and column. -/
def sum2 (v : ℕ → ℕ → F .f32) : F .f32 := add4 (v 0 0) (v 0 1) (v 1 0) (v 1 1)

/-- The sum over a 4 by 4 block, row by row. -/
def sum4 (v : ℕ → ℕ → F .f32) : F .f32 :=
  add4 (add4 (v 0 0) (v 0 1) (v 0 2) (v 0 3)) (add4 (v 1 0) (v 1 1) (v 1 2) (v 1 3))
    (add4 (v 2 0) (v 2 1) (v 2 2) (v 2 3)) (add4 (v 3 0) (v 3 1) (v 3 2) (v 3 3))

theorem sum2_congr {v w : ℕ → ℕ → F .f32} (h : ∀ r c, r < 2 → c < 2 → v r c = w r c) : sum2 v = sum2 w := by
  unfold sum2
  rw [h 0 0 (by decide) (by decide), h 0 1 (by decide) (by decide), h 1 0 (by decide) (by decide), h 1 1 (by decide) (by decide)]

theorem sum4_congr {v w : ℕ → ℕ → F .f32} (h : ∀ r c, r < 4 → c < 4 → v r c = w r c) : sum4 v = sum4 w := by
  unfold sum4
  rw [h 0 0 (by decide) (by decide), h 0 1 (by decide) (by decide), h 0 2 (by decide) (by decide), h 0 3 (by decide) (by decide),
    h 1 0 (by decide) (by decide), h 1 1 (by decide) (by decide), h 1 2 (by decide) (by decide), h 1 3 (by decide) (by decide),
    h 2 0 (by decide) (by decide), h 2 1 (by decide) (by decide), h 2 2 (by decide) (by decide), h 2 3 (by decide) (by decide),
    h 3 0 (by decide) (by decide), h 3 1 (by decide) (by decide), h 3 2 (by decide) (by decide), h 3 3 (by decide) (by decide)]

/-! ## A chunk -/

/-- The place of a chunk in row `r`, column `c` and the channel of `i`. -/
def cell (i : S4x56x128.Idx) (r c : ℕ) : S4x56x128.Idx :=
  fun | 0 => ⟨r % 4, Nat.mod_lt _ (by decide)⟩ | 1 => ⟨c % 56, Nat.mod_lt _ (by decide)⟩ | 2 => i 2

/-- What the kernel makes of the chunk `v`. -/
def keep (v : S4x56x128.Idx → F .f32) (i : S4x56x128.Idx) : F .f32 :=
  if (i 2).val < 64 then
    keepIf (sum2 fun r c => v (cell i ((i 0).val / 2 * 2 + r) ((i 1).val / 2 * 2 + c))) (v i)
  else if (i 2).val < 112 then
    keepIf (sum4 fun r c => v (cell i ((i 0).val / 4 * 4 + r) ((i 1).val / 4 * 4 + c))) (v i)
  else v i

/-! ## The whole array -/

/-- The place of the array in row `r`, column `c` and the image and channel of `i`. -/
def cellA (i : S4x224x224x128.Idx) (r c : ℕ) : S4x224x224x128.Idx :=
  fun | 0 => i 0 | 1 => ⟨r % 224, Nat.mod_lt _ (by decide)⟩ | 2 => ⟨c % 224, Nat.mod_lt _ (by decide)⟩ | 3 => i 3

/-- What the kernel makes of the array `v`. -/
def keepA (v : S4x224x224x128.Idx → F .f32) (i : S4x224x224x128.Idx) : F .f32 :=
  if (i 3).val < 64 then
    keepIf (sum2 fun r c => v (cellA i ((i 1).val / 2 * 2 + r) ((i 2).val / 2 * 2 + c))) (v i)
  else if (i 3).val < 112 then
    keepIf (sum4 fun r c => v (cellA i ((i 1).val / 4 * 4 + r) ((i 2).val / 4 * 4 + c))) (v i)
  else v i

/-- What the tiles make of the input. -/
def outOf (d : Dev nD) (X : Buf (Elt F) (xLoc d)) : Buf (Elt F) (yLoc d) :=
  keepA (F := F) (X : S4x224x224x128.Idx → F .f32)

/-- The place in the array of a chunk's place `j`. -/
def place (g k : ℕ) (j : S4x56x128.Idx) : S4x224x224x128.Idx :=
  fun | 0 => ⟨g / 8 % 4, Nat.mod_lt _ (by decide)⟩
      | 1 => ⟨((g % 8) * 28 + ((k % 28) / 4) * 4 + (j 0).val) % 224, Nat.mod_lt _ (by decide)⟩
      | 2 => ⟨((k % 28 % 4) * 56 + (j 1).val) % 224, Nat.mod_lt _ (by decide)⟩
      | 3 => j 2

/-- Blocks do not cross chunks: what the kernel makes of a chunk is the chunk of what it makes of the array. -/
theorem keep_place (v : S4x224x224x128.Idx → F .f32) (g k : ℕ) (hg : g < 32) (j : S4x56x128.Idx) :
    keep (fun i => v (place g k i)) j = keepA v (place g k j) := by
  have h0 : (j 0).val < 4 := (j 0).isLt
  have h1 : (j 1).val < 56 := (j 1).isLt
  have hc : ∀ b r c : ℕ, (b = 2 ∨ b = 4) → r < b → c < b →
      place g k (cell j ((j 0).val / b * b + r) ((j 1).val / b * b + c))
        = cellA (place g k j) (((place g k j) 1).val / b * b + r) (((place g k j) 2).val / b * b + c) := by
    intro b r c hb hr hc
    have e1 : ((place g k j) 1).val = ((g % 8) * 28 + ((k % 28) / 4) * 4 + (j 0).val) % 224 := rfl
    have e2 : ((place g k j) 2).val = ((k % 28 % 4) * 56 + (j 1).val) % 224 := rfl
    rw [e1, e2]
    funext a
    apply Fin.ext
    match a with
    | 0 => rfl
    | 1 =>
      show ((g % 8) * 28 + ((k % 28) / 4) * 4 + ((j 0).val / b * b + r) % 4) % 224
        = ((((g % 8) * 28 + ((k % 28) / 4) * 4 + (j 0).val) % 224) / b * b + r) % 224
      rcases hb with rfl | rfl <;> omega
    | 2 =>
      show ((k % 28 % 4) * 56 + ((j 1).val / b * b + c) % 56) % 224
        = ((((k % 28 % 4) * 56 + (j 1).val) % 224) / b * b + c) % 224
      rcases hb with rfl | rfl <;> omega
    | 3 => rfl
  unfold keep keepA
  have e3 : ((place g k j) 3).val = (j 2).val := rfl
  rw [e3]
  by_cases h64 : (j 2).val < 64
  · rw [if_pos h64, if_pos h64]
    exact congrArg (fun q => keepIf q (v (place g k j)))
      (sum2_congr fun r c hr hc' => congrArg v (hc 2 r c (Or.inl rfl) hr hc'))
  · rw [if_neg h64, if_neg h64]
    by_cases h112 : (j 2).val < 112
    · rw [if_pos h112, if_pos h112]
      exact congrArg (fun q => keepIf q (v (place g k j)))
        (sum4_congr fun r c hr hc' => congrArg v (hc 4 r c (Or.inr rfl) hr hc'))
    · rw [if_neg h112, if_neg h112]

/-! ## The chunks read as the array at their places -/

/-- Dropping a chunk's leading axis of one element keeps the other coordinates. -/
theorem drop_lead (h : S4x56x128.numel = S1x4x56x128.numel) (j : S4x56x128.Idx) :
    Shape.reshapeEquiv h j = (Fin.cons ⟨0, Nat.one_pos⟩ j : S1x4x56x128.Idx) :=
  Shape.reshapeEquiv_cons_one (d := ![4, 56, 128]) h j

/-- The box of chunk `k` puts the chunk's elements at their places. -/
theorem chunkRect_emb (L : grid0.Coords) (k : ℕ) (j : S4x56x128.Idx) :
    (chunkRect L k).emb (Fin.cons ⟨0, Nat.one_pos⟩ j : S1x4x56x128.Idx) = place (tileNo L) k j := by
  have hg := tileNo_lt L
  have h0 : (j 0).val < 4 := (j 0).isLt
  have h1 : (j 1).val < 56 := (j 1).isLt
  funext a
  apply Fin.ext
  match a with
  | 0 =>
    show tileNo L / 8 + 1 * 0 = tileNo L / 8 % 4
    omega
  | 1 =>
    show (tileNo L % 8) * 28 + ((k % 28) / 4) * 4 + 1 * (j 0).val = ((tileNo L % 8) * 28 + ((k % 28) / 4) * 4 + (j 0).val) % 224
    omega
  | 2 =>
    show (k % 28 % 4) * 56 + 1 * (j 1).val = ((k % 28 % 4) * 56 + (j 1).val) % 224
    omega
  | 3 =>
    show 0 + 1 * (j 2).val = (j 2).val
    omega

theorem chunk_emb_x (L : grid0.Coords) (k : ℕ) (j : S4x56x128.Idx) : (chunkOf xV L k).view.emb j = place (tileNo L) k j :=
  (congrArg (chunkRect L k).emb (drop_lead _ j)).trans (chunkRect_emb L k j)

theorem chunk_emb_y (L : grid0.Coords) (k : ℕ) (j : S4x56x128.Idx) : (chunkOf yV L k).view.emb j = place (tileNo L) k j :=
  (congrArg (chunkRect L k).emb (drop_lead _ j)).trans (chunkRect_emb L k j)

/-- What the kernel makes of a chunk of the input is what the output is to hold there. -/
theorem keep_chunk (d : Dev nD) (L : grid0.Coords) (X : Buf (Elt F) (xLoc d)) (k : ℕ) :
    keep (F := F) (inVal d L X k) = outVal d L (outOf d X) k := by
  funext j
  have ex : ∀ i, inVal d L X k i = X (place (tileNo L) k i) := fun i => congrArg X (chunk_emb_x L k i)
  have ey : outVal d L (outOf d X) k j = keepA (F := F) X (place (tileNo L) k j) := congrArg (outOf d X) (chunk_emb_y L k j)
  rw [ey, ← keep_place X _ k (tileNo_lt L) j]
  exact congrArg (fun w => keep (F := F) w j) (funext ex)

end Cert.ComputedIdeal.Hand
-- ==== Proof.RowsComputedIdeal.lean ====
module

public import proofs.«01_k».proof.Proof.KeepComputedIdeal
public import proofs.«01_k».proof.Proof.Gen.ComputedIdeal.Skeleton

@[expose] public section

/-! # The loops over a chunk, written once

The kernel treats a chunk in two loops: the first, over pairs of columns, treats the channels whose
blocks are 2 by 2, the second, over four columns, those whose blocks are 4 by 4. Both work on
vectors of 16 channels. This module writes one trip of each as a program, and shows that
every one of the kernel's eight loops runs one of the two. -/

noncomputable section

namespace Cert.ComputedIdeal.Hand

open Cert.ComputedIdeal Cert.ComputedIdeal.Gen
open Idealize.ShloMosaic
open Idealize.SL Idealize.SL.Sem

variable {F : FTy → Type} [FloatOps F]

/-- The programs of a tile. -/
abbrev TProg (F : FTy → Type) (p : Proc τ) : Type 1 := Prog (TpuEff nD τ sig (Elt F) Λ₀ p) Unit

/-- Offsets of 16 channels within a chunk. -/
abbrev InChunk (off : Fin 3 → ℕ) : Prop := ∀ a, off a + S1x1x16.size a ≤ S4x56x128.size a

/-- The 16 channels at `off`. -/
abbrev row (off : Fin 3 → ℕ) (h : InChunk off) : Rect S4x56x128 := Rect.unit (s := S4x56x128) off S1x1x16.size h

variable {c : Fin τ.nSC} {s : Fin τ.nSub}

/-- Reading 16 channels. -/
def getRow (B : BufM) (off : Fin 3 → ℕ) (h : InChunk off) (k : Vec F S1x1x16 .f32 → TProg F (.scVector c s)) :
    TProg F (.scVector c s) :=
  .op (.load B (row off h).toLoadRect (View.loadsAt_vmem h_S1x1x16)) k

/-- Writing 16 channels, after reading them to no use. -/
def setRow (B : BufM) (off : Fin 3 → ℕ) (h : InChunk off) (w : Vec F S1x1x16 .f32) (k : TProg F (.scVector c s)) :
    TProg F (.scVector c s) :=
  .op (.load B (row off h).toLoadRect (View.loadsAt_vmem h_S1x1x16)) fun _ =>
    .op (.store B (row off h) w Finset.univ (View.stores_vmem_bits_univ h_S1x1x16 rfl) (.inl rfl)) fun _ => k

/-- 16 channels as a vector of one axis. -/
abbrev flat (v : Vec F S1x1x16 .f32) : FVec F S16 .f32 := shapeCast S16 v shapeCasts_S1x1x16_S16

/-- The sum of four vectors, two by two. -/
abbrev addF (a b c d : FVec F S16 .f32) : FVec F S16 .f32 := addf (addf a b) (addf c d)

/-- `x` where the sums are at least 0, and 0 elsewhere. -/
def chosen (sum : FVec F S16 .f32) (x : Vec F S1x1x16 .f32) : Vec F S1x1x16 .f32 :=
  shapeCast S1x1x16
    (select (cmpf .oge sum (broadcast S16 (Scalar.ofBits .f32 0x00000000#32))) (flat x) (broadcast S16 (Scalar.ofBits .f32 0x00000000#32)))
    shapeCasts_S16_S1x1x16

/-- 16 channels of a 2 by 2 block, at the offsets of its four places. -/
def block2 (B : BufM) (o0 : Fin 3 → ℕ) (h0 : InChunk o0) (o1 : Fin 3 → ℕ) (h1 : InChunk o1) (o2 : Fin 3 → ℕ) (h2 : InChunk o2)
    (o3 : Fin 3 → ℕ) (h3 : InChunk o3) (k : TProg F (.scVector c s)) : TProg F (.scVector c s) :=
  getRow B o0 h0 fun v0 => getRow B o1 h1 fun v1 => getRow B o2 h2 fun v2 => getRow B o3 h3 fun v3 =>
    setRow B o0 h0 (chosen (addF (flat v0) (flat v1) (flat v2) (flat v3)) v0) <|
    setRow B o1 h1 (chosen (addF (flat v0) (flat v1) (flat v2) (flat v3)) v1) <|
    setRow B o2 h2 (chosen (addF (flat v0) (flat v1) (flat v2) (flat v3)) v2) <|
    setRow B o3 h3 (chosen (addF (flat v0) (flat v1) (flat v2) (flat v3)) v3) k

/-- The sum of a 4 by 4 block. -/
abbrev addFF (v : Fin 4 → Fin 4 → Vec F S1x1x16 .f32) : FVec F S16 .f32 :=
  addF (addF (flat (v 0 0)) (flat (v 0 1)) (flat (v 0 2)) (flat (v 0 3))) (addF (flat (v 1 0)) (flat (v 1 1)) (flat (v 1 2)) (flat (v 1 3)))
    (addF (flat (v 2 0)) (flat (v 2 1)) (flat (v 2 2)) (flat (v 2 3))) (addF (flat (v 3 0)) (flat (v 3 1)) (flat (v 3 2)) (flat (v 3 3)))

/-- Reading a row of a 4 by 4 block. -/
def get4 (B : BufM) (o : Fin 4 → Fin 3 → ℕ) (h : ∀ c, InChunk (o c)) (k : (Fin 4 → Vec F S1x1x16 .f32) → TProg F (.scVector c s)) :
    TProg F (.scVector c s) :=
  getRow B (o 0) (h 0) fun v0 => getRow B (o 1) (h 1) fun v1 => getRow B (o 2) (h 2) fun v2 => getRow B (o 3) (h 3) fun v3 =>
    k ![v0, v1, v2, v3]

/-- Writing a row of a 4 by 4 block. -/
def set4 (B : BufM) (o : Fin 4 → Fin 3 → ℕ) (h : ∀ c, InChunk (o c)) (sum : FVec F S16 .f32) (v : Fin 4 → Vec F S1x1x16 .f32)
    (k : TProg F (.scVector c s)) : TProg F (.scVector c s) :=
  setRow B (o 0) (h 0) (chosen sum (v 0)) <| setRow B (o 1) (h 1) (chosen sum (v 1)) <|
  setRow B (o 2) (h 2) (chosen sum (v 2)) <| setRow B (o 3) (h 3) (chosen sum (v 3)) k

/-- 16 channels of a 4 by 4 block, at the offsets of its places, by row. -/
def block4 (B : BufM) (o0 : Fin 4 → Fin 3 → ℕ) (h0 : ∀ c, InChunk (o0 c)) (o1 : Fin 4 → Fin 3 → ℕ) (h1 : ∀ c, InChunk (o1 c))
    (o2 : Fin 4 → Fin 3 → ℕ) (h2 : ∀ c, InChunk (o2 c)) (o3 : Fin 4 → Fin 3 → ℕ) (h3 : ∀ c, InChunk (o3 c))
    (k : TProg F (.scVector c s)) : TProg F (.scVector c s) :=
  get4 B o0 h0 fun v0 => get4 B o1 h1 fun v1 => get4 B o2 h2 fun v2 => get4 B o3 h3 fun v3 =>
    set4 B o0 h0 (addFF ![v0, v1, v2, v3]) v0 <| set4 B o1 h1 (addFF ![v0, v1, v2, v3]) v1 <|
    set4 B o2 h2 (addFF ![v0, v1, v2, v3]) v2 <| set4 B o3 h3 (addFF ![v0, v1, v2, v3]) v3 k

/-- One trip of the loop over pairs of columns. -/
def trip2 (B : BufM) (t : Fin k0_t2_loop.trips) : TProg F (.scVector c s) :=
  block2 B (k0_off6 t) (k0_off6_inb t) (k0_off7 t) (k0_off7_inb t) (k0_off8 t) (k0_off8_inb t) (k0_off9 t) (k0_off9_inb t) <|
  block2 B (k0_off10 t) (k0_off10_inb t) (k0_off11 t) (k0_off11_inb t) (k0_off12 t) (k0_off12_inb t) (k0_off13 t) (k0_off13_inb t) <|
  block2 B (k0_off14 t) (k0_off14_inb t) (k0_off15 t) (k0_off15_inb t) (k0_off16 t) (k0_off16_inb t) (k0_off17 t) (k0_off17_inb t) <|
  block2 B (k0_off18 t) (k0_off18_inb t) (k0_off19 t) (k0_off19_inb t) (k0_off20 t) (k0_off20_inb t) (k0_off21 t) (k0_off21_inb t) <|
  block2 B (k0_off22 t) (k0_off22_inb t) (k0_off23 t) (k0_off23_inb t) (k0_off24 t) (k0_off24_inb t) (k0_off25 t) (k0_off25_inb t) <|
  block2 B (k0_off26 t) (k0_off26_inb t) (k0_off27 t) (k0_off27_inb t) (k0_off28 t) (k0_off28_inb t) (k0_off29 t) (k0_off29_inb t) <|
  block2 B (k0_off30 t) (k0_off30_inb t) (k0_off31 t) (k0_off31_inb t) (k0_off32 t) (k0_off32_inb t) (k0_off33 t) (k0_off33_inb t) <|
  block2 B (k0_off34 t) (k0_off34_inb t) (k0_off35 t) (k0_off35_inb t) (k0_off36 t) (k0_off36_inb t) (k0_off37 t) (k0_off37_inb t) <|
  .ret ⟨⟩

/-- One trip of the loop over four columns. -/
def trip4 (B : BufM) (t : Fin k0_t3_loop.trips) : TProg F (.scVector c s) :=
  block4 B (fun c => k0_off38 t (BitVec.ofNat 32 c.val)) (k0_off38_inb t)
    (fun c => k0_off39 t (BitVec.ofNat 32 c.val)) (k0_off39_inb t)
    (fun c => k0_off40 t (BitVec.ofNat 32 c.val)) (k0_off40_inb t)
    (fun c => k0_off41 t (BitVec.ofNat 32 c.val)) (k0_off41_inb t) <|
  block4 B (fun c => k0_off42 t (BitVec.ofNat 32 c.val)) (k0_off42_inb t)
    (fun c => k0_off43 t (BitVec.ofNat 32 c.val)) (k0_off43_inb t)
    (fun c => k0_off44 t (BitVec.ofNat 32 c.val)) (k0_off44_inb t)
    (fun c => k0_off45 t (BitVec.ofNat 32 c.val)) (k0_off45_inb t) <|
  block4 B (fun c => k0_off46 t (BitVec.ofNat 32 c.val)) (k0_off46_inb t)
    (fun c => k0_off47 t (BitVec.ofNat 32 c.val)) (k0_off47_inb t)
    (fun c => k0_off48 t (BitVec.ofNat 32 c.val)) (k0_off48_inb t)
    (fun c => k0_off49 t (BitVec.ofNat 32 c.val)) (k0_off49_inb t) <|
  .ret ⟨⟩

/-! ## The kernel's loops run these trips -/

variable (L : grid0.Coords)
  (B0 : BufM) (h0 : B0.IsWhole) (B1 : BufM) (h1 : B1.IsWhole) (B2 : BufM) (h2 : B2.IsWhole) (B3 : BufM) (h3 : B3.IsWhole)
  (i0 i1 i2 i3 o0 o1 o2 o3 : DmaSems sig S_)

set_option maxRecDepth 65536 in
theorem t2_eq (v29 : BitVec 32) (k0_t1 : Fin k0_t1_loop.trips) (v72 : BitVec 32) (c28_i32_70 : BitVec 32) (t : Fin k0_t2_loop.trips) :
    k0_t2_body (F := F) L xV (Memref.isWhole_whole _) yV (Memref.isWhole_whole _) B0 h0 B1 h1 B2 h2 B3 h3
      i0 i1 i2 i3 o0 o1 o2 o3 v29 k0_t1 v72 0#32 c28_i32_70 t () = trip2 B0 t := rfl

set_option maxRecDepth 65536 in
theorem t3_eq (v29 : BitVec 32) (k0_t1 : Fin k0_t1_loop.trips) (v72 : BitVec 32) (c28_i32_70 : BitVec 32) (t : Fin k0_t3_loop.trips) :
    k0_t3_body (F := F) L xV (Memref.isWhole_whole _) yV (Memref.isWhole_whole _) B0 h0 B1 h1 B2 h2 B3 h3
      i0 i1 i2 i3 o0 o1 o2 o3 v29 k0_t1 v72 0#32 c28_i32_70 t () = trip4 B0 t := rfl

set_option maxRecDepth 65536 in
theorem t4_eq (k0_t1 : Fin k0_t1_loop.trips) (v148 : BitVec 32) (t : Fin k0_t4_loop.trips) :
    k0_t4_body (F := F) L xV (Memref.isWhole_whole _) yV (Memref.isWhole_whole _) B0 h0 B1 h1 B2 h2 B3 h3
      i0 i1 i2 i3 o0 o1 o2 o3 k0_t1 v148 t () = trip2 B1 t := rfl

set_option maxRecDepth 65536 in
theorem t5_eq (k0_t1 : Fin k0_t1_loop.trips) (v148 : BitVec 32) (t : Fin k0_t5_loop.trips) :
    k0_t5_body (F := F) L xV (Memref.isWhole_whole _) yV (Memref.isWhole_whole _) B0 h0 B1 h1 B2 h2 B3 h3
      i0 i1 i2 i3 o0 o1 o2 o3 k0_t1 v148 t () = trip4 B1 t := rfl

set_option maxRecDepth 65536 in
theorem t6_eq (v29 : BitVec 32) (k0_t1 : Fin k0_t1_loop.trips) (v224 : BitVec 32) (v241 : BitVec 32) (v243 : BitVec 32) (v244 : BitVec 32) (v245 : BitVec 1) (v246 : BitVec 1) (t : Fin k0_t6_loop.trips) :
    k0_t6_body (F := F) L xV (Memref.isWhole_whole _) yV (Memref.isWhole_whole _) B0 h0 B1 h1 B2 h2 B3 h3
      i0 i1 i2 i3 o0 o1 o2 o3 v29 k0_t1 v224 v241 v243 v244 v245 v246 0#32 t () = trip2 B2 t := rfl

set_option maxRecDepth 65536 in
theorem t7_eq (v29 : BitVec 32) (k0_t1 : Fin k0_t1_loop.trips) (v224 : BitVec 32) (v241 : BitVec 32) (v243 : BitVec 32) (v244 : BitVec 32) (v245 : BitVec 1) (v246 : BitVec 1) (t : Fin k0_t7_loop.trips) :
    k0_t7_body (F := F) L xV (Memref.isWhole_whole _) yV (Memref.isWhole_whole _) B0 h0 B1 h1 B2 h2 B3 h3
      i0 i1 i2 i3 o0 o1 o2 o3 v29 k0_t1 v224 v241 v243 v244 v245 v246 0#32 t () = trip4 B2 t := rfl

set_option maxRecDepth 65536 in
theorem t8_eq (v29 : BitVec 32) (k0_t1 : Fin k0_t1_loop.trips) (v300 : BitVec 32) (v317 : BitVec 32) (c4_i32_202 : BitVec 32) (t : Fin k0_t8_loop.trips) :
    k0_t8_body (F := F) L xV (Memref.isWhole_whole _) yV (Memref.isWhole_whole _) B0 h0 B1 h1 B2 h2 B3 h3
      i0 i1 i2 i3 o0 o1 o2 o3 v29 k0_t1 v300 v317 c4_i32_202 t () = trip2 B3 t := rfl

set_option maxRecDepth 65536 in
theorem t9_eq (v29 : BitVec 32) (k0_t1 : Fin k0_t1_loop.trips) (v300 : BitVec 32) (v317 : BitVec 32) (c4_i32_202 : BitVec 32) (t : Fin k0_t9_loop.trips) :
    k0_t9_body (F := F) L xV (Memref.isWhole_whole _) yV (Memref.isWhole_whole _) B0 h0 B1 h1 B2 h2 B3 h3
      i0 i1 i2 i3 o0 o1 o2 o3 v29 k0_t1 v300 v317 c4_i32_202 t () = trip4 B3 t := rfl

end Cert.ComputedIdeal.Hand
-- ==== Proof.ChunkComputedIdeal.lean ====
module

public import proofs.«01_k».proof.Proof.RowsComputedIdeal
public import Idealize.ShloMosaic.Lib.VecWindow

@[expose] public section

/-! # What the loops over a chunk do

A buffer that reads as `v` reads as `keep v` after the two loops. While they run, the elements of the blocks treated so
far read as `keep v` and the others as `v`; as a block is written only after it is read, and blocks
are apart, the sums the kernel forms are sums of `v`. -/

noncomputable section

namespace Cert.ComputedIdeal.Hand

open Cert.ComputedIdeal Cert.ComputedIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The vectors, element by element -/

/-- The 16 channels of `v` at `off`. -/
abbrev rowOf (v : S4x56x128.Idx → F .f32) (off : Fin 3 → ℕ) (h : InChunk off) : Vec F S1x1x16 .f32 :=
  fun j => v ((row off h).emb j)

theorem flat_back (v : Vec F S1x1x16 .f32) (j : S1x1x16.Idx) :
    flat v (Shape.reshapeEquiv shapeCasts_S16_S1x1x16 j) = v j := by
  show v (Shape.reshapeEquiv _ (Shape.reshapeEquiv _ j)) = v j
  rw [Shape.reshapeEquiv_reshapeEquiv, Shape.reshapeEquiv_self]

theorem chosen_apply (sum : FVec F S16 .f32) (x : Vec F S1x1x16 .f32) (j : S1x1x16.Idx) :
    chosen sum x j = keepIf (sum (Shape.reshapeEquiv shapeCasts_S16_S1x1x16 j)) (x j) :=
  congrArg (keepIf (sum (Shape.reshapeEquiv shapeCasts_S16_S1x1x16 j))) (flat_back x j)

theorem addF_apply (a b c d : FVec F S16 .f32) (j : S16.Idx) : addF a b c d j = add4 (a j) (b j) (c j) (d j) := rfl

theorem chosen2 (a b c d x : Vec F S1x1x16 .f32) (j : S1x1x16.Idx) :
    chosen (addF (flat a) (flat b) (flat c) (flat d)) x j = keepIf (add4 (a j) (b j) (c j) (d j)) (x j) := by
  rw [chosen_apply, addF_apply, flat_back, flat_back, flat_back, flat_back]

theorem chosen4 (v : Fin 4 → Fin 4 → Vec F S1x1x16 .f32) (x : Vec F S1x1x16 .f32) (j : S1x1x16.Idx) :
    chosen (addFF v) x j
      = keepIf (add4 (add4 (v 0 0 j) (v 0 1 j) (v 0 2 j) (v 0 3 j)) (add4 (v 1 0 j) (v 1 1 j) (v 1 2 j) (v 1 3 j))
          (add4 (v 2 0 j) (v 2 1 j) (v 2 2 j) (v 2 3 j)) (add4 (v 3 0 j) (v 3 1 j) (v 3 2 j) (v 3 3 j))) (x j) := by
  rw [chosen_apply]
  simp only [addFF, addF_apply, flat_back]

/-! ## One access -/

/-- `i` is one of the 16 channels at `off`. -/
def OnRow (off : Fin 3 → ℕ) (i : S4x56x128.Idx) : Prop :=
  (i 0).val = off 0 ∧ (i 1).val = off 1 ∧ off 2 ≤ (i 2).val ∧ (i 2).val < off 2 + 16

instance (off : Fin 3 → ℕ) : DecidablePred (OnRow off) := fun i => by unfold OnRow; infer_instance

theorem emb_val (off : Fin 3 → ℕ) (h : InChunk off) (j : S1x1x16.Idx) (a : Fin 3) :
    ((row off h).emb j a).val = off a + (j a).val := by
  show off a + 1 * (j a).val = _
  rw [Nat.one_mul]

/-- Putting what `g` says over the 16 channels at `off`. -/
theorem put_row (v g : S4x56x128.Idx → F .f32) (off : Fin 3 → ℕ) (h : InChunk off) (w : Vec F S1x1x16 .f32) (hw : ∀ j, w j = g ((row off h).emb j)) :
    VecWindow.put v off S1x1x16.size w = fun i => if OnRow off i then g i else v i := by
  funext i
  unfold VecWindow.put
  have hiff : (∀ a, off a ≤ (i a).val ∧ (i a).val < off a + S1x1x16.size a) ↔ OnRow off i := by
    constructor
    · intro hall
      have h0 : off 0 ≤ (i 0).val ∧ (i 0).val < off 0 + 1 := hall 0
      have h1 : off 1 ≤ (i 1).val ∧ (i 1).val < off 1 + 1 := hall 1
      have h2 : off 2 ≤ (i 2).val ∧ (i 2).val < off 2 + 16 := hall 2
      exact ⟨by omega, by omega, h2⟩
    · rintro ⟨h0, h1, h2⟩ a
      match a with
      | 0 => exact (⟨by omega, by omega⟩ : off 0 ≤ (i 0).val ∧ (i 0).val < off 0 + 1)
      | 1 => exact (⟨by omega, by omega⟩ : off 1 ≤ (i 1).val ∧ (i 1).val < off 1 + 1)
      | 2 => exact h2
  by_cases hr : OnRow off i
  · rw [dif_pos (hiff.mpr hr), if_pos hr, hw]
    refine congrArg g (funext fun a => Fin.ext ?_)
    rw [emb_val]
    have := (hiff.mpr hr a).1
    show off a + ((i a).val - off a) = (i a).val
    omega
  · rw [dif_neg (fun hall => hr (hiff.mp hall)), if_neg hr]

section Access

variable (d : Dev nD) (L : grid0.Coords)
variable {d L} {Q : Unit → sProp (MT nD τ sig (HIx 1) (Elt F) ℕ UU ℕ)}

theorem getRow_wp {B : BufM} {v : S4x56x128.Idx → F .f32} (off : Fin 3 → ℕ) (h : InChunk off)
    {k : Vec F S1x1x16 .f32 → TProg F (thr d L).2} :
    bufIs (F := F) d L B v
      ⊢ iprop((bufIs (F := F) d L B v -∗ wp frame (wpE (defs₀ (F := F)) 𝒱₀ (thr d L) none) Set.univ (k (rowOf v off h)) Q)
          -∗ wp frame (wpE (defs₀ (F := F)) 𝒱₀ (thr d L) none) Set.univ (getRow B off h k) Q) := by
  unfold bufIs getRow
  iintro ⟨%f, %hf, Hb⟩ Hk
  iapply (Idealize.ShloMosaic.wp_load 𝒱₀ (thr d L) none Set.univ (View.setOn_subset_set _ _)) $$ [Hb]
  · iexact Hb
  iintro Hb
  rw [View.readAt_unit B.view f h rfl h, hf]
  iapply Hk
  iexists f
  isplitr
  · ipureintro; exact hf
  · iexact Hb

theorem setRow_wp {B : BufM} {v : S4x56x128.Idx → F .f32} (g : S4x56x128.Idx → F .f32) (off : Fin 3 → ℕ) (h : InChunk off)
    {w : Vec F S1x1x16 .f32} (hw : ∀ j, w j = g ((row off h).emb j)) {k : TProg F (thr d L).2} :
    bufIs (F := F) d L B v
      ⊢ iprop((bufIs (F := F) d L B (fun i => if OnRow off i then g i else v i)
            -∗ wp frame (wpE (defs₀ (F := F)) 𝒱₀ (thr d L) none) Set.univ k Q)
          -∗ wp frame (wpE (defs₀ (F := F)) 𝒱₀ (thr d L) none) Set.univ (setRow B off h w k) Q) := by
  unfold bufIs setRow
  iintro ⟨%f, %hf, Hb⟩ Hk
  iapply (Idealize.ShloMosaic.wp_load 𝒱₀ (thr d L) none Set.univ (View.setOn_subset_set _ _)) $$ [Hb]
  · iexact Hb
  iintro Hb
  iapply (Idealize.ShloMosaic.wp_store 𝒱₀ (thr d L) none Set.univ (S := B.view.set) (f := f) (View.set_slice_subset _ _)) $$ [Hb]
  · iexact Hb
  iintro Hb
  iapply Hk
  iexists ((B.access (row off h)).write (Elt F) f w Finset.univ)
  isplitr
  · ipureintro
    have e := View.read_writes_cons_put B.view f h w [] (rfl : off = off)
    rw [View.writes_nil, hf, put_row v g off h w hw] at e
    exact e
  · iexact Hb

/-! ## One block -/

/-- `keep v` where `C` holds and `v` elsewhere. -/
def mix (C : S4x56x128.Idx → Prop) [DecidablePred C] (v : S4x56x128.Idx → F .f32) (i : S4x56x128.Idx) : F .f32 :=
  if C i then keep v i else v i

theorem mix_congr {C C' : S4x56x128.Idx → Prop} [DecidablePred C] [DecidablePred C'] (v : S4x56x128.Idx → F .f32)
    (h : ∀ i, C i ↔ C' i) : mix C v = mix C' v :=
  funext fun i => if_congr (h i) rfl rfl

theorem setRow_mix {B : BufM} {C : S4x56x128.Idx → Prop} [DecidablePred C] {v : S4x56x128.Idx → F .f32} (off : Fin 3 → ℕ) (h : InChunk off)
    {w : Vec F S1x1x16 .f32} (hw : ∀ j, w j = keep v ((row off h).emb j)) {k : TProg F (thr d L).2} :
    bufIs (F := F) d L B (mix C v)
      ⊢ iprop((bufIs (F := F) d L B (mix (fun i => OnRow off i ∨ C i) v)
            -∗ wp frame (wpE (defs₀ (F := F)) 𝒱₀ (thr d L) none) Set.univ k Q)
          -∗ wp frame (wpE (defs₀ (F := F)) 𝒱₀ (thr d L) none) Set.univ (setRow B off h w k) Q) := by
  have e : (fun i => if OnRow off i then keep v i else mix C v i) = mix (fun i => OnRow off i ∨ C i) v := by
    funext i
    unfold mix
    by_cases h1 : OnRow off i <;> by_cases h2 : C i <;> simp [h1, h2]
  rw [← e]
  exact setRow_wp (keep v) off h hw

/-- The offsets `off` are row `r`, column `c`, channels from `b`. -/
def At (off : Fin 3 → ℕ) (r c b : ℕ) : Prop := off 0 = r ∧ off 1 = c ∧ off 2 = b

instance (off : Fin 3 → ℕ) (r c b : ℕ) : Decidable (At off r c b) := by unfold At; infer_instance

/-- The place in another row and column of the same channel. -/
theorem cell_emb {off : Fin 3 → ℕ} (h : InChunk off) (j : S1x1x16.Idx) (i : S4x56x128.Idx) {r c b : ℕ} (ha : At off r c b)
    (h2 : (i 2).val = b + (j 2).val) : cell i r c = (row off h).emb j := by
  obtain ⟨h0, h1, hb⟩ := ha
  have j0 : (j 0).val < 1 := (j 0).isLt
  have j1 : (j 1).val < 1 := (j 1).isLt
  have b0 : off 0 + 1 ≤ 4 := h 0
  have b1 : off 1 + 1 ≤ 56 := h 1
  funext a
  apply Fin.ext
  rw [emb_val]
  match a with
  | 0 =>
    show r % 4 = off 0 + (j 0).val
    omega
  | 1 =>
    show c % 56 = off 1 + (j 1).val
    omega
  | 2 =>
    show (i 2).val = off 2 + (j 2).val
    omega

/-- The blocks of 2 by 2 treated when the first loop has treated `n` vectors of them. -/
def Done2 (n : ℕ) (i : S4x56x128.Idx) : Prop :=
  (i 2).val < 64 ∧ (i 1).val / 2 * 8 + (i 0).val / 2 * 4 + (i 2).val / 16 < n

instance (n : ℕ) : DecidablePred (Done2 n) := fun i => by unfold Done2; infer_instance

/-- All blocks of 2 by 2, and those of 4 by 4 treated when the second loop has treated `m` vectors of them. -/
def Done4 (m : ℕ) (i : S4x56x128.Idx) : Prop :=
  (i 2).val < 64 ∨ ((i 2).val < 112 ∧ (i 1).val / 4 * 3 + ((i 2).val - 64) / 16 < m)

instance (m : ℕ) : DecidablePred (Done4 m) := fun i => by unfold Done4; infer_instance

/-- The 2 by 2 block in rows `r`, `r + 1` and columns `c`, `c + 1`, for 16 channels from `b`. -/
structure Block2 (o0 o1 o2 o3 : Fin 3 → ℕ) (r c b : ℕ) : Prop where
  p0 : At o0 r c b
  p1 : At o1 r (c + 1) b
  p2 : At o2 (r + 1) c b
  p3 : At o3 (r + 1) (c + 1) b

theorem block2_wp {B : BufM} {v : S4x56x128.Idx → F .f32} (n r c b : ℕ) (hr : r % 2 = 0) (hr' : r < 4) (hc : c % 2 = 0) (hb : b % 16 = 0) (hb' : b < 64)
    (hn : c / 2 * 8 + r / 2 * 4 + b / 16 = n)
    {o0 o1 o2 o3 : Fin 3 → ℕ} {h0 : InChunk o0} {h1 : InChunk o1} {h2 : InChunk o2} {h3 : InChunk o3} (ho : Block2 o0 o1 o2 o3 r c b)
    {k : TProg F (thr d L).2} :
    bufIs (F := F) d L B (mix (Done2 n) v)
      ⊢ iprop((bufIs (F := F) d L B (mix (Done2 (n + 1)) v)
            -∗ wp frame (wpE (defs₀ (F := F)) 𝒱₀ (thr d L) none) Set.univ k Q)
          -∗ wp frame (wpE (defs₀ (F := F)) 𝒱₀ (thr d L) none) Set.univ (block2 B o0 h0 o1 h1 o2 h2 o3 h3 k) Q) := by
  -- the block is not yet treated when it is read
  have fresh : ∀ (off : Fin 3 → ℕ) (h : InChunk off) (r' c' : ℕ), At off r' c' b → r' / 2 = r / 2 → c' / 2 = c / 2 →
      rowOf (mix (Done2 n) v) off h = rowOf v off h := by
    intro off h r' c' ha hr' hc'
    obtain ⟨a0, a1, a2⟩ := ha
    funext j
    have j0 : (j 0).val < 1 := (j 0).isLt
    have j1 : (j 1).val < 1 := (j 1).isLt
    have j2 : (j 2).val < 16 := (j 2).isLt
    have hnot : ¬ Done2 n ((row off h).emb j) := by
      unfold Done2
      rw [emb_val, emb_val, emb_val]
      omega
    exact if_neg hnot
  -- what is written is what is to be kept
  have kept : ∀ (off : Fin 3 → ℕ) (h : InChunk off) (r' c' : ℕ), At off r' c' b → r' / 2 = r / 2 → c' / 2 = c / 2 → ∀ j,
      chosen (addF (flat (rowOf v o0 h0)) (flat (rowOf v o1 h1)) (flat (rowOf v o2 h2)) (flat (rowOf v o3 h3))) (rowOf v off h) j
        = keep v ((row off h).emb j) := by
    intro off h r' c' ha hr' hc' j
    obtain ⟨a0, a1, a2⟩ := ha
    have j0 : (j 0).val < 1 := (j 0).isLt
    have j1 : (j 1).val < 1 := (j 1).isLt
    have j2 : (j 2).val < 16 := (j 2).isLt
    have e0 := emb_val off h j 0
    have e1 := emb_val off h j 1
    have e2 := emb_val off h j 2
    rw [chosen2]
    unfold keep
    rw [if_pos (by omega)]
    have q0 : ((row off h).emb j 0).val / 2 * 2 = r := by omega
    have q1 : ((row off h).emb j 1).val / 2 * 2 = c := by omega
    have q2 : ((row off h).emb j 2).val = b + (j 2).val := by omega
    have w0 : v (cell ((row off h).emb j) (r + 0) (c + 0)) = rowOf v o0 h0 j := congrArg v (cell_emb h0 j _ ho.p0 q2)
    have w1 : v (cell ((row off h).emb j) (r + 0) (c + 1)) = rowOf v o1 h1 j := congrArg v (cell_emb h1 j _ ho.p1 q2)
    have w2 : v (cell ((row off h).emb j) (r + 1) (c + 0)) = rowOf v o2 h2 j := congrArg v (cell_emb h2 j _ ho.p2 q2)
    have w3 : v (cell ((row off h).emb j) (r + 1) (c + 1)) = rowOf v o3 h3 j := congrArg v (cell_emb h3 j _ ho.p3 q2)
    rw [q0, q1, ← w0, ← w1, ← w2, ← w3]
    rfl
  have hdone : ∀ i, (OnRow o3 i ∨ OnRow o2 i ∨ OnRow o1 i ∨ OnRow o0 i ∨ Done2 n i) ↔ Done2 (n + 1) i := by
    intro i
    obtain ⟨⟨a0, a1, a2⟩, ⟨b0, b1, b2⟩, ⟨c0, c1, c2⟩, ⟨d0, d1, d2⟩⟩ := ho
    unfold OnRow Done2
    have i0 : (i 0).val < 4 := (i 0).isLt
    have i1 : (i 1).val < 56 := (i 1).isLt
    omega
  have f0 := fresh o0 h0 r c ho.p0 rfl rfl
  have f1 := fresh o1 h1 r (c + 1) ho.p1 rfl (by omega)
  have f2 := fresh o2 h2 (r + 1) c ho.p2 (by omega) rfl
  have f3 := fresh o3 h3 (r + 1) (c + 1) ho.p3 (by omega) (by omega)
  unfold block2
  iintro Hb Hk
  iapply (getRow_wp o0 h0) $$ Hb
  iintro Hb
  iapply (getRow_wp o1 h1) $$ Hb
  iintro Hb
  iapply (getRow_wp o2 h2) $$ Hb
  iintro Hb
  iapply (getRow_wp o3 h3) $$ Hb
  iintro Hb
  rw [f0, f1, f2, f3]
  iapply (setRow_mix o0 h0 (kept o0 h0 r c ho.p0 rfl rfl)) $$ Hb
  iintro Hb
  iapply (setRow_mix o1 h1 (kept o1 h1 r (c + 1) ho.p1 rfl (by omega))) $$ Hb
  iintro Hb
  iapply (setRow_mix o2 h2 (kept o2 h2 (r + 1) c ho.p2 (by omega) rfl)) $$ Hb
  iintro Hb
  iapply (setRow_mix o3 h3 (kept o3 h3 (r + 1) (c + 1) ho.p3 (by omega) (by omega))) $$ Hb
  iintro Hb
  iapply Hk
  rw [mix_congr v hdone]
  iexact Hb

/-- A row of a 4 by 4 block is at the offsets `o`: row `r`, columns `c` to `c + 3`, channels from `b`. -/
def At4 (o : Fin 4 → Fin 3 → ℕ) (r c b : ℕ) : Prop := ∀ q : Fin 4, At (o q) r (c + q.val) b

/-- `i` is in that row. -/
def OnRow4 (r c b : ℕ) (i : S4x56x128.Idx) : Prop :=
  (i 0).val = r ∧ (i 1).val / 4 * 4 = c ∧ b ≤ (i 2).val ∧ (i 2).val < b + 16

instance (r c b : ℕ) : DecidablePred (OnRow4 r c b) := fun i => by unfold OnRow4; infer_instance

theorem get4_wp {B : BufM} {v : S4x56x128.Idx → F .f32} (o : Fin 4 → Fin 3 → ℕ) (h : ∀ q, InChunk (o q))
    {k : (Fin 4 → Vec F S1x1x16 .f32) → TProg F (thr d L).2} :
    bufIs (F := F) d L B v
      ⊢ iprop((bufIs (F := F) d L B v
            -∗ wp frame (wpE (defs₀ (F := F)) 𝒱₀ (thr d L) none) Set.univ
              (k ![rowOf v (o 0) (h 0), rowOf v (o 1) (h 1), rowOf v (o 2) (h 2), rowOf v (o 3) (h 3)]) Q)
          -∗ wp frame (wpE (defs₀ (F := F)) 𝒱₀ (thr d L) none) Set.univ (get4 B o h k) Q) := by
  unfold get4
  iintro Hb Hk
  iapply (getRow_wp (o 0) (h 0)) $$ Hb
  iintro Hb
  iapply (getRow_wp (o 1) (h 1)) $$ Hb
  iintro Hb
  iapply (getRow_wp (o 2) (h 2)) $$ Hb
  iintro Hb
  iapply (getRow_wp (o 3) (h 3)) $$ Hb
  iintro Hb
  iapply Hk
  iexact Hb

theorem set4_mix {B : BufM} {C : S4x56x128.Idx → Prop} [DecidablePred C] {v : S4x56x128.Idx → F .f32} {r c b : ℕ} (hc : c % 4 = 0)
    {o : Fin 4 → Fin 3 → ℕ} (h : ∀ q, InChunk (o q)) (ho : At4 o r c b) {sum : FVec F S16 .f32} {x : Fin 4 → Vec F S1x1x16 .f32}
    (hw : ∀ q j, chosen sum (x q) j = keep v ((row (o q) (h q)).emb j)) {k : TProg F (thr d L).2} :
    bufIs (F := F) d L B (mix C v)
      ⊢ iprop((bufIs (F := F) d L B (mix (fun i => OnRow4 r c b i ∨ C i) v)
            -∗ wp frame (wpE (defs₀ (F := F)) 𝒱₀ (thr d L) none) Set.univ k Q)
          -∗ wp frame (wpE (defs₀ (F := F)) 𝒱₀ (thr d L) none) Set.univ (set4 B o h sum x k) Q) := by
  have hiff : ∀ i, (OnRow (o 3) i ∨ OnRow (o 2) i ∨ OnRow (o 1) i ∨ OnRow (o 0) i ∨ C i) ↔ (OnRow4 r c b i ∨ C i) := by
    intro i
    have a0 : o 0 0 = r ∧ o 0 1 = c + 0 ∧ o 0 2 = b := ho 0
    have a1 : o 1 0 = r ∧ o 1 1 = c + 1 ∧ o 1 2 = b := ho 1
    have a2 : o 2 0 = r ∧ o 2 1 = c + 2 ∧ o 2 2 = b := ho 2
    have a3 : o 3 0 = r ∧ o 3 1 = c + 3 ∧ o 3 2 = b := ho 3
    have e : (OnRow (o 3) i ∨ OnRow (o 2) i ∨ OnRow (o 1) i ∨ OnRow (o 0) i) ↔ OnRow4 r c b i := by
      unfold OnRow OnRow4
      omega
    rw [← e]
    tauto
  unfold set4
  iintro Hb Hk
  iapply (setRow_mix (o 0) (h 0) (hw 0)) $$ Hb
  iintro Hb
  iapply (setRow_mix (o 1) (h 1) (hw 1)) $$ Hb
  iintro Hb
  iapply (setRow_mix (o 2) (h 2) (hw 2)) $$ Hb
  iintro Hb
  iapply (setRow_mix (o 3) (h 3) (hw 3)) $$ Hb
  iintro Hb
  iapply Hk
  rw [mix_congr v hiff]
  iexact Hb

/-- The 4 by 4 block in all rows and columns `c` to `c + 3`, for 16 channels from `b`. -/
structure Block4 (o0 o1 o2 o3 : Fin 4 → Fin 3 → ℕ) (c b : ℕ) : Prop where
  p0 : At4 o0 0 c b
  p1 : At4 o1 1 c b
  p2 : At4 o2 2 c b
  p3 : At4 o3 3 c b

theorem block4_wp {B : BufM} {v : S4x56x128.Idx → F .f32} (n c b : ℕ) (hc : c % 4 = 0) (hb : b % 16 = 0) (hb1 : 64 ≤ b) (hb2 : b < 112)
    (hn : c / 4 * 3 + (b - 64) / 16 = n)
    {o0 o1 o2 o3 : Fin 4 → Fin 3 → ℕ} {h0 : ∀ q, InChunk (o0 q)} {h1 : ∀ q, InChunk (o1 q)} {h2 : ∀ q, InChunk (o2 q)} {h3 : ∀ q, InChunk (o3 q)}
    (ho : Block4 o0 o1 o2 o3 c b) {k : TProg F (thr d L).2} :
    bufIs (F := F) d L B (mix (Done4 n) v)
      ⊢ iprop((bufIs (F := F) d L B (mix (Done4 (n + 1)) v)
            -∗ wp frame (wpE (defs₀ (F := F)) 𝒱₀ (thr d L) none) Set.univ k Q)
          -∗ wp frame (wpE (defs₀ (F := F)) 𝒱₀ (thr d L) none) Set.univ (block4 B o0 h0 o1 h1 o2 h2 o3 h3 k) Q) := by
  -- the block is not yet treated when it is read
  have fresh : ∀ (off : Fin 3 → ℕ) (h : InChunk off) (r' : ℕ) (q : Fin 4), At off r' (c + q.val) b →
      rowOf (mix (Done4 n) v) off h = rowOf v off h := by
    intro off h r' q ha
    obtain ⟨a0, a1, a2⟩ := ha
    have hq := q.isLt
    funext j
    have j0 : (j 0).val < 1 := (j 0).isLt
    have j1 : (j 1).val < 1 := (j 1).isLt
    have j2 : (j 2).val < 16 := (j 2).isLt
    have hnot : ¬ Done4 n ((row off h).emb j) := by
      unfold Done4
      rw [emb_val, emb_val]
      omega
    exact if_neg hnot
  have f0 : ∀ q, rowOf (mix (Done4 n) v) (o0 q) (h0 q) = rowOf v (o0 q) (h0 q) := fun q => fresh _ _ 0 q (ho.p0 q)
  have f1 : ∀ q, rowOf (mix (Done4 n) v) (o1 q) (h1 q) = rowOf v (o1 q) (h1 q) := fun q => fresh _ _ 1 q (ho.p1 q)
  have f2 : ∀ q, rowOf (mix (Done4 n) v) (o2 q) (h2 q) = rowOf v (o2 q) (h2 q) := fun q => fresh _ _ 2 q (ho.p2 q)
  have f3 : ∀ q, rowOf (mix (Done4 n) v) (o3 q) (h3 q) = rowOf v (o3 q) (h3 q) := fun q => fresh _ _ 3 q (ho.p3 q)
  -- what is written is what is to be kept
  have kept : ∀ (off : Fin 3 → ℕ) (h : InChunk off) (r' : ℕ) (q : Fin 4), At off r' (c + q.val) b → r' < 4 → ∀ j,
      chosen (addFF ![![rowOf v (o0 0) (h0 0), rowOf v (o0 1) (h0 1), rowOf v (o0 2) (h0 2), rowOf v (o0 3) (h0 3)],
          ![rowOf v (o1 0) (h1 0), rowOf v (o1 1) (h1 1), rowOf v (o1 2) (h1 2), rowOf v (o1 3) (h1 3)],
          ![rowOf v (o2 0) (h2 0), rowOf v (o2 1) (h2 1), rowOf v (o2 2) (h2 2), rowOf v (o2 3) (h2 3)],
          ![rowOf v (o3 0) (h3 0), rowOf v (o3 1) (h3 1), rowOf v (o3 2) (h3 2), rowOf v (o3 3) (h3 3)]]) (rowOf v off h) j
        = keep v ((row off h).emb j) := by
    intro off h r' q ha hr' j
    obtain ⟨a0, a1, a2⟩ := ha
    have hq := q.isLt
    have j0 : (j 0).val < 1 := (j 0).isLt
    have j1 : (j 1).val < 1 := (j 1).isLt
    have j2 : (j 2).val < 16 := (j 2).isLt
    have e0 := emb_val off h j 0
    have e1 := emb_val off h j 1
    have e2 := emb_val off h j 2
    rw [chosen4]
    unfold keep
    rw [if_neg (by omega), if_pos (by omega)]
    have q0 : ((row off h).emb j 0).val / 4 * 4 = 0 := by omega
    have q1 : ((row off h).emb j 1).val / 4 * 4 = c := by omega
    have q2 : ((row off h).emb j 2).val = b + (j 2).val := by omega
    have w0 : ∀ q : Fin 4, v (cell ((row off h).emb j) (0 + 0) (c + q.val)) = rowOf v (o0 q) (h0 q) j :=
      fun q => congrArg v (cell_emb (h0 q) j _ (ho.p0 q) q2)
    have w1 : ∀ q : Fin 4, v (cell ((row off h).emb j) (0 + 1) (c + q.val)) = rowOf v (o1 q) (h1 q) j :=
      fun q => congrArg v (cell_emb (h1 q) j _ (ho.p1 q) q2)
    have w2 : ∀ q : Fin 4, v (cell ((row off h).emb j) (0 + 2) (c + q.val)) = rowOf v (o2 q) (h2 q) j :=
      fun q => congrArg v (cell_emb (h2 q) j _ (ho.p2 q) q2)
    have w3 : ∀ q : Fin 4, v (cell ((row off h).emb j) (0 + 3) (c + q.val)) = rowOf v (o3 q) (h3 q) j :=
      fun q => congrArg v (cell_emb (h3 q) j _ (ho.p3 q) q2)
    have esum : sum4 (fun r c' => v (cell ((row off h).emb j) (0 + r) (c + c')))
        = add4 (add4 (rowOf v (o0 0) (h0 0) j) (rowOf v (o0 1) (h0 1) j) (rowOf v (o0 2) (h0 2) j) (rowOf v (o0 3) (h0 3) j))
            (add4 (rowOf v (o1 0) (h1 0) j) (rowOf v (o1 1) (h1 1) j) (rowOf v (o1 2) (h1 2) j) (rowOf v (o1 3) (h1 3) j))
            (add4 (rowOf v (o2 0) (h2 0) j) (rowOf v (o2 1) (h2 1) j) (rowOf v (o2 2) (h2 2) j) (rowOf v (o2 3) (h2 3) j))
            (add4 (rowOf v (o3 0) (h3 0) j) (rowOf v (o3 1) (h3 1) j) (rowOf v (o3 2) (h3 2) j) (rowOf v (o3 3) (h3 3) j)) := by
      rw [← w0 0, ← w0 1, ← w0 2, ← w0 3, ← w1 0, ← w1 1, ← w1 2, ← w1 3, ← w2 0, ← w2 1, ← w2 2, ← w2 3, ← w3 0, ← w3 1, ← w3 2, ← w3 3]
      rfl
    rw [q0, q1, esum]
    rfl
  have hdone : ∀ i, (OnRow4 3 c b i ∨ OnRow4 2 c b i ∨ OnRow4 1 c b i ∨ OnRow4 0 c b i ∨ Done4 n i) ↔ Done4 (n + 1) i := by
    intro i
    unfold OnRow4 Done4
    have i0 : (i 0).val < 4 := (i 0).isLt
    have i1 : (i 1).val < 56 := (i 1).isLt
    omega
  unfold block4
  iintro Hb Hk
  iapply (get4_wp o0 h0) $$ Hb
  iintro Hb
  iapply (get4_wp o1 h1) $$ Hb
  iintro Hb
  iapply (get4_wp o2 h2) $$ Hb
  iintro Hb
  iapply (get4_wp o3 h3) $$ Hb
  iintro Hb
  rw [f0, f0, f0, f0, f1, f1, f1, f1, f2, f2, f2, f2, f3, f3, f3, f3]
  iapply (set4_mix hc h0 ho.p0 (fun q j => by
    fin_cases q
    · exact kept _ (h0 0) 0 0 (ho.p0 0) (by decide) j
    · exact kept _ (h0 1) 0 1 (ho.p0 1) (by decide) j
    · exact kept _ (h0 2) 0 2 (ho.p0 2) (by decide) j
    · exact kept _ (h0 3) 0 3 (ho.p0 3) (by decide) j)) $$ Hb
  iintro Hb
  iapply (set4_mix hc h1 ho.p1 (fun q j => by
    fin_cases q
    · exact kept _ (h1 0) 1 0 (ho.p1 0) (by decide) j
    · exact kept _ (h1 1) 1 1 (ho.p1 1) (by decide) j
    · exact kept _ (h1 2) 1 2 (ho.p1 2) (by decide) j
    · exact kept _ (h1 3) 1 3 (ho.p1 3) (by decide) j)) $$ Hb
  iintro Hb
  iapply (set4_mix hc h2 ho.p2 (fun q j => by
    fin_cases q
    · exact kept _ (h2 0) 2 0 (ho.p2 0) (by decide) j
    · exact kept _ (h2 1) 2 1 (ho.p2 1) (by decide) j
    · exact kept _ (h2 2) 2 2 (ho.p2 2) (by decide) j
    · exact kept _ (h2 3) 2 3 (ho.p2 3) (by decide) j)) $$ Hb
  iintro Hb
  iapply (set4_mix hc h3 ho.p3 (fun q j => by
    fin_cases q
    · exact kept _ (h3 0) 3 0 (ho.p3 0) (by decide) j
    · exact kept _ (h3 1) 3 1 (ho.p3 1) (by decide) j
    · exact kept _ (h3 2) 3 2 (ho.p3 2) (by decide) j
    · exact kept _ (h3 3) 3 3 (ho.p3 3) (by decide) j)) $$ Hb
  iintro Hb
  iapply Hk
  rw [mix_congr v hdone]
  iexact Hb

end Access

end Cert.ComputedIdeal.Hand
-- ==== Proof.LoopsComputedIdeal.lean ====
module

public import proofs.«01_k».proof.Proof.ChunkComputedIdeal

@[expose] public section

/-! # The two loops over a chunk

The trips of `trip2` treat the vectors of 2 by 2 blocks in order, eight a trip, those of `trip4` the vectors of 4 by 4
blocks, three a trip. After both loops the buffer reads as `keep v`. -/

noncomputable section

namespace Cert.ComputedIdeal.Hand

open Cert.ComputedIdeal Cert.ComputedIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The offsets -/

instance (o : Fin 4 → Fin 3 → ℕ) (r c b : ℕ) : Decidable (At4 o r c b) := by unfold At4; infer_instance

/-- The 2 by 2 blocks of trip `t`: rows 0 and 1, then rows 2 and 3, each for 16 channels from 0, 16, 32 and 48. -/
theorem at2_0 (t : Fin k0_t2_loop.trips) : Block2 (k0_off6 t) (k0_off7 t) (k0_off8 t) (k0_off9 t) 0 (2 * t.val) 0 :=
  have h : ∀ t : Fin k0_t2_loop.trips, At (k0_off6 t) 0 (2 * t.val) 0 ∧ At (k0_off7 t) 0 (2 * t.val + 1) 0
      ∧ At (k0_off8 t) (0 + 1) (2 * t.val) 0 ∧ At (k0_off9 t) (0 + 1) (2 * t.val + 1) 0 := by decide +kernel
  ⟨(h t).1, (h t).2.1, (h t).2.2.1, (h t).2.2.2⟩
theorem at2_1 (t : Fin k0_t2_loop.trips) : Block2 (k0_off10 t) (k0_off11 t) (k0_off12 t) (k0_off13 t) 0 (2 * t.val) 16 :=
  have h : ∀ t : Fin k0_t2_loop.trips, At (k0_off10 t) 0 (2 * t.val) 16 ∧ At (k0_off11 t) 0 (2 * t.val + 1) 16
      ∧ At (k0_off12 t) (0 + 1) (2 * t.val) 16 ∧ At (k0_off13 t) (0 + 1) (2 * t.val + 1) 16 := by decide +kernel
  ⟨(h t).1, (h t).2.1, (h t).2.2.1, (h t).2.2.2⟩
theorem at2_2 (t : Fin k0_t2_loop.trips) : Block2 (k0_off14 t) (k0_off15 t) (k0_off16 t) (k0_off17 t) 0 (2 * t.val) 32 :=
  have h : ∀ t : Fin k0_t2_loop.trips, At (k0_off14 t) 0 (2 * t.val) 32 ∧ At (k0_off15 t) 0 (2 * t.val + 1) 32
      ∧ At (k0_off16 t) (0 + 1) (2 * t.val) 32 ∧ At (k0_off17 t) (0 + 1) (2 * t.val + 1) 32 := by decide +kernel
  ⟨(h t).1, (h t).2.1, (h t).2.2.1, (h t).2.2.2⟩
theorem at2_3 (t : Fin k0_t2_loop.trips) : Block2 (k0_off18 t) (k0_off19 t) (k0_off20 t) (k0_off21 t) 0 (2 * t.val) 48 :=
  have h : ∀ t : Fin k0_t2_loop.trips, At (k0_off18 t) 0 (2 * t.val) 48 ∧ At (k0_off19 t) 0 (2 * t.val + 1) 48
      ∧ At (k0_off20 t) (0 + 1) (2 * t.val) 48 ∧ At (k0_off21 t) (0 + 1) (2 * t.val + 1) 48 := by decide +kernel
  ⟨(h t).1, (h t).2.1, (h t).2.2.1, (h t).2.2.2⟩
theorem at2_4 (t : Fin k0_t2_loop.trips) : Block2 (k0_off22 t) (k0_off23 t) (k0_off24 t) (k0_off25 t) 2 (2 * t.val) 0 :=
  have h : ∀ t : Fin k0_t2_loop.trips, At (k0_off22 t) 2 (2 * t.val) 0 ∧ At (k0_off23 t) 2 (2 * t.val + 1) 0
      ∧ At (k0_off24 t) (2 + 1) (2 * t.val) 0 ∧ At (k0_off25 t) (2 + 1) (2 * t.val + 1) 0 := by decide +kernel
  ⟨(h t).1, (h t).2.1, (h t).2.2.1, (h t).2.2.2⟩
theorem at2_5 (t : Fin k0_t2_loop.trips) : Block2 (k0_off26 t) (k0_off27 t) (k0_off28 t) (k0_off29 t) 2 (2 * t.val) 16 :=
  have h : ∀ t : Fin k0_t2_loop.trips, At (k0_off26 t) 2 (2 * t.val) 16 ∧ At (k0_off27 t) 2 (2 * t.val + 1) 16
      ∧ At (k0_off28 t) (2 + 1) (2 * t.val) 16 ∧ At (k0_off29 t) (2 + 1) (2 * t.val + 1) 16 := by decide +kernel
  ⟨(h t).1, (h t).2.1, (h t).2.2.1, (h t).2.2.2⟩
theorem at2_6 (t : Fin k0_t2_loop.trips) : Block2 (k0_off30 t) (k0_off31 t) (k0_off32 t) (k0_off33 t) 2 (2 * t.val) 32 :=
  have h : ∀ t : Fin k0_t2_loop.trips, At (k0_off30 t) 2 (2 * t.val) 32 ∧ At (k0_off31 t) 2 (2 * t.val + 1) 32
      ∧ At (k0_off32 t) (2 + 1) (2 * t.val) 32 ∧ At (k0_off33 t) (2 + 1) (2 * t.val + 1) 32 := by decide +kernel
  ⟨(h t).1, (h t).2.1, (h t).2.2.1, (h t).2.2.2⟩
theorem at2_7 (t : Fin k0_t2_loop.trips) : Block2 (k0_off34 t) (k0_off35 t) (k0_off36 t) (k0_off37 t) 2 (2 * t.val) 48 :=
  have h : ∀ t : Fin k0_t2_loop.trips, At (k0_off34 t) 2 (2 * t.val) 48 ∧ At (k0_off35 t) 2 (2 * t.val + 1) 48
      ∧ At (k0_off36 t) (2 + 1) (2 * t.val) 48 ∧ At (k0_off37 t) (2 + 1) (2 * t.val + 1) 48 := by decide +kernel
  ⟨(h t).1, (h t).2.1, (h t).2.2.1, (h t).2.2.2⟩

/-! The 4 by 4 blocks of trip `t`: 16 channels from 64, 80 and 96. -/

theorem at4_0 (t : Fin k0_t3_loop.trips) :
    Block4 (fun q : Fin 4 => k0_off38 t (BitVec.ofNat 32 q.val)) (fun q : Fin 4 => k0_off39 t (BitVec.ofNat 32 q.val))
      (fun q : Fin 4 => k0_off40 t (BitVec.ofNat 32 q.val)) (fun q : Fin 4 => k0_off41 t (BitVec.ofNat 32 q.val)) (4 * t.val) 64 :=
  have h : ∀ t : Fin k0_t3_loop.trips, At4 (fun q : Fin 4 => k0_off38 t (BitVec.ofNat 32 q.val)) 0 (4 * t.val) 64
      ∧ At4 (fun q : Fin 4 => k0_off39 t (BitVec.ofNat 32 q.val)) 1 (4 * t.val) 64
      ∧ At4 (fun q : Fin 4 => k0_off40 t (BitVec.ofNat 32 q.val)) 2 (4 * t.val) 64
      ∧ At4 (fun q : Fin 4 => k0_off41 t (BitVec.ofNat 32 q.val)) 3 (4 * t.val) 64 := by decide +kernel
  ⟨(h t).1, (h t).2.1, (h t).2.2.1, (h t).2.2.2⟩
theorem at4_1 (t : Fin k0_t3_loop.trips) :
    Block4 (fun q : Fin 4 => k0_off42 t (BitVec.ofNat 32 q.val)) (fun q : Fin 4 => k0_off43 t (BitVec.ofNat 32 q.val))
      (fun q : Fin 4 => k0_off44 t (BitVec.ofNat 32 q.val)) (fun q : Fin 4 => k0_off45 t (BitVec.ofNat 32 q.val)) (4 * t.val) 80 :=
  have h : ∀ t : Fin k0_t3_loop.trips, At4 (fun q : Fin 4 => k0_off42 t (BitVec.ofNat 32 q.val)) 0 (4 * t.val) 80
      ∧ At4 (fun q : Fin 4 => k0_off43 t (BitVec.ofNat 32 q.val)) 1 (4 * t.val) 80
      ∧ At4 (fun q : Fin 4 => k0_off44 t (BitVec.ofNat 32 q.val)) 2 (4 * t.val) 80
      ∧ At4 (fun q : Fin 4 => k0_off45 t (BitVec.ofNat 32 q.val)) 3 (4 * t.val) 80 := by decide +kernel
  ⟨(h t).1, (h t).2.1, (h t).2.2.1, (h t).2.2.2⟩
theorem at4_2 (t : Fin k0_t3_loop.trips) :
    Block4 (fun q : Fin 4 => k0_off46 t (BitVec.ofNat 32 q.val)) (fun q : Fin 4 => k0_off47 t (BitVec.ofNat 32 q.val))
      (fun q : Fin 4 => k0_off48 t (BitVec.ofNat 32 q.val)) (fun q : Fin 4 => k0_off49 t (BitVec.ofNat 32 q.val)) (4 * t.val) 96 :=
  have h : ∀ t : Fin k0_t3_loop.trips, At4 (fun q : Fin 4 => k0_off46 t (BitVec.ofNat 32 q.val)) 0 (4 * t.val) 96
      ∧ At4 (fun q : Fin 4 => k0_off47 t (BitVec.ofNat 32 q.val)) 1 (4 * t.val) 96
      ∧ At4 (fun q : Fin 4 => k0_off48 t (BitVec.ofNat 32 q.val)) 2 (4 * t.val) 96
      ∧ At4 (fun q : Fin 4 => k0_off49 t (BitVec.ofNat 32 q.val)) 3 (4 * t.val) 96 := by decide +kernel
  ⟨(h t).1, (h t).2.1, (h t).2.2.1, (h t).2.2.2⟩

section Loops

variable (d : Dev nD) (L : grid0.Coords)
variable {d L} {Q : Unit → sProp (MT nD τ sig (HIx 1) (Elt F) ℕ UU ℕ)}

theorem trip2_wp {B : BufM} {v : S4x56x128.Idx → F .f32} (t : Fin k0_t2_loop.trips) :
    bufIs (F := F) d L B (mix (Done2 (8 * t.val)) v)
      ⊢ wp frame (wpE (defs₀ (F := F)) 𝒱₀ (thr d L) none) Set.univ (trip2 B t)
          fun _ => bufIs (F := F) d L B (mix (Done2 (8 * (t.val + 1))) v) := by
  unfold trip2
  iintro Hb
  iapply (block2_wp (8 * t.val + 0) 0 (2 * t.val) 0 (by decide) (by decide) (by omega) (by decide) (by decide) (by omega) (at2_0 t)) $$ Hb
  iintro Hb
  iapply (block2_wp (8 * t.val + 1) 0 (2 * t.val) 16 (by decide) (by decide) (by omega) (by decide) (by decide) (by omega) (at2_1 t)) $$ Hb
  iintro Hb
  iapply (block2_wp (8 * t.val + 2) 0 (2 * t.val) 32 (by decide) (by decide) (by omega) (by decide) (by decide) (by omega) (at2_2 t)) $$ Hb
  iintro Hb
  iapply (block2_wp (8 * t.val + 3) 0 (2 * t.val) 48 (by decide) (by decide) (by omega) (by decide) (by decide) (by omega) (at2_3 t)) $$ Hb
  iintro Hb
  iapply (block2_wp (8 * t.val + 4) 2 (2 * t.val) 0 (by decide) (by decide) (by omega) (by decide) (by decide) (by omega) (at2_4 t)) $$ Hb
  iintro Hb
  iapply (block2_wp (8 * t.val + 5) 2 (2 * t.val) 16 (by decide) (by decide) (by omega) (by decide) (by decide) (by omega) (at2_5 t)) $$ Hb
  iintro Hb
  iapply (block2_wp (8 * t.val + 6) 2 (2 * t.val) 32 (by decide) (by decide) (by omega) (by decide) (by decide) (by omega) (at2_6 t)) $$ Hb
  iintro Hb
  iapply (block2_wp (8 * t.val + 7) 2 (2 * t.val) 48 (by decide) (by decide) (by omega) (by decide) (by decide) (by omega) (at2_7 t)) $$ Hb
  iintro Hb
  rw [wp_ret]
  imodintro
  iexact Hb

theorem trip4_wp {B : BufM} {v : S4x56x128.Idx → F .f32} (t : Fin k0_t3_loop.trips) :
    bufIs (F := F) d L B (mix (Done4 (3 * t.val)) v)
      ⊢ wp frame (wpE (defs₀ (F := F)) 𝒱₀ (thr d L) none) Set.univ (trip4 B t)
          fun _ => bufIs (F := F) d L B (mix (Done4 (3 * (t.val + 1))) v) := by
  unfold trip4
  iintro Hb
  iapply (block4_wp (3 * t.val + 0) (4 * t.val) 64 (by omega) (by decide) (by decide) (by decide) (by omega) (at4_0 t)) $$ Hb
  iintro Hb
  iapply (block4_wp (3 * t.val + 1) (4 * t.val) 80 (by omega) (by decide) (by decide) (by decide) (by omega) (at4_1 t)) $$ Hb
  iintro Hb
  iapply (block4_wp (3 * t.val + 2) (4 * t.val) 96 (by omega) (by decide) (by decide) (by decide) (by omega) (at4_2 t)) $$ Hb
  iintro Hb
  rw [wp_ret]
  imodintro
  iexact Hb

theorem done2_none (v : S4x56x128.Idx → F .f32) : mix (Done2 0) v = v :=
  funext fun i => if_neg (by unfold Done2; omega)

theorem done2_all (v : S4x56x128.Idx → F .f32) : mix (Done2 224) v = mix (Done4 0) v :=
  mix_congr v fun i => by
    have h0 : (i 0).val < 4 := (i 0).isLt
    have h1 : (i 1).val < 56 := (i 1).isLt
    unfold Done2 Done4; omega

theorem done4_all (v : S4x56x128.Idx → F .f32) : mix (Done4 42) v = keep v := by
  funext i
  unfold mix
  have h1 : (i 1).val < 56 := (i 1).isLt
  by_cases h : Done4 42 i
  · rw [if_pos h]
  · rw [if_neg h]
    unfold Done4 at h
    unfold keep
    rw [if_neg (by omega), if_neg (by omega)]

/-- Both loops, on a buffer that reads as `v`. -/
theorem compute_wp {B : BufM} {v : S4x56x128.Idx → F .f32}
    {b2 : Fin k0_t2_loop.trips → Unit → TProg F (thr d L).2} (hb2 : ∀ t, b2 t () = trip2 B t)
    {b3 : Fin k0_t3_loop.trips → Unit → TProg F (thr d L).2} (hb3 : ∀ t, b3 t () = trip4 B t)
    {κ : TProg F (thr d L).2} :
    bufIs (F := F) d L B v
      ⊢ iprop((bufIs (F := F) d L B (keep v) -∗ wp frame (wpE (defs₀ (F := F)) 𝒱₀ (thr d L) none) Set.univ κ Q)
          -∗ wp frame (wpE (defs₀ (F := F)) 𝒱₀ (thr d L) none) Set.univ
              (Scf.Loop.for k0_t2_loop k0_t2_ok ⟨⟩ b2 >>= fun _ => Scf.Loop.for k0_t3_loop k0_t3_ok ⟨⟩ b3 >>= fun _ => κ) Q) := by
  iintro Hb Hk
  sl_for (fun t _ => bufIs (F := F) d L B (mix (Done2 (8 * t)) v)) $$ [Hb]
  case region =>
    intro t _
    refine (trip2_wp t).trans (Entails.of_eq ?_)
    exact congrArg (fun p => wp frame (wpE (defs₀ (F := F)) 𝒱₀ (thr d L) none) Set.univ p
      fun _ => bufIs (F := F) d L B (mix (Done2 (8 * (t.val + 1))) v)) (hb2 t).symm
  · rw [Nat.mul_zero, done2_none]; iexact Hb
  iintro %_ Hb
  rw [show 8 * k0_t2_loop.trips = 224 from rfl, done2_all]
  sl_for (fun t _ => bufIs (F := F) d L B (mix (Done4 (3 * t)) v)) $$ [Hb]
  case region =>
    intro t _
    refine (trip4_wp t).trans (Entails.of_eq ?_)
    exact congrArg (fun p => wp frame (wpE (defs₀ (F := F)) 𝒱₀ (thr d L) none) Set.univ p
      fun _ => bufIs (F := F) d L B (mix (Done4 (3 * (t.val + 1))) v)) (hb3 t).symm
  · rw [Nat.mul_zero]; iexact Hb
  iintro %_ Hb
  rw [show 3 * k0_t3_loop.trips = 42 from rfl, done4_all]
  iapply Hk
  iexact Hb

end Loops

end Cert.ComputedIdeal.Hand
-- ==== Proof.TileComputedIdeal.lean ====
module

public import proofs.«01_k».proof.Proof.LoopsComputedIdeal

@[expose] public section

/-! # A tile's run

The invariant of the kernel's loop and the run of one tile, at a symbolic SparseCore and subcore.
At the loop's entry for the `t`-th time chunks `4 t` and `4 t + 1` are on their way into the first
two buffers, chunks `4 t - 2` and `4 t - 1` on their way out of the last two, everything before them is
done and everything after them not yet read. -/

noncomputable section

namespace Cert.ComputedIdeal.Hand

open Cert.ComputedIdeal Cert.ComputedIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

section Loop

variable [FloatOps F] (d : Dev nD) (L : grid0.Coords)
variable (X : Buf (Elt F) (xLoc d)) (y₀ Y : Buf (Elt F) (yLoc d))
  (O : CellTallies nD τ sig (HIx 1)) (W : Waits sig (HIx 1))

/-- The first `n` chunks, done. -/
def doneTo (n : ℕ) : sProp 𝕄 := bigSep (Finset.range n) fun k => iprop(xP d L X k ∗ yP d L Y k)
/-- The chunks from the `n`-th on, not yet read. -/
def pendFrom (n : ℕ) : sProp 𝕄 := bigSep (Finset.Ico n 28) fun k => iprop(xP d L X k ∗ yP d L y₀ k)

variable {d L X Y y₀} in
theorem doneTo_push (n : ℕ) : iprop(doneTo d L X Y n ∗ xP d L X n ∗ yP d L Y n) ⊢ doneTo d L X Y (n + 1) := by
  unfold doneTo
  rw [Finset.range_add_one, SparseCore.bigSep_insert' Finset.notMem_range_self]
  iintro ⟨Hd, Hx, Hy⟩
  isplitl [Hx Hy]
  · isplitl [Hx]; · iexact Hx
    iexact Hy
  · iexact Hd

variable {d L X Y y₀} in
theorem pendFrom_pop (n : ℕ) (h : n < 28) :
    pendFrom d L X y₀ n ⊢ iprop((xP d L X n ∗ yP d L y₀ n) ∗ pendFrom d L X y₀ (n + 1)) := by
  unfold pendFrom
  rw [← Finset.insert_Ico_add_one_left_eq_Ico h, SparseCore.bigSep_insert' (by simp)]

/-- One of the first two buffers at the loop's `t`-th entry. -/
def slotA (B : BufM) (si so : DmaSem sig) (b t : ℕ) : sProp 𝕄 :=
  if t < 7 then inFl d L X y₀ B si so (4 * t + b) else outFl d L X Y B si so (24 + b)
/-- One of the last two buffers at the loop's `t`-th entry. -/
def slotB (B : BufM) (si so : DmaSem sig) (b t : ℕ) : sProp 𝕄 :=
  if t = 0 then inFl d L X y₀ B si so b else outFl d L X Y B si so (4 * (t - 1) + b)

variable (B0 : BufM) (h0 : B0.IsWhole) (B1 : BufM) (h1 : B1.IsWhole) (B2 : BufM) (h2 : B2.IsWhole) (B3 : BufM) (h3 : B3.IsWhole)
  (i0 i1 i2 i3 o0 o1 o2 o3 : DmaSems sig S_)

variable {d L X Y y₀ O W} in
/-- A chunk turned around: its copy in is awaited, the two loops run over the buffer, and its copy out is started. -/
theorem turn {B : BufM} {si so : DmaSem sig} {Q : PUnit → sProp 𝕄} {κ : PUnit → TProg F (thr d L).2} (k : ℕ)
    {b2 : Fin k0_t2_loop.trips → Unit → TProg F (thr d L).2} (hb2 : ∀ t, b2 t () = trip2 B t)
    {b3 : Fin k0_t3_loop.trips → Unit → TProg F (thr d L).2} (hb3 : ∀ t, b3 t () = trip4 B t)
    (hk : keep (F := F) (inVal d L X k) = outVal d L Y k)
    {src dst : Memref sig .scVector .hbm S4x56x128 .f32} (hd : dst = chunkOf yV L k)
    {a1 : src.view.WordExact} {a2 : B.view.WordExact} {h1 : B.view.WordExact} {h2 : dst.view.WordExact}
    {h3 : DmaTarget.Typed (nD := nD) (p := (thr d L).2) (.vmem) (SemLoc.dma so) (.here dst)} :
    iprop(inFl d L X y₀ B si so k ∗ ow d L O W)
      ⊢ iprop((iprop(outFl d L X Y B si so k ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 si src B a1 a2) fun _ =>
                Scf.Loop.for k0_t2_loop k0_t2_ok ⟨⟩ b2 >>= fun _ => Scf.Loop.for k0_t3_loop k0_t3_ok ⟨⟩ b3 >>= fun _ =>
                  .op (.enqueueDma B (.here dst) (SemLoc.dma so) h1 h2 h3) κ) Q) := by
  iintro ⟨Hin, How⟩ Hk
  iapply (wait_in k) $$ [Hin How]
  · isplitl [Hin]; · iexact Hin
    iexact How
  iintro ⟨Hb, Hx, Hy, Hsi, Hso, How⟩
  iapply (compute_wp hb2 hb3) $$ [Hb]
  · iexact Hb
  iintro Hb
  iapply (start_out k hd) $$ [Hb Hx Hy Hsi Hso]
  · isplitl [Hb]
    · rw [hk]; iexact Hb
    isplitl [Hx]; · iexact Hx
    isplitl [Hy]; · iexact Hy
    isplitl [Hsi]; · iexact Hsi
    iexact Hso
  iintro Hout
  iapply Hk
  isplitl [Hout]; · iexact Hout
  iexact How

variable {d L X Y y₀ O W B0 h0 B1 h1 B2 h2 B3 h3 i0 i1 i2 i3 o0 o1 o2 o3} in
/-- A chunk turned around in the first buffer, by the kernel's own loops over it. -/
theorem turn0 {si so : DmaSem sig} {Q : PUnit → sProp 𝕄} {κ : PUnit → TProg F (thr d L).2} {t₁ : Fin k0_t1_loop.trips} {v29 v72 c28 : BitVec 32} (k : ℕ)
    (hk : keep (F := F) (inVal d L X k) = outVal d L Y k)
    {src dst : Memref sig .scVector .hbm S4x56x128 .f32} (hd : dst = chunkOf yV L k)
    {a1 : src.view.WordExact} {a2 : B0.view.WordExact} {g1 : B0.view.WordExact} {g2 : dst.view.WordExact}
    {g3 : DmaTarget.Typed (nD := nD) (p := (thr d L).2) (.vmem) (SemLoc.dma so) (.here dst)} :
    iprop(inFl d L X y₀ B0 si so k ∗ ow d L O W)
      ⊢ iprop((iprop(outFl d L X Y B0 si so k ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 si src B0 a1 a2) fun _ =>
                Scf.Loop.for k0_t2_loop k0_t2_ok ⟨⟩ (k0_t2_body (F := F) L xV (Memref.isWhole_whole _) yV (Memref.isWhole_whole _)
                  B0 h0 B1 h1 B2 h2 B3 h3 i0 i1 i2 i3 o0 o1 o2 o3 v29 t₁ v72 0#32 c28) >>= fun _ =>
                Scf.Loop.for k0_t3_loop k0_t3_ok ⟨⟩ (k0_t3_body (F := F) L xV (Memref.isWhole_whole _) yV (Memref.isWhole_whole _)
                  B0 h0 B1 h1 B2 h2 B3 h3 i0 i1 i2 i3 o0 o1 o2 o3 v29 t₁ v72 0#32 c28) >>= fun _ =>
                  .op (.enqueueDma B0 (.here dst) (SemLoc.dma so) g1 g2 g3) κ) Q) :=
  turn k (fun t => t2_eq L B0 h0 B1 h1 B2 h2 B3 h3 i0 i1 i2 i3 o0 o1 o2 o3 v29 t₁ v72 c28 t) (fun t => t3_eq L B0 h0 B1 h1 B2 h2 B3 h3 i0 i1 i2 i3 o0 o1 o2 o3 v29 t₁ v72 c28 t) hk hd

variable {d L X Y y₀ O W B0 h0 B1 h1 B2 h2 B3 h3 i0 i1 i2 i3 o0 o1 o2 o3} in
/-- A chunk turned around in the second buffer, by the kernel's own loops over it. -/
theorem turn1 {si so : DmaSem sig} {Q : PUnit → sProp 𝕄} {κ : PUnit → TProg F (thr d L).2} {t₁ : Fin k0_t1_loop.trips} {v148 : BitVec 32} (k : ℕ)
    (hk : keep (F := F) (inVal d L X k) = outVal d L Y k)
    {src dst : Memref sig .scVector .hbm S4x56x128 .f32} (hd : dst = chunkOf yV L k)
    {a1 : src.view.WordExact} {a2 : B1.view.WordExact} {g1 : B1.view.WordExact} {g2 : dst.view.WordExact}
    {g3 : DmaTarget.Typed (nD := nD) (p := (thr d L).2) (.vmem) (SemLoc.dma so) (.here dst)} :
    iprop(inFl d L X y₀ B1 si so k ∗ ow d L O W)
      ⊢ iprop((iprop(outFl d L X Y B1 si so k ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 si src B1 a1 a2) fun _ =>
                Scf.Loop.for k0_t4_loop k0_t4_ok ⟨⟩ (k0_t4_body (F := F) L xV (Memref.isWhole_whole _) yV (Memref.isWhole_whole _)
                  B0 h0 B1 h1 B2 h2 B3 h3 i0 i1 i2 i3 o0 o1 o2 o3 t₁ v148) >>= fun _ =>
                Scf.Loop.for k0_t5_loop k0_t5_ok ⟨⟩ (k0_t5_body (F := F) L xV (Memref.isWhole_whole _) yV (Memref.isWhole_whole _)
                  B0 h0 B1 h1 B2 h2 B3 h3 i0 i1 i2 i3 o0 o1 o2 o3 t₁ v148) >>= fun _ =>
                  .op (.enqueueDma B1 (.here dst) (SemLoc.dma so) g1 g2 g3) κ) Q) :=
  turn k (fun t => t4_eq L B0 h0 B1 h1 B2 h2 B3 h3 i0 i1 i2 i3 o0 o1 o2 o3 t₁ v148 t) (fun t => t5_eq L B0 h0 B1 h1 B2 h2 B3 h3 i0 i1 i2 i3 o0 o1 o2 o3 t₁ v148 t) hk hd

variable {d L X Y y₀ O W B0 h0 B1 h1 B2 h2 B3 h3 i0 i1 i2 i3 o0 o1 o2 o3} in
/-- A chunk turned around in the third buffer, by the kernel's own loops over it. -/
theorem turn2 {si so : DmaSem sig} {Q : PUnit → sProp 𝕄} {κ : PUnit → TProg F (thr d L).2} {t₁ : Fin k0_t1_loop.trips} {v29 v224 v241 v243 v244 : BitVec 32} {v245 v246 : BitVec 1} (k : ℕ)
    (hk : keep (F := F) (inVal d L X k) = outVal d L Y k)
    {src dst : Memref sig .scVector .hbm S4x56x128 .f32} (hd : dst = chunkOf yV L k)
    {a1 : src.view.WordExact} {a2 : B2.view.WordExact} {g1 : B2.view.WordExact} {g2 : dst.view.WordExact}
    {g3 : DmaTarget.Typed (nD := nD) (p := (thr d L).2) (.vmem) (SemLoc.dma so) (.here dst)} :
    iprop(inFl d L X y₀ B2 si so k ∗ ow d L O W)
      ⊢ iprop((iprop(outFl d L X Y B2 si so k ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 si src B2 a1 a2) fun _ =>
                Scf.Loop.for k0_t6_loop k0_t6_ok ⟨⟩ (k0_t6_body (F := F) L xV (Memref.isWhole_whole _) yV (Memref.isWhole_whole _)
                  B0 h0 B1 h1 B2 h2 B3 h3 i0 i1 i2 i3 o0 o1 o2 o3 v29 t₁ v224 v241 v243 v244 v245 v246 0#32) >>= fun _ =>
                Scf.Loop.for k0_t7_loop k0_t7_ok ⟨⟩ (k0_t7_body (F := F) L xV (Memref.isWhole_whole _) yV (Memref.isWhole_whole _)
                  B0 h0 B1 h1 B2 h2 B3 h3 i0 i1 i2 i3 o0 o1 o2 o3 v29 t₁ v224 v241 v243 v244 v245 v246 0#32) >>= fun _ =>
                  .op (.enqueueDma B2 (.here dst) (SemLoc.dma so) g1 g2 g3) κ) Q) :=
  turn k (fun t => t6_eq L B0 h0 B1 h1 B2 h2 B3 h3 i0 i1 i2 i3 o0 o1 o2 o3 v29 t₁ v224 v241 v243 v244 v245 v246 t) (fun t => t7_eq L B0 h0 B1 h1 B2 h2 B3 h3 i0 i1 i2 i3 o0 o1 o2 o3 v29 t₁ v224 v241 v243 v244 v245 v246 t) hk hd

variable {d L X Y y₀ O W B0 h0 B1 h1 B2 h2 B3 h3 i0 i1 i2 i3 o0 o1 o2 o3} in
/-- A chunk turned around in the fourth buffer, by the kernel's own loops over it. -/
theorem turn3 {si so : DmaSem sig} {Q : PUnit → sProp 𝕄} {κ : PUnit → TProg F (thr d L).2} {t₁ : Fin k0_t1_loop.trips} {v29 v300 v317 c4 : BitVec 32} (k : ℕ)
    (hk : keep (F := F) (inVal d L X k) = outVal d L Y k)
    {src dst : Memref sig .scVector .hbm S4x56x128 .f32} (hd : dst = chunkOf yV L k)
    {a1 : src.view.WordExact} {a2 : B3.view.WordExact} {g1 : B3.view.WordExact} {g2 : dst.view.WordExact}
    {g3 : DmaTarget.Typed (nD := nD) (p := (thr d L).2) (.vmem) (SemLoc.dma so) (.here dst)} :
    iprop(inFl d L X y₀ B3 si so k ∗ ow d L O W)
      ⊢ iprop((iprop(outFl d L X Y B3 si so k ∗ ow d L O W)
            -∗ wp frame (wpE (defs₀ (F := F)) 𝒱₀ (thr d L) none) Set.univ (κ ⟨⟩) Q)
          -∗ wp frame (wpE (defs₀ (F := F)) 𝒱₀ (thr d L) none) Set.univ
              (.op (.waitDma2 si src B3 a1 a2) fun _ =>
                Scf.Loop.for k0_t8_loop k0_t8_ok ⟨⟩ (k0_t8_body (F := F) L xV (Memref.isWhole_whole _) yV (Memref.isWhole_whole _)
                  B0 h0 B1 h1 B2 h2 B3 h3 i0 i1 i2 i3 o0 o1 o2 o3 v29 t₁ v300 v317 c4) >>= fun _ =>
                Scf.Loop.for k0_t9_loop k0_t9_ok ⟨⟩ (k0_t9_body (F := F) L xV (Memref.isWhole_whole _) yV (Memref.isWhole_whole _)
                  B0 h0 B1 h1 B2 h2 B3 h3 i0 i1 i2 i3 o0 o1 o2 o3 v29 t₁ v300 v317 c4) >>= fun _ =>
                  .op (.enqueueDma B3 (.here dst) (SemLoc.dma so) g1 g2 g3) κ) Q) :=
  turn k (fun t => t8_eq L B0 h0 B1 h1 B2 h2 B3 h3 i0 i1 i2 i3 o0 o1 o2 o3 v29 t₁ v300 v317 c4 t) (fun t => t9_eq L B0 h0 B1 h1 B2 h2 B3 h3 i0 i1 i2 i3 o0 o1 o2 o3 v29 t₁ v300 v317 c4 t) hk hd

/-- The state of a tile at the loop's `t`-th entry. -/
def loopInv (t : ℕ) : sProp 𝕄 :=
  iprop(ow d L O W ∗ doneTo d L X Y (min (4 * t - 2) 24) ∗ pendFrom d L X y₀ (max 4 (min 28 (4 * t + 2)))
    ∗ slotA d L X y₀ Y B0 i0.sem o0.sem 0 t ∗ slotA d L X y₀ Y B1 i1.sem o1.sem 1 t
    ∗ slotB d L X y₀ Y B2 i2.sem o2.sem 2 t ∗ slotB d L X y₀ Y B3 i3.sem o3.sem 3 t)

variable {d L X Y y₀ O W B0 B1 B2 B3 i0 i1 i2 i3 o0 o1 o2 o3} in
theorem body_first (hXY : ∀ k, keep (F := F) (inVal d L X k) = outVal d L Y k) (t : Fin k0_t1_loop.trips) (ht : t.val = 0) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have c1 : ¬ k0_cond1 t = 1#1 := fun h => by have := (cond1_iff t).mp h; omega
  have c2 : ¬ k0_cond2 t = 1#1 := fun h => by have := (cond2_iff t).mp h; omega
  have c3 : k0_cond3 t = 1#1 := (cond3_iff t).mpr (by omega)
  have c4 : k0_cond4 t = 1#1 := (cond4_iff t).mpr (by omega)
  have e1 : loopInv d L X y₀ Y O W B0 B1 B2 B3 i0 i1 i2 i3 o0 o1 o2 o3 t.val
      = iprop(ow d L O W ∗ doneTo d L X Y (4 * t.val) ∗ pendFrom d L X y₀ (4 * t.val + 4)
        ∗ inFl d L X y₀ B0 i0.sem o0.sem (4 * t.val + 0) ∗ inFl d L X y₀ B1 i1.sem o1.sem (4 * t.val + 1)
        ∗ inFl d L X y₀ B2 i2.sem o2.sem (4 * t.val + 2) ∗ inFl d L X y₀ B3 i3.sem o3.sem (4 * t.val + 3)) := by
    unfold loopInv slotA slotB; simp [ht]
  have e2 : loopInv d L X y₀ Y O W B0 B1 B2 B3 i0 i1 i2 i3 o0 o1 o2 o3 (t.val + 1)
      = iprop(ow d L O W ∗ doneTo d L X Y (4 * t.val + 1 + 1) ∗ pendFrom d L X y₀ (4 * t.val + 5 + 1)
        ∗ inFl d L X y₀ B0 i0.sem o0.sem (4 * t.val + 4) ∗ inFl d L X y₀ B1 i1.sem o1.sem (4 * t.val + 5)
        ∗ outFl d L X Y B2 i2.sem o2.sem (4 * t.val + 2) ∗ outFl d L X Y B3 i3.sem o3.sem (4 * t.val + 3)) := by
    unfold loopInv slotA slotB; simp [ht]
  rw [e1, e2]
  unfold k0_t1_body
  simp only [k0_part117_eq_skeleton, k0_part118_eq_skeleton, k0_part119_eq_skeleton, k0_part120_eq_skeleton, k0_part121_eq_skeleton, k0_part122_eq_skeleton, k0_part123_eq_skeleton, k0_part124_eq_skeleton]
  unfold k0_part117_skel k0_part118_skel k0_part119_skel k0_part120_skel k0_part121_skel k0_part122_skel k0_part123_skel k0_part124_skel
  simp only [k0_part87_eq_skeleton, k0_part116_eq_skeleton, dif_pos c3, dif_pos c4, dif_neg c1, dif_neg c2]
  unfold k0_part87_skel k0_part116_skel
  simp only [Prog.lift, Prog.bind_op, Prog.bind_ret, Prog.pure_eq_ret, Prog.bind_assoc, dif_pos c3, dif_pos c4, dif_neg c1, dif_neg c2]
  iintro ⟨How, Hd, Hp, H0, H1, H2, H3⟩
  iapply (turn0 (4 * t.val + 0) (hXY _) (chunkOf_of_off _ L _ (off5_0 L t) _)) $$ [H0 How]
  · isplitl [H0]; · iexact H0
    iexact How
  iintro ⟨H0, How⟩
  iapply (turn1 (4 * t.val + 1) (hXY _) (chunkOf_of_off _ L _ (off5_1 L t) _)) $$ [H1 How]
  · isplitl [H1]; · iexact H1
    iexact How
  iintro ⟨H1, How⟩
  iapply (turn2 (4 * t.val + 2) (hXY _) (chunkOf_of_off _ L _ (off5_2 L t) _)) $$ [H2 How]
  · isplitl [H2]; · iexact H2
    iexact How
  iintro ⟨H2, How⟩
  ihave Hpk := (pendFrom_pop (4 * t.val + 4) (by omega)) $$ Hp
  icases Hpk with ⟨Hk, Hp⟩
  iapply (refill (4 * t.val) (4 * t.val + 4) (credit_out L _ _) (chunkOf_of_off _ L _ (off143_eq L t (by omega)) _)) $$ [H0 Hk How]
  · isplitl [H0]; · iexact H0
    isplitl [Hk]; · iexact Hk
    iexact How
  iintro ⟨H0, ⟨Hx, Hy⟩, How⟩
  ihave Hd := (doneTo_push (4 * t.val)) $$ [Hd Hx Hy]
  · isplitl [Hd]; · iexact Hd
    isplitl [Hx]; · iexact Hx
    iexact Hy
  iapply (turn3 (4 * t.val + 3) (hXY _) (chunkOf_of_off _ L _ (off5_3 L t) _)) $$ [H3 How]
  · isplitl [H3]; · iexact H3
    iexact How
  iintro ⟨H3, How⟩
  ihave Hpk := (pendFrom_pop (4 * t.val + 5) (by omega)) $$ Hp
  icases Hpk with ⟨Hk, Hp⟩
  iapply (refill (4 * t.val + 1) (4 * t.val + 5) (credit_out L _ _) (chunkOf_of_off _ L _ (off189_eq L t (by omega)) _)) $$ [H1 Hk How]
  · isplitl [H1]; · iexact H1
    isplitl [Hk]; · iexact Hk
    iexact How
  iintro ⟨H1, ⟨Hx, Hy⟩, How⟩
  ihave Hd := (doneTo_push (4 * t.val + 1)) $$ [Hd Hx Hy]
  · isplitl [Hd]; · iexact Hd
    isplitl [Hx]; · iexact Hx
    iexact Hy
  rw [wp_ret]
  imodintro
  isplitl [How]; · iexact How
  isplitl [Hd]; · iexact Hd
  isplitl [Hp]; · iexact Hp
  isplitl [H0]; · iexact H0
  isplitl [H1]; · iexact H1
  isplitl [H2]; · iexact H2
  iexact H3

variable {d L X Y y₀ O W B0 B1 B2 B3 i0 i1 i2 i3 o0 o1 o2 o3} in
theorem body_mid (hXY : ∀ k, keep (F := F) (inVal d L X k) = outVal d L Y k) (t : Fin k0_t1_loop.trips) (ht : 0 < t.val ∧ t.val < 6) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have c1 : k0_cond1 t = 1#1 := (cond1_iff t).mpr (by omega)
  have c2 : k0_cond2 t = 1#1 := (cond2_iff t).mpr (by omega)
  have c3 : k0_cond3 t = 1#1 := (cond3_iff t).mpr (by omega)
  have c4 : k0_cond4 t = 1#1 := (cond4_iff t).mpr (by omega)
  obtain ⟨u, hu⟩ : ∃ u, t.val = u + 1 := ⟨t.val - 1, by omega⟩
  have e1 : loopInv d L X y₀ Y O W B0 B1 B2 B3 i0 i1 i2 i3 o0 o1 o2 o3 t.val
      = iprop(ow d L O W ∗ doneTo d L X Y (4 * u + 2) ∗ pendFrom d L X y₀ (4 * t.val + 2)
        ∗ inFl d L X y₀ B0 i0.sem o0.sem (4 * t.val + 0) ∗ inFl d L X y₀ B1 i1.sem o1.sem (4 * t.val + 1)
        ∗ outFl d L X Y B2 i2.sem o2.sem (4 * u + 2) ∗ outFl d L X Y B3 i3.sem o3.sem (4 * u + 3)) := by
    unfold loopInv slotA slotB
    rw [if_pos (by omega : t.val < 7), if_pos (by omega : t.val < 7), if_neg (by omega : ¬ t.val = 0), if_neg (by omega : ¬ t.val = 0),
      show min (4 * t.val - 2) 24 = 4 * u + 2 by omega, show max 4 (min 28 (4 * t.val + 2)) = 4 * t.val + 2 by omega,
      show t.val - 1 = u by omega]
  have e2 : loopInv d L X y₀ Y O W B0 B1 B2 B3 i0 i1 i2 i3 o0 o1 o2 o3 (t.val + 1)
      = iprop(ow d L O W ∗ doneTo d L X Y (4 * t.val + 1 + 1) ∗ pendFrom d L X y₀ (4 * t.val + 5 + 1)
        ∗ inFl d L X y₀ B0 i0.sem o0.sem (4 * t.val + 4) ∗ inFl d L X y₀ B1 i1.sem o1.sem (4 * t.val + 5)
        ∗ outFl d L X Y B2 i2.sem o2.sem (4 * t.val + 2) ∗ outFl d L X Y B3 i3.sem o3.sem (4 * t.val + 3)) := by
    unfold loopInv slotA slotB
    rw [if_pos (by omega : t.val + 1 < 7), if_pos (by omega : t.val + 1 < 7), if_neg (by omega : ¬ t.val + 1 = 0), if_neg (by omega : ¬ t.val + 1 = 0),
      show min (4 * (t.val + 1) - 2) 24 = 4 * t.val + 1 + 1 by omega, show max 4 (min 28 (4 * (t.val + 1) + 2)) = 4 * t.val + 5 + 1 by omega,
      show t.val + 1 - 1 = t.val by omega, show 4 * (t.val + 1) + 0 = 4 * t.val + 4 by omega, show 4 * (t.val + 1) + 1 = 4 * t.val + 5 by omega]
  rw [e1, e2]
  unfold k0_t1_body
  simp only [k0_part117_eq_skeleton, k0_part118_eq_skeleton, k0_part119_eq_skeleton, k0_part120_eq_skeleton, k0_part121_eq_skeleton, k0_part122_eq_skeleton, k0_part123_eq_skeleton, k0_part124_eq_skeleton]
  unfold k0_part117_skel k0_part118_skel k0_part119_skel k0_part120_skel k0_part121_skel k0_part122_skel k0_part123_skel k0_part124_skel
  simp only [k0_part29_eq_skeleton, k0_part58_eq_skeleton, k0_part87_eq_skeleton, k0_part116_eq_skeleton, dif_pos c1, dif_pos c2, dif_pos c3, dif_pos c4]
  unfold k0_part29_skel k0_part58_skel k0_part87_skel k0_part116_skel
  simp only [Prog.lift, Prog.bind_op, Prog.bind_ret, Prog.pure_eq_ret, Prog.bind_assoc, dif_pos c1, dif_pos c2, dif_pos c3, dif_pos c4]
  iintro ⟨How, Hd, Hp, H0, H1, H2, H3⟩
  iapply (turn0 (4 * t.val + 0) (hXY _) (chunkOf_of_off _ L _ (off5_0 L t) _)) $$ [H0 How]
  · isplitl [H0]; · iexact H0
    iexact How
  iintro ⟨H0, How⟩
  ihave Hpk := (pendFrom_pop (4 * t.val + 2) (by omega)) $$ Hp
  icases Hpk with ⟨Hk, Hp⟩
  iapply (refill (4 * u + 2) (4 * t.val + 2) (credit_out L _ _) (chunkOf_of_off _ L _ (off51_eq L t) _)) $$ [H2 Hk How]
  · isplitl [H2]; · iexact H2
    isplitl [Hk]; · iexact Hk
    iexact How
  iintro ⟨H2, ⟨Hx, Hy⟩, How⟩
  ihave Hd := (doneTo_push (4 * u + 2)) $$ [Hd Hx Hy]
  · isplitl [Hd]; · iexact Hd
    isplitl [Hx]; · iexact Hx
    iexact Hy
  iapply (turn1 (4 * t.val + 1) (hXY _) (chunkOf_of_off _ L _ (off5_1 L t) _)) $$ [H1 How]
  · isplitl [H1]; · iexact H1
    iexact How
  iintro ⟨H1, How⟩
  ihave Hpk := (pendFrom_pop (4 * t.val + 3) (by omega)) $$ Hp
  icases Hpk with ⟨Hk, Hp⟩
  iapply (refill (4 * u + 3) (4 * t.val + 3) (credit_out L _ _) (chunkOf_of_off _ L _ (off97_eq L t) _)) $$ [H3 Hk How]
  · isplitl [H3]; · iexact H3
    isplitl [Hk]; · iexact Hk
    iexact How
  iintro ⟨H3, ⟨Hx, Hy⟩, How⟩
  ihave Hd := (doneTo_push (4 * u + 3)) $$ [Hd Hx Hy]
  · isplitl [Hd]; · iexact Hd
    isplitl [Hx]; · iexact Hx
    iexact Hy
  iapply (turn2 (4 * t.val + 2) (hXY _) (chunkOf_of_off _ L _ (off5_2 L t) _)) $$ [H2 How]
  · isplitl [H2]; · iexact H2
    iexact How
  iintro ⟨H2, How⟩
  rw [show 4 * u + 3 + 1 = 4 * t.val by omega]
  ihave Hpk := (pendFrom_pop (4 * t.val + 4) (by omega)) $$ Hp
  icases Hpk with ⟨Hk, Hp⟩
  iapply (refill (4 * t.val) (4 * t.val + 4) (credit_out L _ _) (chunkOf_of_off _ L _ (off143_eq L t (by omega)) _)) $$ [H0 Hk How]
  · isplitl [H0]; · iexact H0
    isplitl [Hk]; · iexact Hk
    iexact How
  iintro ⟨H0, ⟨Hx, Hy⟩, How⟩
  ihave Hd := (doneTo_push (4 * t.val)) $$ [Hd Hx Hy]
  · isplitl [Hd]; · iexact Hd
    isplitl [Hx]; · iexact Hx
    iexact Hy
  iapply (turn3 (4 * t.val + 3) (hXY _) (chunkOf_of_off _ L _ (off5_3 L t) _)) $$ [H3 How]
  · isplitl [H3]; · iexact H3
    iexact How
  iintro ⟨H3, How⟩
  ihave Hpk := (pendFrom_pop (4 * t.val + 5) (by omega)) $$ Hp
  icases Hpk with ⟨Hk, Hp⟩
  iapply (refill (4 * t.val + 1) (4 * t.val + 5) (credit_out L _ _) (chunkOf_of_off _ L _ (off189_eq L t (by omega)) _)) $$ [H1 Hk How]
  · isplitl [H1]; · iexact H1
    isplitl [Hk]; · iexact Hk
    iexact How
  iintro ⟨H1, ⟨Hx, Hy⟩, How⟩
  ihave Hd := (doneTo_push (4 * t.val + 1)) $$ [Hd Hx Hy]
  · isplitl [Hd]; · iexact Hd
    isplitl [Hx]; · iexact Hx
    iexact Hy
  rw [wp_ret]
  imodintro
  isplitl [How]; · iexact How
  isplitl [Hd]; · iexact Hd
  isplitl [Hp]; · iexact Hp
  isplitl [H0]; · iexact H0
  isplitl [H1]; · iexact H1
  isplitl [H2]; · iexact H2
  iexact H3

variable {d L X Y y₀ O W B0 B1 B2 B3 i0 i1 i2 i3 o0 o1 o2 o3} in
theorem body_last (hXY : ∀ k, keep (F := F) (inVal d L X k) = outVal d L Y k) (t : Fin k0_t1_loop.trips) (ht : t.val = 6) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have c1 : k0_cond1 t = 1#1 := (cond1_iff t).mpr (by omega)
  have c2 : k0_cond2 t = 1#1 := (cond2_iff t).mpr (by omega)
  have c3 : ¬ k0_cond3 t = 1#1 := fun h => by have := (cond3_iff t).mp h; omega
  have c4 : ¬ k0_cond4 t = 1#1 := fun h => by have := (cond4_iff t).mp h; omega
  have e1 : loopInv d L X y₀ Y O W B0 B1 B2 B3 i0 i1 i2 i3 o0 o1 o2 o3 t.val
      = iprop(ow d L O W ∗ doneTo d L X Y (4 * 5 + 2) ∗ pendFrom d L X y₀ (4 * t.val + 2)
        ∗ inFl d L X y₀ B0 i0.sem o0.sem (4 * t.val + 0) ∗ inFl d L X y₀ B1 i1.sem o1.sem (4 * t.val + 1)
        ∗ outFl d L X Y B2 i2.sem o2.sem (4 * 5 + 2) ∗ outFl d L X Y B3 i3.sem o3.sem (4 * 5 + 3)) := by
    unfold loopInv slotA slotB; simp [ht]
  have e2 : loopInv d L X y₀ Y O W B0 B1 B2 B3 i0 i1 i2 i3 o0 o1 o2 o3 (t.val + 1)
      = iprop(ow d L O W ∗ doneTo d L X Y (4 * 5 + 3 + 1) ∗ pendFrom d L X y₀ (4 * t.val + 3 + 1)
        ∗ outFl d L X Y B0 i0.sem o0.sem (4 * t.val + 0) ∗ outFl d L X Y B1 i1.sem o1.sem (4 * t.val + 1)
        ∗ outFl d L X Y B2 i2.sem o2.sem (4 * t.val + 2) ∗ outFl d L X Y B3 i3.sem o3.sem (4 * t.val + 3)) := by
    unfold loopInv slotA slotB; simp [ht]
  rw [e1, e2]
  unfold k0_t1_body
  simp only [k0_part117_eq_skeleton, k0_part118_eq_skeleton, k0_part119_eq_skeleton, k0_part120_eq_skeleton, k0_part121_eq_skeleton, k0_part122_eq_skeleton, k0_part123_eq_skeleton, k0_part124_eq_skeleton]
  unfold k0_part117_skel k0_part118_skel k0_part119_skel k0_part120_skel k0_part121_skel k0_part122_skel k0_part123_skel k0_part124_skel
  simp only [k0_part29_eq_skeleton, k0_part58_eq_skeleton, dif_pos c1, dif_pos c2, dif_neg c3, dif_neg c4]
  unfold k0_part29_skel k0_part58_skel
  simp only [Prog.lift, Prog.bind_op, Prog.bind_ret, Prog.pure_eq_ret, Prog.bind_assoc, dif_pos c1, dif_pos c2, dif_neg c3, dif_neg c4]
  iintro ⟨How, Hd, Hp, H0, H1, H2, H3⟩
  iapply (turn0 (4 * t.val + 0) (hXY _) (chunkOf_of_off _ L _ (off5_0 L t) _)) $$ [H0 How]
  · isplitl [H0]; · iexact H0
    iexact How
  iintro ⟨H0, How⟩
  ihave Hpk := (pendFrom_pop (4 * t.val + 2) (by omega)) $$ Hp
  icases Hpk with ⟨Hk, Hp⟩
  iapply (refill (4 * 5 + 2) (4 * t.val + 2) (credit_out L _ _) (chunkOf_of_off _ L _ (off51_eq L t) _)) $$ [H2 Hk How]
  · isplitl [H2]; · iexact H2
    isplitl [Hk]; · iexact Hk
    iexact How
  iintro ⟨H2, ⟨Hx, Hy⟩, How⟩
  ihave Hd := (doneTo_push (4 * 5 + 2)) $$ [Hd Hx Hy]
  · isplitl [Hd]; · iexact Hd
    isplitl [Hx]; · iexact Hx
    iexact Hy
  iapply (turn1 (4 * t.val + 1) (hXY _) (chunkOf_of_off _ L _ (off5_1 L t) _)) $$ [H1 How]
  · isplitl [H1]; · iexact H1
    iexact How
  iintro ⟨H1, How⟩
  ihave Hpk := (pendFrom_pop (4 * t.val + 3) (by omega)) $$ Hp
  icases Hpk with ⟨Hk, Hp⟩
  iapply (refill (4 * 5 + 3) (4 * t.val + 3) (credit_out L _ _) (chunkOf_of_off _ L _ (off97_eq L t) _)) $$ [H3 Hk How]
  · isplitl [H3]; · iexact H3
    isplitl [Hk]; · iexact Hk
    iexact How
  iintro ⟨H3, ⟨Hx, Hy⟩, How⟩
  ihave Hd := (doneTo_push (4 * 5 + 3)) $$ [Hd Hx Hy]
  · isplitl [Hd]; · iexact Hd
    isplitl [Hx]; · iexact Hx
    iexact Hy
  iapply (turn2 (4 * t.val + 2) (hXY _) (chunkOf_of_off _ L _ (off5_2 L t) _)) $$ [H2 How]
  · isplitl [H2]; · iexact H2
    iexact How
  iintro ⟨H2, How⟩
  iapply (turn3 (4 * t.val + 3) (hXY _) (chunkOf_of_off _ L _ (off5_3 L t) _)) $$ [H3 How]
  · isplitl [H3]; · iexact H3
    iexact How
  iintro ⟨H3, How⟩
  rw [wp_ret]
  imodintro
  isplitl [How]; · iexact How
  isplitl [Hd]; · iexact Hd
  isplitl [Hp]; · iexact Hp
  isplitl [H0]; · iexact H0
  isplitl [H1]; · iexact H1
  isplitl [H2]; · iexact H2
  iexact H3

variable {d L X Y y₀ O W B0 B1 B2 B3 i0 i1 i2 i3 o0 o1 o2 o3} in
theorem body_step (hXY : ∀ k, keep (F := F) (inVal d L X k) = outVal d L Y k) (t : Fin k0_t1_loop.trips) (v : BitVec 32) :
    loopInv d L X y₀ Y O W B0 B1 B2 B3 i0 i1 i2 i3 o0 o1 o2 o3 t.val
      ⊢ wp frame (wpE (defs₀ (F := F)) 𝒱₀ (thr d L) none) Set.univ
          (k0_t1_body (F := F) L xV (Memref.isWhole_whole _) yV (Memref.isWhole_whole _) B0 h0 B1 h1 B2 h2 B3 h3
            i0 i1 i2 i3 o0 o1 o2 o3 v t ())
          fun _ => loopInv d L X y₀ Y O W B0 B1 B2 B3 i0 i1 i2 i3 o0 o1 o2 o3 (t.val + 1) := by
  have h7 : t.val < 7 := t.isLt
  rcases (by omega : t.val = 0 ∨ (0 < t.val ∧ t.val < 6) ∨ t.val = 6) with h | h | h
  · exact body_first h0 h1 h2 h3 hXY t h v
  · exact body_mid h0 h1 h2 h3 hXY t h v
  · exact body_last h0 h1 h2 h3 hXY t h v

variable {d L X Y y₀ O W B0 B1 B2 B3 i0 i1 i2 i3 o0 o1 o2 o3} in
/-- One tile's run: from its 28 chunks of the input and of the output, its four buffers and its eight
    semaphores at zero, to the same with every chunk of the output holding what `Y` says. -/
theorem tile_run (hXY : ∀ k, keep (F := F) (inVal d L X k) = outVal d L Y k) :
    iprop(ow d L O W ∗ pendFrom d L X y₀ 0
        ∗ bufAny d L B0 ∗ bufAny d L B1 ∗ bufAny d L B2 ∗ bufAny d L B3
        ∗ sem0 d L i0.sem ∗ sem0 d L i1.sem ∗ sem0 d L i2.sem ∗ sem0 d L i3.sem
        ∗ sem0 d L o0.sem ∗ sem0 d L o1.sem ∗ sem0 d L o2.sem ∗ sem0 d L o3.sem)
      ⊢ wp frame (wpE (defs₀ (F := F)) 𝒱₀ (thr d L) none) Set.univ
          (cc0__block_relu_nhwc_computed (F := F) L xV (Memref.isWhole_whole _) yV (Memref.isWhole_whole _) B0 h0 B1 h1 B2 h2 B3 h3
            i0 i1 i2 i3 o0 o1 o2 o3)
          fun _ => iprop(ow d L O W ∗ doneTo d L X Y 28
            ∗ bufAny d L B0 ∗ bufAny d L B1 ∗ bufAny d L B2 ∗ bufAny d L B3
            ∗ sem0 d L i0.sem ∗ sem0 d L i1.sem ∗ sem0 d L i2.sem ∗ sem0 d L i3.sem
            ∗ sem0 d L o0.sem ∗ sem0 d L o1.sem ∗ sem0 d L o2.sem ∗ sem0 d L o3.sem) := by
  simp only [cc0__block_relu_nhwc_computed_eq_skeleton]
  unfold cc0__block_relu_nhwc_computed_skel
  simp only [k0_part125_eq_skeleton, k0_part126_eq_skeleton]
  unfold k0_part125_skel k0_part126_skel
  simp only [Prog.lift, Prog.bind_op, Prog.bind_ret, Prog.pure_eq_ret, Prog.bind_assoc]
  iintro ⟨How, Hp, Hb0, Hb1, Hb2, Hb3, Hi0, Hi1, Hi2, Hi3, Ho0, Ho1, Ho2, Ho3⟩
  ihave Hpk := (pendFrom_pop 0 (by omega)) $$ Hp
  icases Hpk with ⟨⟨Hx, Hy⟩, Hp⟩
  iapply (start_in 0 (chunkOf_of_off _ L _ (off1_first L) _)) $$ [Hx Hy Hb0 Hi0 Ho0]
  · isplitl [Hx]; · iexact Hx
    isplitl [Hy]; · iexact Hy
    isplitl [Hb0]; · iexact Hb0
    isplitl [Hi0]; · iexact Hi0
    iexact Ho0
  iintro H0
  ihave Hpk := (pendFrom_pop 1 (by omega)) $$ Hp
  icases Hpk with ⟨⟨Hx, Hy⟩, Hp⟩
  iapply (start_in 1 (chunkOf_of_off _ L _ (off2_first L) _)) $$ [Hx Hy Hb1 Hi1 Ho1]
  · isplitl [Hx]; · iexact Hx
    isplitl [Hy]; · iexact Hy
    isplitl [Hb1]; · iexact Hb1
    isplitl [Hi1]; · iexact Hi1
    iexact Ho1
  iintro H1
  ihave Hpk := (pendFrom_pop 2 (by omega)) $$ Hp
  icases Hpk with ⟨⟨Hx, Hy⟩, Hp⟩
  iapply (start_in 2 (chunkOf_of_off _ L _ (off3_first L) _)) $$ [Hx Hy Hb2 Hi2 Ho2]
  · isplitl [Hx]; · iexact Hx
    isplitl [Hy]; · iexact Hy
    isplitl [Hb2]; · iexact Hb2
    isplitl [Hi2]; · iexact Hi2
    iexact Ho2
  iintro H2
  ihave Hpk := (pendFrom_pop 3 (by omega)) $$ Hp
  icases Hpk with ⟨⟨Hx, Hy⟩, Hp⟩
  iapply (start_in 3 (chunkOf_of_off _ L _ (off4_first L) _)) $$ [Hx Hy Hb3 Hi3 Ho3]
  · isplitl [Hx]; · iexact Hx
    isplitl [Hy]; · iexact Hy
    isplitl [Hb3]; · iexact Hb3
    isplitl [Hi3]; · iexact Hi3
    iexact Ho3
  iintro H3
  sl_for (fun t _ => loopInv d L X y₀ Y O W B0 B1 B2 B3 i0 i1 i2 i3 o0 o1 o2 o3 t) $$ [How Hp H0 H1 H2 H3]
  case region =>
    intro t _
    exact body_step h0 h1 h2 h3 hXY t _
  · have e : loopInv d L X y₀ Y O W B0 B1 B2 B3 i0 i1 i2 i3 o0 o1 o2 o3 0
        = iprop(ow d L O W ∗ doneTo d L X Y 0 ∗ pendFrom d L X y₀ (3 + 1)
          ∗ inFl d L X y₀ B0 i0.sem o0.sem 0 ∗ inFl d L X y₀ B1 i1.sem o1.sem 1
          ∗ inFl d L X y₀ B2 i2.sem o2.sem 2 ∗ inFl d L X y₀ B3 i3.sem o3.sem 3) := by
      unfold loopInv slotA slotB; simp
    rw [e]
    isplitl [How]; · iexact How
    isplitr
    · unfold doneTo; rw [Finset.range_zero, bigSep_empty]; iempintro
    isplitl [Hp]; · iexact Hp
    isplitl [H0]; · iexact H0
    isplitl [H1]; · iexact H1
    isplitl [H2]; · iexact H2
    iexact H3
  iintro %_ HI
  have e : loopInv d L X y₀ Y O W B0 B1 B2 B3 i0 i1 i2 i3 o0 o1 o2 o3 k0_t1_loop.trips
      = iprop(ow d L O W ∗ doneTo d L X Y 24 ∗ pendFrom d L X y₀ 28
        ∗ outFl d L X Y B0 i0.sem o0.sem 24 ∗ outFl d L X Y B1 i1.sem o1.sem 25
        ∗ outFl d L X Y B2 i2.sem o2.sem 26 ∗ outFl d L X Y B3 i3.sem o3.sem 27) := by
    rw [show k0_t1_loop.trips = 7 from rfl]
    unfold loopInv slotA slotB; simp
  ihave HI := (Entails.of_eq e) $$ HI
  icases HI with ⟨How, Hd, -, H0, H1, H2, H3⟩
  iapply (wait_out 24 (credit_out L _ _)) $$ [H0 How]
  · isplitl [H0]; · iexact H0
    iexact How
  iintro ⟨Hx, Hy, Hb0, Hi0, Ho0, How⟩
  ihave Hd := (doneTo_push 24) $$ [Hd Hx Hy]
  · isplitl [Hd]; · iexact Hd
    isplitl [Hx]; · iexact Hx
    iexact Hy
  iapply (wait_out 25 (credit_out L _ _)) $$ [H1 How]
  · isplitl [H1]; · iexact H1
    iexact How
  iintro ⟨Hx, Hy, Hb1, Hi1, Ho1, How⟩
  ihave Hd := (doneTo_push 25) $$ [Hd Hx Hy]
  · isplitl [Hd]; · iexact Hd
    isplitl [Hx]; · iexact Hx
    iexact Hy
  iapply (wait_out 26 (credit_out L _ _)) $$ [H2 How]
  · isplitl [H2]; · iexact H2
    iexact How
  iintro ⟨Hx, Hy, Hb2, Hi2, Ho2, How⟩
  ihave Hd := (doneTo_push 26) $$ [Hd Hx Hy]
  · isplitl [Hd]; · iexact Hd
    isplitl [Hx]; · iexact Hx
    iexact Hy
  iapply (wait_out 27 (credit_out L _ _)) $$ [H3 How]
  · isplitl [H3]; · iexact H3
    iexact How
  iintro ⟨Hx, Hy, Hb3, Hi3, Ho3, How⟩
  ihave Hd := (doneTo_push 27) $$ [Hd Hx Hy]
  · isplitl [Hd]; · iexact Hd
    isplitl [Hx]; · iexact Hx
    iexact Hy
  rw [wp_ret]
  imodintro
  isplitl [How]; · iexact How
  isplitl [Hd]; · iexact Hd
  isplitl [Hb0]; · iexact Hb0
  isplitl [Hb1]; · iexact Hb1
  isplitl [Hb2]; · iexact Hb2
  isplitl [Hb3]; · iexact Hb3
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  iexact Ho3

end Loop

end Cert.ComputedIdeal.Hand
-- ==== Proof.LaunchComputedIdeal.lean ====
module

public import proofs.«01_k».proof.Proof.TileComputedIdeal
public import Idealize.ShloMosaic.Lib.Pipeline.Kit

@[expose] public section

/-! # The launch

The whole program: the transposition into channels-last order, the kernel's call on the 32 tiles,
and the transposition back. Every weakly fair execution ends without a fault, with the argument
unchanged, every semaphore at zero, and the result the transposition of what the tiles wrote. -/

noncomputable section

namespace Cert.ComputedIdeal.Hand

open Cert.ComputedIdeal Cert.ComputedIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

variable [FloatOps F]

/-- The argument in channels-last order: what the kernel reads. -/
def XA (d : Dev nD) : Buf (Elt F) (xLoc d) :=
  (transpose S4x224x224x128 [0, 2, 3, 1] (m (aLoc d) : (⟨S4x128x224x224, .f32⟩ : BufTy).Contents (Elt F))
    transposes_S4x128x224x224_S4x224x224x128_0_2_3_1 : (⟨S4x224x224x128, .f32⟩ : BufTy).Contents (Elt F))

/-- What the tiles write, in channels-last order. -/
def YA (d : Dev nD) : Buf (Elt F) (yLoc d) := outOf d (XA m d)

/-- The result: what the tiles wrote, in the argument's order. -/
def RA (d : Dev nD) : Buf (Elt F) (rLoc d) :=
  (transpose S4x128x224x224 [0, 3, 1, 2] (YA m d : (⟨S4x224x224x128, .f32⟩ : BufTy).Contents (Elt F))
    transposes_S4x224x224x128_S4x128x224x224_0_3_1_2 : (⟨S4x128x224x224, .f32⟩ : BufTy).Contents (Elt F))

/-! ## What the call hands to a tile and gets back -/

abbrev tileIn (d : Dev nD) (L : grid0.Coords) : sProp 𝕄 := pendFrom d L (XA m d) (m (yLoc d)) 0
abbrev tileOut (d : Dev nD) (L : grid0.Coords) : sProp 𝕄 := doneTo d L (XA m d) (YA m d) 28

def P : (K (F := F)).Pay (nD := nD) (Val := Elt F) (Name := ℕ) (U := UU) where
  st := fun q d c => match q with | 0 => bigSep (Finset.univ : Finset (Fin 16)) fun s => tileIn m d (coordsV c s)
  dn := fun q d c => match q with | 0 => bigSep (Finset.univ : Finset (Fin 16)) fun s => tileOut m d (coordsV c s)
  go := fun q d c i => match q with | 0 => tileIn m d (coordsV c i)
  td := fun q d c i => match q with | 0 => tileOut m d (coordsV c i)
  x := fun _ _ => iprop(emp)

instance tileIn_storable (d : Dev nD) (L : grid0.Coords) : BI.Storable (upEmb : UEmb _ 𝕄) (tileIn m d L) := by
  unfold tileIn pendFrom xP yP; infer_instance
instance tileOut_storable (d : Dev nD) (L : grid0.Coords) : BI.Storable (upEmb : UEmb _ 𝕄) (tileOut m d L) := by
  unfold tileOut doneTo xP yP; infer_instance

instance P_storable : (P (F := F) m).IsStorable where
  st q d c := match q with
    | 0 => (inferInstance : BI.Storable (upEmb : UEmb _ 𝕄) (bigSep (Finset.univ : Finset (Fin 16)) fun s => tileIn m d (coordsV c s)))
  dn q d c := match q with
    | 0 => (inferInstance : BI.Storable (upEmb : UEmb _ 𝕄) (bigSep (Finset.univ : Finset (Fin 16)) fun s => tileOut m d (coordsV c s)))
  go q d c i := match q with | 0 => tileIn_storable m d (coordsV c i)
  td q d c i := match q with | 0 => tileOut_storable m d (coordsV c i)

/-! ## A tile's semaphores and buffers among its own -/

section Own

variable (d : Dev nD) (L : grid0.Coords)

/-- The kernel's eight semaphores. -/
def semsV : Finset (DmaSem sig) :=
  {cc0_scratch4.sem, cc0_scratch5.sem, cc0_scratch6.sem, cc0_scratch7.sem, cc0_scratch8.sem, cc0_scratch9.sem,
    cc0_scratch10.sem, cc0_scratch11.sem}

omit [FloatOps F] in
theorem semsV_own : (semsV.image fun s => ((thr d L, SemLoc.dma s) : GSem nD τ sig)) ⊆ ownCells (thr d L) := by
  intro g hg
  obtain ⟨s, hs, rfl⟩ := Finset.mem_image.mp hg
  refine mem_ownCells.mpr ⟨rfl, ?_⟩
  show (SemLoc.dma s : SemLoc sig).isScoped .scVector = true
  exact (by decide : ∀ s ∈ semsV, (SemLoc.dma s : SemLoc sig).isScoped .scVector = true) s hs

omit [FloatOps F] in
theorem ownSems0_V :
    (ownSems0 (thr d L) : sProp 𝕄)
      = iprop((sem0 d L cc0_scratch4.sem ∗ sem0 d L cc0_scratch5.sem ∗ sem0 d L cc0_scratch6.sem ∗ sem0 d L cc0_scratch7.sem
          ∗ sem0 d L cc0_scratch8.sem ∗ sem0 d L cc0_scratch9.sem ∗ sem0 d L cc0_scratch10.sem ∗ sem0 d L cc0_scratch11.sem)
          ∗ bigSep (ownCells (thr d L) \ (semsV.image fun s => ((thr d L, SemLoc.dma s) : GSem nD τ sig))) fun g => semVal g 0) := by
  unfold SparseCore.Cfg.ownSems0
  rw [SparseCore.bigSep_sdiff_split' (semsV_own d L),
    SparseCore.bigSep_image_of_injOn (fun a _ b _ e => by simpa using e)]
  unfold semsV
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The kernel's four buffers. -/
def bufsV : Finset (Ref sig .scVector) := {cc0_scratch0, cc0_scratch1, cc0_scratch2, cc0_scratch3}

omit [FloatOps F] in
theorem bufsV_own : (bufsV.image fun b => (Proc.scVector (cV L) (jV L)).devRef b) ⊆ ownRefs (τ := τ) (.scVector (cV L) (jV L)) := by
  intro g hg
  obtain ⟨b, hb, rfl⟩ := Finset.mem_image.mp hg
  refine SparseCore.Cfg.mem_ownRefs_of_owner (p := Proc.scVector (cV L) (jV L)) ?_
  unfold bufsV at hb
  simp only [Finset.mem_insert, Finset.mem_singleton] at hb
  rcases hb with rfl | rfl | rfl | rfl <;> rfl

omit [FloatOps F] in
theorem ownBufs_V :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f))
          ∗ bigSep (ownRefs (τ := τ) (.scVector (cV L) (jV L)) \ (bufsV.image fun b => (Proc.scVector (cV L) (jV L)).devRef b))
              fun b => iprop(∃ f, ((d, b) : Loc nD τ sig) ↦{fullShare} f)) := by
  unfold SparseCore.Cfg.ownBufs
  rw [SparseCore.bigSep_sdiff_split' (bufsV_own L),
    SparseCore.bigSep_image_of_injOn (fun a _ b _ e => Proc.devRef_injective _ e)]
  unfold bufsV
  rw [SparseCore.bigSep_insert' (show (cc0_scratch0 : Ref sig .scVector) ∉ ({cc0_scratch1, cc0_scratch2, cc0_scratch3} : Finset _) by decide),
    SparseCore.bigSep_insert' (show (cc0_scratch1 : Ref sig .scVector) ∉ ({cc0_scratch2, cc0_scratch3} : Finset _) by decide),
    SparseCore.bigSep_insert' (show (cc0_scratch2 : Ref sig .scVector) ∉ ({cc0_scratch3} : Finset _) by decide),
    bigSep_singleton]

omit [FloatOps F] in
/-- A whole scratch buffer held at some contents is the kernel's buffer holding anything, and back. -/
theorem bufAny_intro (B : BufM) (hB : B.view.set = Finset.univ) :
    iprop(∃ f : Buf (Elt F) (B.view.loc (thr d L)), B.view.loc (thr d L) ↦{fullShare} f) ⊢ (bufAny (F := F) d L B : sProp 𝕄) := by
  unfold bufAny bufIs
  iintro ⟨%f, H⟩
  iexists _, f
  isplitr
  · ipureintro; rfl
  · rw [hB]; iexact H

omit [FloatOps F] in
theorem bufAny_elim (B : BufM) (hB : B.view.set = Finset.univ) :
    (bufAny (F := F) d L B : sProp 𝕄) ⊢ iprop(∃ f : Buf (Elt F) (B.view.loc (thr d L)), B.view.loc (thr d L) ↦{fullShare} f) := by
  unfold bufAny bufIs
  rw [hB]
  iintro ⟨%v, %f, -, H⟩
  iexists f; iexact H

/-- The four buffers and the eight semaphores, as the kernel names them. -/
abbrev M0 : BufM := Memref.whole cc0_scratch0
abbrev M1 : BufM := Memref.whole cc0_scratch1
abbrev M2 : BufM := Memref.whole cc0_scratch2
abbrev M3 : BufM := Memref.whole cc0_scratch3

theorem tile_body (O : CellTallies nD τ sig (HIx 1)) (W : Waits sig (HIx 1)) (hO : ∀ g, O g none = 0) :
    iprop(levAts (K (F := F)).L (K (F := F)).lev ∗ emp ∗ tileIn m d L ∗ scopedBufs (thr d L) ∗ scopedSems0 (thr d L) ∗ owes (thr d L) O W)
      ⊢ wp frame (wpE (defs₀ (F := F)) 𝒱₀ (thr d L) none) Set.univ
          (cc0__block_relu_nhwc_computed (F := F) L xV (Memref.isWhole_whole _) yV (Memref.isWhole_whole _)
            M0 (Memref.isWhole_whole _) M1 (Memref.isWhole_whole _) M2 (Memref.isWhole_whole _) M3 (Memref.isWhole_whole _)
            cc0_scratch4 cc0_scratch5 cc0_scratch6 cc0_scratch7 cc0_scratch8 cc0_scratch9 cc0_scratch10 cc0_scratch11)
          fun _ => iprop(tileOut m d L ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, Hin, ⟨⟨Hb0, Hb1, Hb2, Hb3⟩, Hbufs⟩, ⟨⟨Hi0, Hi1, Hi2, Hi3, Ho0, Ho1, Ho2, Ho3⟩, Hsems⟩, HO⟩
  iapply (wp_wand frame (wpE (defs₀ (F := F)) 𝒱₀ (thr d L) none) Set.univ) $$ [Hin Hb0 Hb1 Hb2 Hb3 Hi0 Hi1 Hi2 Hi3 Ho0 Ho1 Ho2 Ho3 HO]
  · iapply (tile_run (d := d) (L := L) (X := XA m d) (y₀ := m (yLoc d)) (Y := YA m d) (O := O) (W := W)
      _ _ _ _ (fun k => keep_chunk d L (XA m d) k))
    isplitl [HO]
    · unfold ow
      isplitr
      · iapply ((K (F := F)).mayWaits_none (thr := thr d L) hO); iexact Hlv
      · iexists W
        isplitr
        · ipureintro; exact fun p hp => Or.inl hp
        · iexact HO
    isplitl [Hin]; · iexact Hin
    isplitl [Hb0]; · iapply (bufAny_intro d L M0 (View.set_whole _)); iexact Hb0
    isplitl [Hb1]; · iapply (bufAny_intro d L M1 (View.set_whole _)); iexact Hb1
    isplitl [Hb2]; · iapply (bufAny_intro d L M2 (View.set_whole _)); iexact Hb2
    isplitl [Hb3]; · iapply (bufAny_intro d L M3 (View.set_whole _)); iexact Hb3
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  · iintro %_ ⟨How, Hout, Hb0, Hb1, Hb2, Hb3, Hi0, Hi1, Hi2, Hi3, Ho0, Ho1, Ho2, Ho3⟩
    isplitl [Hout]; · iexact Hout
    isplitl [Hb0 Hb1 Hb2 Hb3 Hbufs]
    · isplitl [Hb0 Hb1 Hb2 Hb3]
      · isplitl [Hb0]; · iapply (bufAny_elim d L M0 (View.set_whole _)); iexact Hb0
        isplitl [Hb1]; · iapply (bufAny_elim d L M1 (View.set_whole _)); iexact Hb1
        isplitl [Hb2]; · iapply (bufAny_elim d L M2 (View.set_whole _)); iexact Hb2
        iapply (bufAny_elim d L M3 (View.set_whole _)); iexact Hb3
      · iexact Hbufs
    isplitl [Hi0 Hi1 Hi2 Hi3 Ho0 Ho1 Ho2 Ho3 Hsems]
    · isplitl [Hi0 Hi1 Hi2 Hi3 Ho0 Ho1 Ho2 Ho3]
      · isplitl [Hi0]; · iexact Hi0
        isplitl [Hi1]; · iexact Hi1
        isplitl [Hi2]; · iexact Hi2
        isplitl [Hi3]; · iexact Hi3
        isplitl [Ho0]; · iexact Ho0
        isplitl [Ho1]; · iexact Ho1
        isplitl [Ho2]; · iexact Ho2
        iexact Ho3
      · iexact Hsems
    unfold ow
    icases How with ⟨-, HO⟩
    iexact HO

end Own

/-! ## The launch theorem's obligations -/

theorem defs₀_vector (c : Fin τ.nSC) (s : Fin τ.nSub) :
    defs₀ (F := F) (.scVector c s) 0 ()
      = SparseCore.onTile hcore0 hsub0 (fun c s => cc0__block_relu_nhwc_computed (F := F) (coordsV c s) xV (Memref.isWhole_whole _) yV (Memref.isWhole_whole _)
            M0 (Memref.isWhole_whole _) M1 (Memref.isWhole_whole _) M2 (Memref.isWhole_whole _) M3 (Memref.isWhole_whole _)
            cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

theorem vecSplit : (K (F := F)).VecSplit' (P m) 0 := by
  intro d c
  show (bigSep (Finset.univ : Finset (Fin 16)) fun s => tileIn m d (coordsV c s)) ⊢ |={Set.univ}=> iprop(
      (bigSep (Finset.univ : Finset (Fin 16)) fun s => tileIn m d (coordsV c s))
      ∗ ((bigSep (Finset.univ : Finset (Fin 16)) fun s => tileOut m d (coordsV c s))
          -∗ (bigSep (Finset.univ : Finset (Fin 16)) fun s => tileOut m d (coordsV c s))))
  iintro H; imodintro
  isplitl [H]; · iexact H
  iintro H; iexact H

/-! ## The launch's ghost state: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, whole and in chunks -/

omit [FloatOps F] in
theorem bigSep_fin_range (n : ℕ) (Φ : ℕ → sProp 𝕄) :
    (bigSep (Finset.univ : Finset (Fin n)) fun k => Φ k.val) = bigSep (Finset.range n) Φ := by
  rw [← SparseCore.bigSep_image_of_injOn (f := fun k : Fin n => k.val) (fun a _ b _ e => Fin.ext e) Φ]
  congr 1
  ext k
  simp only [Finset.mem_image, Finset.mem_univ, true_and, Finset.mem_range]
  exact ⟨fun ⟨a, e⟩ => e ▸ a.isLt, fun h => ⟨⟨k, h⟩, rfl⟩⟩

omit [FloatOps F] in
/-- The two arrays held whole are every tile's chunks of them. -/
theorem whole_chunks (d : Dev nD) (X : Buf (Elt F) (xLoc d)) (Y : Buf (Elt F) (yLoc d)) :
    (iprop((xLoc d ↦{fullShare} X) ∗ (yLoc d ↦{fullShare} Y)) : sProp 𝕄)
      = bigSep (Finset.univ : Finset (Fin 2)) fun c => bigSep (Finset.univ : Finset (Fin 16)) fun s =>
          bigSep (Finset.range 28) fun k => iprop(xP d (coordsV c s) X k ∗ yP d (coordsV c s) Y k) := by
  have hx : (xLoc d ↦{fullShare} X : sProp 𝕄) = bigSep (Finset.univ : Finset ChunkName) fun n => xLoc d ↦[nameSet n]{fullShare} X := by
    rw [← pointsTo_biUnion Finset.univ (ℓ := xLoc d) nameSet (fun a _ b _ h => nameSet_disjoint a b h), nameSet_cover]; try rfl
  have hy : (yLoc d ↦{fullShare} Y : sProp 𝕄) = bigSep (Finset.univ : Finset ChunkName) fun n => yLoc d ↦[nameSet n]{fullShare} Y := by
    rw [← pointsTo_biUnion Finset.univ (ℓ := yLoc d) nameSet (fun a _ b _ h => nameSet_disjoint a b h), nameSet_cover]; try rfl
  rw [hx, hy, ← bigSep_sep', bigSep_univ_prod]
  refine bigSep_congr fun c _ => ?_
  rw [bigSep_univ_prod]
  refine bigSep_congr fun s _ => ?_
  exact bigSep_fin_range 28 (fun k => iprop(xP d (coordsV c s) X k ∗ yP d (coordsV c s) Y k))

theorem st0_eq (d : Dev nD) : (bigSep Finset.univ fun c : Fin ((K (F := F)).nCore 0) => (P m).st 0 d c)
    = iprop((xLoc d ↦{fullShare} XA m d) ∗ (yLoc d ↦{fullShare} m (yLoc d))) := by
  rw [whole_chunks]
  rfl
theorem dn0_eq (d : Dev nD) : (bigSep Finset.univ fun c : Fin ((K (F := F)).nCore 0) => (P m).dn 0 d c)
    = iprop((xLoc d ↦{fullShare} XA m d) ∗ (yLoc d ↦{fullShare} YA m d)) := by
  rw [whole_chunks]
  rfl

/-! ## @main on the TensorCore -/

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)

/-- The transposition into channels-last order, and the one back. -/
abbrev opIn : HloOp τ sig (Elt F) := StableHlo.unary main_arg0 main_v0 ((transpose S4x224x224x128 [0, 2, 3, 1] · transposes_S4x128x224x224_S4x224x224x128_0_2_3_1) : (⟨S4x128x224x224, .f32⟩ : BufTy).Contents (Elt F) → (⟨S4x224x224x128, .f32⟩ : BufTy).Contents (Elt F))
abbrev opOut : HloOp τ sig (Elt F) := StableHlo.unary main_v1 main_v2 ((transpose S4x128x224x224 [0, 3, 1, 2] · transposes_S4x224x224x128_S4x128x224x224_0_3_1_2) : (⟨S4x224x224x128, .f32⟩ : BufTy).Contents (Elt F) → (⟨S4x128x224x224, .f32⟩ : BufTy).Contents (Elt F))

/-- The TensorCore's arrays. -/
abbrev S4 : Finset (DevRef τ sig) := {a', x', y', r'}

omit [FloatOps F] in
theorem held_S4 (d : Dev nD) (W : Valuation τ sig (Elt F)) :
    (held (SparseCore.T d) S4 W : sProp 𝕄) = iprop((aLoc d ↦{fullShare} W a') ∗ (xLoc d ↦{fullShare} W x') ∗ (yLoc d ↦{fullShare} W y') ∗ (rLoc d ↦{fullShare} W r')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (yLoc d ↦{fullShare} W main_v1) ∗ (rLoc d ↦{fullShare} W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The memory at the launch, after the first transposition, after the call, and after the second. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) y' (YA m d)
def V3 (d : Dev nD) : Valuation τ sig (Elt F) := (opOut (F := F)).result (V2 m d)

theorem unscoped_held (d : Dev nD) : (unscopedBufs d (fun b => m ((SparseCore.T d).loc b)) : sProp 𝕄) = held (SparseCore.T d) S4 (V0 m d) := by
  rw [unscopedBufs_eq, held_S4]; rfl

theorem V1_a (d : Dev nD) : V1 m d a' = m (aLoc d) :=
  (opIn (F := F)).result_of_not_mem (V0 m d) (b := a') (show a' ∉ ({x'} : Finset (DevRef τ sig)) by decide)
theorem V1_y (d : Dev nD) : V1 m d y' = m (yLoc d) :=
  (opIn (F := F)).result_of_not_mem (V0 m d) (b := y') (show y' ∉ ({x'} : Finset (DevRef τ sig)) by decide)
theorem V1_x (d : Dev nD) : V1 m d x' = XA m d := StableHlo.unary_result main_arg0 main_v0 _ _ _ (V0 m d)
theorem V2_a (d : Dev nD) : V2 m d a' = m (aLoc d) := (Function.update_of_ne (show a' ≠ y' by decide) _ _).trans (V1_a m d)
theorem V2_x (d : Dev nD) : V2 m d x' = XA m d := (Function.update_of_ne (show x' ≠ y' by decide) _ _).trans (V1_x m d)
theorem V2_r (d : Dev nD) : V2 m d r' = V1 m d r' := Function.update_of_ne (show r' ≠ y' by decide) _ _
theorem V2_y (d : Dev nD) : V2 m d y' = YA m d := Function.update_self _ _ _
theorem V3_a (d : Dev nD) : V3 m d a' = m (aLoc d) :=
  ((opOut (F := F)).result_of_not_mem (V2 m d) (b := a') (show a' ∉ ({r'} : Finset (DevRef τ sig)) by decide)).trans (V2_a m d)
theorem V3_r (d : Dev nD) : V3 m d r' = RA m d := by
  refine (StableHlo.unary_result main_v1 main_v2 _ _ _ (V2 m d)).trans ?_
  unfold RA; rw [← V2_y]

theorem hIn : (opIn (F := F)).bufs ⊆ S4 := show ({a', x'} : Finset (DevRef τ sig)) ⊆ S4 by decide
theorem hOut : (opOut (F := F)).bufs ⊆ S4 := show ({y', r'} : Finset (DevRef τ sig)) ⊆ S4 by decide

/-- What @main leaves the claims: the argument unchanged and the result. -/
abbrev FIN (d : Dev nD) : sProp 𝕄 := iprop((aLoc d ↦{fullShare} m (aLoc d)) ∗ (rLoc d ↦{fullShare} RA m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (show held (SparseCore.T d) S4 ((opIn (F := F)).result (V0 m d)) = _ from held_S4 (F := F) d (V1 m d))) $$ Hheld
  icases Hh with ⟨Ha, Hx, Hy, Hr⟩
  rw [V1_a, V1_x, V1_y]
  rw [wp_ret]; imodintro
  iapply ((K (F := F)).wp_run (D (F := F)) 𝒱 (EH := EH) (P := P m) κ d 0) $$ [Hst Ha Hx Hy Hb Hr Hts]
  isplitr; · iexact Hctx
  isplitl [Hst]; · iexact Hst
  isplitl [Hx Hy]
  · rw [st0_eq]
    isplitl [Hx]; · iexact Hx
    iexact Hy
  iintro ⟨Hst, Hdn⟩
  ihave Hdn' := (Entails.of_eq (dn0_eq m d)) $$ Hdn
  icases Hdn' with ⟨Hx, Hy⟩
  iapply (wp_hlo_within 𝒱 (SparseCore.T d) none Set.univ (op := opOut) (S := S4) hOut (V := V2 m d)) $$ [Hb Ha Hx Hy Hr]
  · isplitl [Hb]; · iexact Hb
    rw [held_S4, V2_a, V2_x, V2_y, V2_r]
    isplitl [Ha]; · iexact Ha
    isplitl [Hx]; · iexact Hx
    isplitl [Hy]; · iexact Hy
    iexact Hr
  iintro ⟨Hb, Hheld⟩
  ihave Hh := (Entails.of_eq (show held (SparseCore.T d) S4 ((opOut (F := F)).result (V2 m d)) = _ from held_S4 (F := F) d (V3 m d))) $$ Hheld
  icases Hh with ⟨Ha, -, -, Hr⟩
  rw [V3_a, V3_r]
  rw [wp_ret]; imodintro; imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = RA m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := RA m d)) $$ [HSI Hr]
  · isplitl [HSI] <;> iassumption
  icases H with %h2
  ipureintro; exact ⟨funext fun i => h1 i (Finset.mem_univ i), funext fun i => h2 i (Finset.mem_univ i)⟩

/-! ## The program's run -/

/-- What a run ends with. -/
def QC : PUnit × MemSt nD τ sig (Elt F) → Prop :=
  fun r => (∀ c : Dev nD, r.2.mem (aLoc c) = m (aLoc c) ∧ r.2.mem (rLoc c) = RA m c) ∧ r.2.sem = fun _ => 0

theorem run_main [∀ e, Nonempty (Elt F e)] :
    θ_run (Cert.ComputedIdeal.defs (F := F)) (Cert.ComputedIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.ComputedIdeal.Hand
-- ==== Proof.RefMap.lean ====
module

public import proofs.«01_k».proof.Proof.RefValue
public import Idealize.ShloMosaic.Lib.Pipeline.Value
public import Idealize.ShloMosaic.Lib.ValueIdxRank6

@[expose] public section

/-! # The reference's map, element by element

The map at an element of a channel with blocks is 1 if the sum of the element's block is at least 0, and 0
otherwise; in the channels without blocks it is 1. -/

noncomputable section

namespace Cert.ReferenceIdeal.Hand

open Cert.ReferenceIdeal Cert.ReferenceIdeal.Gen
open Idealize.ShloMosaic Idealize.SL.Sem
open Idealize.ShloMosaic.ValueIdx
open scoped BigOperators

/-- A sum over the fourth and the sixth of six axes, as a double sum. -/
theorem sum_blocks {n0 n1 n2 n3 n4 n5 : ℕ}
    (h : (⟨6, ![n0, n1, n2, n3, n4, n5]⟩ : Shape).ReducesTo [3, 5] ⟨4, ![n0, n1, n2, n4]⟩)
    (f : (⟨6, ![n0, n1, n2, n3, n4, n5]⟩ : Shape).Idx → EReal) (j0 : Fin n0) (j1 : Fin n1) (j2 : Fin n2) (j3 : Fin n4) :
    ∑ i ∈ Finset.univ.filter (fun i => h.drop i = ix4 j0 j1 j2 j3), f i
      = ∑ r : Fin n3, ∑ c : Fin n5, f (ix6 j0 j1 j2 r j3 c) := by
  rw [← Finset.sum_product' (s := Finset.univ) (t := Finset.univ) (f := fun r c => f (ix6 j0 j1 j2 r j3 c))]
  have d0 : ∀ i, (h.drop i 0 : ℕ) = i 0 := fun i => Shape.ReducesTo.drop_apply_val_of_eq h i 0 0 (by exact (by decide : 0 < 4)) rfl
  have d1 : ∀ i, (h.drop i 1 : ℕ) = i 1 := fun i => Shape.ReducesTo.drop_apply_val_of_eq h i 1 1 (by exact (by decide : 1 < 4)) rfl
  have d2 : ∀ i, (h.drop i 2 : ℕ) = i 2 := fun i => Shape.ReducesTo.drop_apply_val_of_eq h i 2 2 (by exact (by decide : 2 < 4)) rfl
  have d3 : ∀ i, (h.drop i 3 : ℕ) = i 4 := fun i => Shape.ReducesTo.drop_apply_val_of_eq h i 3 4 (by exact (by decide : 3 < 4)) rfl
  have back : ∀ i, h.drop i = ix4 j0 j1 j2 j3 → ix6 j0 j1 j2 (i 3) j3 (i 5) = i := by
    intro i hi
    funext a
    apply Fin.ext
    match a with
    | 0 => exact (congrArg (fun q : (⟨4, ![n0, n1, n2, n4]⟩ : Shape).Idx => (q 0).val) hi).symm.trans (d0 i)
    | 1 => exact (congrArg (fun q : (⟨4, ![n0, n1, n2, n4]⟩ : Shape).Idx => (q 1).val) hi).symm.trans (d1 i)
    | 2 => exact (congrArg (fun q : (⟨4, ![n0, n1, n2, n4]⟩ : Shape).Idx => (q 2).val) hi).symm.trans (d2 i)
    | 3 => rfl
    | 4 => exact (congrArg (fun q : (⟨4, ![n0, n1, n2, n4]⟩ : Shape).Idx => (q 3).val) hi).symm.trans (d3 i)
    | 5 => rfl
  refine Finset.sum_nbij' (fun i => ((i 3 : Fin n3), (i 5 : Fin n5))) (fun p => ix6 j0 j1 j2 p.1 j3 p.2) ?_ ?_ ?_ ?_ ?_
  · intro i _
    exact Finset.mem_product.mpr ⟨Finset.mem_univ _, Finset.mem_univ _⟩
  · intro p _
    refine Finset.mem_filter.mpr ⟨Finset.mem_univ _, ?_⟩
    funext a
    apply Fin.ext
    match a with
    | 0 => exact d0 _
    | 1 => exact d1 _
    | 2 => exact d2 _
    | 3 => exact d3 _
  · intro i hi
    exact back i (Finset.mem_filter.mp hi).2
  · intro p _
    rfl
  · intro i hi
    exact (congrArg f (back i (Finset.mem_filter.mp hi).2)).symm

/-- 1 if `s` is at least 0, and 0 otherwise. -/
def signOf (s : EReal) : EReal := FloatOps.uitofp (F := Ideal) .f32 (Ideal.cmp .oge s 0)

theorem signOf_pos {s : EReal} (h : 0 ≤ s) : signOf s = 1 := by
  have e : Ideal.cmp .oge s 0 = 1#1 := by simp [Ideal.cmp, h]
  unfold signOf
  rw [e]
  show (((1#1 : BitVec 1).toNat : ℝ) : EReal) = 1
  simp

theorem signOf_neg {s : EReal} (h : ¬ 0 ≤ s) : signOf s = 0 := by
  have e : Ideal.cmp .oge s 0 = 0#1 := by simp [Ideal.cmp, h]
  unfold signOf
  rw [e]
  show (((0#1 : BitVec 1).toNat : ℝ) : EReal) = 0
  simp

/-- The sum over a 2 by 2 block of channel `b`. -/
theorem sums_2 (x : FVec Ideal S4x128x224x224 .f32) (a : Fin 4) (b : Fin 64) (p q : Fin 112) :
    Host.reduceAdd (shapeCast _ (extractStridedSlice S4x64x224x224 ![0, 0, 0, 0] x slices_S4x128x224x224_S4x64x224x224_0_0_0_0)
        shapeCasts_S4x64x224x224_S4x64x112x2x112x2)
      (constant S_ .f32 0x00000000#32) reducesTo_S4x64x112x2x112x2_S4x64x112x112_d3_5 h_S_ (ix4 a b p q)
      = ∑ r : Fin 2, ∑ c : Fin 2,
          x (ix4 (n0 := 4) (n1 := 128) (n2 := 224) (n3 := 224) a ⟨0 + b.val, by omega⟩ ⟨p.val * 2 + r.val, by omega⟩ ⟨q.val * 2 + c.val, by omega⟩) := by
  rw [hostReduceAdd_apply]
  unfold Ideal.hostReduceAdd
  rw [show (constant (F := Ideal) S_ .f32 0x00000000#32) (Shape.Idx.first h_S_) = 0 from Ideal.ofBits_zero_f32, zero_add]
  refine (sum_blocks (n0 := 4) (n1 := 64) (n2 := 112) (n3 := 2) (n4 := 112) (n5 := 2) _ _ a b p q).trans ?_
  refine Finset.sum_congr rfl fun r _ => Finset.sum_congr rfl fun c _ => ?_
  refine (shapeCast_apply _ _ _ (ix4 (n0 := 4) (n1 := 64) (n2 := 224) (n3 := 224) a b ⟨p.val * 2 + r.val, by omega⟩ ⟨q.val * 2 + c.val, by omega⟩) ?_).trans ?_
  · refine (Shape.rowMajor_val_four _).trans (Eq.trans ?_ (Shape.rowMajor_val_six _).symm)
    show ((a.val * 64 + b.val) * 224 + (p.val * 2 + r.val)) * 224 + (q.val * 2 + c.val)
      = ((((a.val * 64 + b.val) * 112 + p.val) * 2 + r.val) * 112 + q.val) * 2 + c.val
    omega
  · refine extractStridedSlice_apply _ _ _ _ _ fun d => ?_
    match d with
    | 0 => exact (Nat.zero_add _).symm
    | 1 => rfl
    | 2 => exact (Nat.zero_add _).symm
    | 3 => exact (Nat.zero_add _).symm

/-- The map in the channels with 2 by 2 blocks. -/
theorem map2_apply (x : FVec Ideal S4x128x224x224 .f32) (a : Fin 4) (b : Fin 64) (y z : Fin 224) :
    map2 x (ix4 (n0 := 4) (n1 := 64) (n2 := 224) (n3 := 224) a b y z)
      = signOf (∑ r : Fin 2, ∑ c : Fin 2,
          x (ix4 (n0 := 4) (n1 := 128) (n2 := 224) (n3 := 224) a ⟨0 + b.val, by omega⟩
            ⟨y.val / 2 * 2 + r.val, by omega⟩ ⟨z.val / 2 * 2 + c.val, by omega⟩)) := by
  unfold map2
  refine (shapeCast_apply _ _ _ (ix6 (n0 := 4) (n1 := 64) (n2 := 112) (n3 := 2) (n4 := 112) (n5 := 2) a b
    ⟨y.val / 2, by omega⟩ ⟨y.val % 2, by omega⟩ ⟨z.val / 2, by omega⟩ ⟨z.val % 2, by omega⟩) ?_).trans ?_
  · refine (Shape.rowMajor_val_six _).trans (Eq.trans ?_ (Shape.rowMajor_val_four _).symm)
    show ((((a.val * 64 + b.val) * 112 + y.val / 2) * 2 + y.val % 2) * 112 + z.val / 2) * 2 + z.val % 2
      = ((a.val * 64 + b.val) * 224 + y.val) * 224 + z.val
    omega
  refine (broadcastInDim_apply _ _ _ _ (ix6 (n0 := 4) (n1 := 64) (n2 := 112) (n3 := 1) (n4 := 112) (n5 := 1) a b
    ⟨y.val / 2, by omega⟩ 0 ⟨z.val / 2, by omega⟩ 0) ?_).trans ?_
  · intro d
    match d with
    | 0 => rfl
    | 1 => rfl
    | 2 => rfl
    | 3 => rfl
    | 4 => rfl
    | 5 => rfl
  refine congrArg (FloatOps.uitofp (F := Ideal) .f32) (congrArg₂ (Ideal.cmp .oge) ?_ ?_)
  · refine (broadcastInDim_apply _ _ _ _ (ix4 (n0 := 4) (n1 := 64) (n2 := 112) (n3 := 112) a b ⟨y.val / 2, by omega⟩ ⟨z.val / 2, by omega⟩) ?_).trans ?_
    · intro d
      match d with
      | 0 => rfl
      | 1 => rfl
      | 2 => rfl
      | 3 => rfl
    exact sums_2 x a b _ _
  · exact (broadcastInDim_scalar_apply _ _ _).trans Ideal.ofBits_zero_f32

/-- The sum over a 4 by 4 block of channel `64 + b`. -/
theorem sums_4 (x : FVec Ideal S4x128x224x224 .f32) (a : Fin 4) (b : Fin 48) (p q : Fin 56) :
    Host.reduceAdd (shapeCast _ (extractStridedSlice S4x48x224x224 ![0, 64, 0, 0] x slices_S4x128x224x224_S4x48x224x224_0_64_0_0)
        shapeCasts_S4x48x224x224_S4x48x56x4x56x4)
      (constant S_ .f32 0x00000000#32) reducesTo_S4x48x56x4x56x4_S4x48x56x56_d3_5 h_S_ (ix4 a b p q)
      = ∑ r : Fin 4, ∑ c : Fin 4,
          x (ix4 (n0 := 4) (n1 := 128) (n2 := 224) (n3 := 224) a ⟨64 + b.val, by omega⟩ ⟨p.val * 4 + r.val, by omega⟩ ⟨q.val * 4 + c.val, by omega⟩) := by
  rw [hostReduceAdd_apply]
  unfold Ideal.hostReduceAdd
  rw [show (constant (F := Ideal) S_ .f32 0x00000000#32) (Shape.Idx.first h_S_) = 0 from Ideal.ofBits_zero_f32, zero_add]
  refine (sum_blocks (n0 := 4) (n1 := 48) (n2 := 56) (n3 := 4) (n4 := 56) (n5 := 4) _ _ a b p q).trans ?_
  refine Finset.sum_congr rfl fun r _ => Finset.sum_congr rfl fun c _ => ?_
  refine (shapeCast_apply _ _ _ (ix4 (n0 := 4) (n1 := 48) (n2 := 224) (n3 := 224) a b ⟨p.val * 4 + r.val, by omega⟩ ⟨q.val * 4 + c.val, by omega⟩) ?_).trans ?_
  · refine (Shape.rowMajor_val_four _).trans (Eq.trans ?_ (Shape.rowMajor_val_six _).symm)
    show ((a.val * 48 + b.val) * 224 + (p.val * 4 + r.val)) * 224 + (q.val * 4 + c.val)
      = ((((a.val * 48 + b.val) * 56 + p.val) * 4 + r.val) * 56 + q.val) * 4 + c.val
    omega
  · refine extractStridedSlice_apply _ _ _ _ _ fun d => ?_
    match d with
    | 0 => exact (Nat.zero_add _).symm
    | 1 => rfl
    | 2 => exact (Nat.zero_add _).symm
    | 3 => exact (Nat.zero_add _).symm

/-- The map in the channels with 4 by 4 blocks. -/
theorem map4_apply (x : FVec Ideal S4x128x224x224 .f32) (a : Fin 4) (b : Fin 48) (y z : Fin 224) :
    map4 x (ix4 (n0 := 4) (n1 := 48) (n2 := 224) (n3 := 224) a b y z)
      = signOf (∑ r : Fin 4, ∑ c : Fin 4,
          x (ix4 (n0 := 4) (n1 := 128) (n2 := 224) (n3 := 224) a ⟨64 + b.val, by omega⟩
            ⟨y.val / 4 * 4 + r.val, by omega⟩ ⟨z.val / 4 * 4 + c.val, by omega⟩)) := by
  unfold map4
  refine (shapeCast_apply _ _ _ (ix6 (n0 := 4) (n1 := 48) (n2 := 56) (n3 := 4) (n4 := 56) (n5 := 4) a b
    ⟨y.val / 4, by omega⟩ ⟨y.val % 4, by omega⟩ ⟨z.val / 4, by omega⟩ ⟨z.val % 4, by omega⟩) ?_).trans ?_
  · refine (Shape.rowMajor_val_six _).trans (Eq.trans ?_ (Shape.rowMajor_val_four _).symm)
    show ((((a.val * 48 + b.val) * 56 + y.val / 4) * 4 + y.val % 4) * 56 + z.val / 4) * 4 + z.val % 4
      = ((a.val * 48 + b.val) * 224 + y.val) * 224 + z.val
    omega
  refine (broadcastInDim_apply _ _ _ _ (ix6 (n0 := 4) (n1 := 48) (n2 := 56) (n3 := 1) (n4 := 56) (n5 := 1) a b
    ⟨y.val / 4, by omega⟩ 0 ⟨z.val / 4, by omega⟩ 0) ?_).trans ?_
  · intro d
    match d with
    | 0 => rfl
    | 1 => rfl
    | 2 => rfl
    | 3 => rfl
    | 4 => rfl
    | 5 => rfl
  refine congrArg (FloatOps.uitofp (F := Ideal) .f32) (congrArg₂ (Ideal.cmp .oge) ?_ ?_)
  · refine (broadcastInDim_apply _ _ _ _ (ix4 (n0 := 4) (n1 := 48) (n2 := 56) (n3 := 56) a b ⟨y.val / 4, by omega⟩ ⟨z.val / 4, by omega⟩) ?_).trans ?_
    · intro d
      match d with
      | 0 => rfl
      | 1 => rfl
      | 2 => rfl
      | 3 => rfl
    exact sums_4 x a b _ _
  · exact (broadcastInDim_scalar_apply _ _ _).trans Ideal.ofBits_zero_f32

/-! ## The three maps side by side -/

/-- In channels 0..63 the whole map is the first. -/
theorem mapOf_low (x : FVec Ideal S4x128x224x224 .f32) (a : Fin 4) (b : Fin 128) (y z : Fin 224) (hb : b.val < 64) :
    mapOf x (ix4 (n0 := 4) (n1 := 128) (n2 := 224) (n3 := 224) a b y z)
      = map2 x (ix4 (n0 := 4) (n1 := 64) (n2 := 224) (n3 := 224) a ⟨b.val, hb⟩ y z) := by
  unfold mapOf
  refine concatenate_apply_piece (t := S4x128x224x224) 1 _ _ _ 0 (by exact (by decide : 0 < 3)) S4x64x224x224 _ rfl rfl 0 rfl _ (fun d hd => ?_) ?_
  · match d with
    | 0 => rfl
    | 1 => exact absurd rfl hd
    | 2 => rfl
    | 3 => rfl
  · exact Nat.zero_add _

/-- In channels 64..111 it is the second. -/
theorem mapOf_mid (x : FVec Ideal S4x128x224x224 .f32) (a : Fin 4) (b : Fin 128) (y z : Fin 224) (hb : 64 ≤ b.val) (hb' : b.val < 112) :
    mapOf x (ix4 (n0 := 4) (n1 := 128) (n2 := 224) (n3 := 224) a b y z)
      = map4 x (ix4 (n0 := 4) (n1 := 48) (n2 := 224) (n3 := 224) a ⟨b.val - 64, by omega⟩ y z) := by
  unfold mapOf
  refine concatenate_apply_piece (t := S4x128x224x224) 1 _ _ _ 1 (by exact (by decide : 1 < 3)) S4x48x224x224 _ rfl rfl 64 rfl _ (fun d hd => ?_) ?_
  · match d with
    | 0 => rfl
    | 1 => exact absurd rfl hd
    | 2 => rfl
    | 3 => rfl
  · show 64 + (b.val - 64) = b.val
    omega

/-- In channels 112..127 it is 1. -/
theorem mapOf_high (x : FVec Ideal S4x128x224x224 .f32) (a : Fin 4) (b : Fin 128) (y z : Fin 224) (hb : 112 ≤ b.val) :
    mapOf x (ix4 (n0 := 4) (n1 := 128) (n2 := 224) (n3 := 224) a b y z) = 1 := by
  have e : mapOf x (ix4 (n0 := 4) (n1 := 128) (n2 := 224) (n3 := 224) a b y z)
      = map1 (ix4 (n0 := 4) (n1 := 16) (n2 := 224) (n3 := 224) a ⟨b.val - 112, by omega⟩ y z) := by
    unfold mapOf
    refine concatenate_apply_piece (t := S4x128x224x224) 1 _ _ _ 2 (by exact (by decide : 2 < 3)) S4x16x224x224 _ rfl rfl 112 rfl _ (fun d hd => ?_) ?_
    · match d with
      | 0 => rfl
      | 1 => exact absurd rfl hd
      | 2 => rfl
      | 3 => rfl
    · show 112 + (b.val - 112) = b.val
      omega
  exact e.trans ((broadcastInDim_scalar_apply _ _ _).trans Ideal.ofBits_one_f32)

end Cert.ReferenceIdeal.Hand
-- ==== Proof.ValueComputedIdeal.lean ====
module

public import proofs.«01_k».proof.Proof.LaunchComputedIdeal
public import proofs.«01_k».proof.Proof.RefMap

@[expose] public section

/-! # The value of the program with the call

What the tiles write, transposed back, is the argument times the reference's map: where the map is 1
the element was kept, and where it is 0 it was replaced by 0. -/

noncomputable section

namespace Cert.ComputedIdeal.Hand

open Cert.ComputedIdeal Cert.ComputedIdeal.Gen
open Idealize.ShloMosaic
open Idealize.ShloMosaic.ValueIdx
open Cert.ReferenceIdeal.Hand (signOf signOf_pos signOf_neg mapOf map2_apply map4_apply mapOf_low mapOf_mid mapOf_high)
open scoped BigOperators

/-- Keeping an element or replacing it by 0 is multiplying it by 1 or 0. -/
theorem keepIf_eq (s x : EReal) : keepIf (F := Ideal) s x = x * signOf s := by
  have e : keepIf (F := Ideal) s x = Scalar.select (Ideal.cmp .oge s (Ideal.ofBits .f32 0x00000000#32)) x (Ideal.ofBits .f32 0x00000000#32) := rfl
  rw [e, Ideal.ofBits_zero_f32]
  by_cases h : 0 ≤ s
  · rw [signOf_pos h, mul_one, show Ideal.cmp .oge s 0 = 1#1 by simp [Ideal.cmp, h]]
    exact select_one _ _
  · rw [signOf_neg h, mul_zero, show Ideal.cmp .oge s 0 = 0#1 by simp [Ideal.cmp, h]]
    exact select_zero _ _

/-- The kernel's sum over a 2 by 2 block is the sum over its rows and columns. -/
theorem sum2_eq (v : ℕ → ℕ → EReal) : sum2 (F := Ideal) v = ∑ r : Fin 2, ∑ c : Fin 2, v r.val c.val := by
  show (v 0 0 + v 0 1) + (v 1 0 + v 1 1) = _
  simp [Fin.sum_univ_two]

/-- The kernel's sum over a 4 by 4 block is the sum over its rows and columns. -/
theorem sum4_eq (v : ℕ → ℕ → EReal) : sum4 (F := Ideal) v = ∑ r : Fin 4, ∑ c : Fin 4, v r.val c.val := by
  show (((v 0 0 + v 0 1) + (v 0 2 + v 0 3)) + ((v 1 0 + v 1 1) + (v 1 2 + v 1 3)))
      + (((v 2 0 + v 2 1) + (v 2 2 + v 2 3)) + ((v 3 0 + v 3 1) + (v 3 2 + v 3 3))) = _
  simp [Fin.sum_univ_four, add_assoc]

/-- An array in the argument's order. -/
abbrev Arr : Type := S4x128x224x224.Idx → EReal

/-- The array in channels-last order. -/
def last (x : Arr) : S4x224x224x128.Idx → EReal :=
  transpose S4x224x224x128 [0, 2, 3, 1] x transposes_S4x128x224x224_S4x224x224x128_0_2_3_1

/-- An element of the array in channels-last order. -/
theorem last_apply (x : Arr) (a : Fin 4) (b : Fin 128) (y z : Fin 224) :
    last x (ix4 (n0 := 4) (n1 := 224) (n2 := 224) (n3 := 128) a y z b) = x (ix4 (n0 := 4) (n1 := 128) (n2 := 224) (n3 := 224) a b y z) := by
  refine transpose_apply _ _ _ _ _ fun d => ?_
  match d with
  | 0 => rfl
  | 1 => rfl
  | 2 => rfl
  | 3 => rfl

/-- What the kernel makes of the array is the array times the reference's map. -/
theorem keepA_last (x : Arr) (a : Fin 4) (b : Fin 128) (y z : Fin 224) :
    keepA (F := Ideal) (last x) (ix4 (n0 := 4) (n1 := 224) (n2 := 224) (n3 := 128) a y z b)
      = x (ix4 (n0 := 4) (n1 := 128) (n2 := 224) (n3 := 224) a b y z) * mapOf x (ix4 (n0 := 4) (n1 := 128) (n2 := 224) (n3 := 224) a b y z) := by
  have hy := y.isLt
  have hz := z.isLt
  have hcell : ∀ (k : ℕ) (r c : Fin k) (hr : y.val / k * k + r.val < 224) (hc : z.val / k * k + c.val < 224),
      last x (cellA (ix4 (n0 := 4) (n1 := 224) (n2 := 224) (n3 := 128) a y z b) (y.val / k * k + r.val) (z.val / k * k + c.val))
        = x (ix4 (n0 := 4) (n1 := 128) (n2 := 224) (n3 := 224) a b ⟨y.val / k * k + r.val, hr⟩ ⟨z.val / k * k + c.val, hc⟩) := by
    intro k r c hr hc
    refine Eq.trans (congrArg (last x) ?_) (last_apply x a b ⟨y.val / k * k + r.val, hr⟩ ⟨z.val / k * k + c.val, hc⟩)
    funext d
    apply Fin.ext
    match d with
    | 0 => rfl
    | 1 => exact Nat.mod_eq_of_lt hr
    | 2 => exact Nat.mod_eq_of_lt hc
    | 3 => rfl
  have hch : ((ix4 (n0 := 4) (n1 := 224) (n2 := 224) (n3 := 128) a y z b) 3).val = b.val := rfl
  unfold keepA
  rw [hch, last_apply]
  by_cases h64 : b.val < 64
  · rw [if_pos h64, keepIf_eq, mapOf_low x a b y z h64, map2_apply, sum2_eq]
    refine congrArg (fun s => _ * signOf s) (Finset.sum_congr rfl fun r _ => Finset.sum_congr rfl fun c _ => ?_)
    refine (hcell 2 r c (by omega) (by omega)).trans (congrArg x ?_)
    funext d
    apply Fin.ext
    match d with
    | 0 => rfl
    | 1 => exact (Nat.zero_add _).symm
    | 2 => rfl
    | 3 => rfl
  · rw [if_neg h64]
    by_cases h112 : b.val < 112
    · rw [if_pos h112, keepIf_eq, mapOf_mid x a b y z (by omega) h112, map4_apply, sum4_eq]
      refine congrArg (fun s => _ * signOf s) (Finset.sum_congr rfl fun r _ => Finset.sum_congr rfl fun c _ => ?_)
      refine (hcell 4 r c (by omega) (by omega)).trans (congrArg x ?_)
      funext d
      apply Fin.ext
      match d with
      | 0 => rfl
      | 1 =>
        show b.val = 64 + (b.val - 64)
        omega
      | 2 => rfl
      | 3 => rfl
    · rw [if_neg h112, mapOf_high x a b y z (by omega), mul_one]

variable (m : (ℓ : Loc nD τ sig) → Buf (Elt Ideal) ℓ)

/-- The result is the argument times the reference's map of it. -/
theorem RA_eq (d : Dev nD) :
    RA (F := Ideal) m d = (mulf (m (aLoc d) : FVec Ideal S4x128x224x224 .f32) (mapOf (m (aLoc d))) : FVec Ideal S4x128x224x224 .f32) := by
  funext j
  obtain ⟨a, b, y, z, rfl⟩ : ∃ (a : Fin 4) (b : Fin 128) (y z : Fin 224), j = ix4 (n0 := 4) (n1 := 128) (n2 := 224) (n3 := 224) a b y z :=
    ⟨j 0, j 1, j 2, j 3, eq_ix4 (n0 := 4) (n1 := 128) (n2 := 224) (n3 := 224) j⟩
  refine Eq.trans (transpose_apply _ _ _ _ (ix4 (n0 := 4) (n1 := 224) (n2 := 224) (n3 := 128) a y z b) fun d => ?_)
    (keepA_last (m (aLoc d)) a b y z)
  match d with
  | 0 => rfl
  | 1 => rfl
  | 2 => rfl
  | 3 => rfl

end Cert.ComputedIdeal.Hand
-- ==== Proof.lean ====
module

public import proofs.«01_k».proof.Defs
public import proofs.«01_k».proof.Proof.Value
public import proofs.«01_k».proof.Proof.ValueIdeal
public import proofs.«01_k».proof.Proof.RefValue
public import proofs.«01_k».proof.Proof.LaunchComputed
public import proofs.«01_k».proof.Proof.ValueComputedIdeal
public import proofs.«01_k».proof.Proof.Gen.Post_unchanged
public import Idealize.ShloMosaic.Lib.Quiescent

@[expose] public section

noncomputable section

namespace Cert.Proof

open Idealize.ShloMosaic Idealize.SL.Sem

theorem frame_kernel : @Cert.quiescent_Kernel Cert.Kernel.Gen.facts := fun m g _ =>
  (θ_run _ _ _).mono (fun _ h => ⟨fun c => (h.1 c).1, h.2⟩) (Cert.Kernel.Hand.run_main (F := Bits) m g)

theorem frame_kernel_ideal : @Cert.quiescent_KernelIdeal Cert.KernelIdeal.Gen.facts := fun m g _ =>
  (θ_run _ _ _).mono (fun _ h => ⟨fun c => (h.1 c).1, h.2⟩) (Cert.KernelIdeal.Hand.run_main (F := Ideal) m g)

/-- The reference declares no semaphore. -/
theorem frame_reference : @Cert.quiescent_ReferenceIdeal Cert.ReferenceIdeal.Gen.facts := fun m g _ =>
  (θ_run _ _ _).mono (fun r h => ⟨fun c => (h c).2, sem_eq_zero_of_no_sems (by decide) r.2⟩)
    (Cert.ReferenceIdeal.Hand.run m g)

/-- The kernel as written ends with its argument, which is the reference's value wherever the mask is set. -/
theorem kept_algebraic : @Cert.algebraic_KernelIdeal_ReferenceIdeal_on_kept Cert.KernelIdeal.Gen.facts
    Cert.ReferenceIdeal.Gen.facts Cert.On_kept.Gen.facts := by
  intro m g m' g' _ hagree
  refine ⟨fun c => m (Cert.KernelIdeal.Hand.aLoc c), (θ_run _ _ _).mono (fun _ h c => ⟨fun i _ => ?_, (h.1 c).1⟩)
    (Cert.KernelIdeal.Hand.run_main (F := Ideal) m g), (θ_run _ _ _).mono (fun _ h c => ⟨fun i hi => ?_, (h c).2⟩)
    (Cert.ReferenceIdeal.Hand.run m' g')⟩
  · exact congrFun ((h.1 c).2.trans (Cert.KernelIdeal.Hand.RA_eq m c)) i
  · refine (congrFun (h c).1 i).trans ?_
    rw [hagree c]
    exact Cert.ReferenceIdeal.Hand.kept_value _ i hi

/-- Two arrays that are one have the same words. -/
theorem unchanged_self (x : FVec Bits Cert.Kernel.S4x128x224x224 .f32) :
    Cert.Post_unchanged.fn (F := Bits) x x = fun _ => 1#1 := by
  funext i
  show BitVec.ofBool _ = 1#1
  simp

/-- The kernel as written ends with its argument, bit for bit. -/
theorem kernel_unchanged : @Cert.holds_Kernel_unchanged Cert.Kernel.Gen.facts Cert.Post_unchanged.Gen.facts := by
  intro m g _
  refine (θ_run _ _ _).mono (fun r h => ?_) (Cert.Kernel.Hand.run_main (F := Bits) m g)
  intro c
  refine ⟨(h.1 c).1, ?_⟩
  rw [show r.2.mem (Cert.Kernel.Hand.rLoc c) = m (Cert.Kernel.Hand.aLoc c) from (h.1 c).2.trans (Cert.Kernel.Hand.RA_eq m c)]
  exact unchanged_self _

theorem frame_computed : @Cert.quiescent_Computed Cert.Computed.Gen.facts := fun m g _ =>
  (θ_run _ _ _).mono (fun _ h => ⟨fun c => (h.1 c).1, h.2⟩) (Cert.Computed.Hand.run_main (F := Bits) m g)

theorem frame_computed_ideal : @Cert.quiescent_ComputedIdeal Cert.ComputedIdeal.Gen.facts := fun m g _ =>
  (θ_run _ _ _).mono (fun _ h => ⟨fun c => (h.1 c).1, h.2⟩) (Cert.ComputedIdeal.Hand.run_main (F := Ideal) m g)

/-- The program with the call ends with the argument times the reference's map, and so does the reference. -/
theorem computed_algebraic : @Cert.algebraic_ComputedIdeal_ReferenceIdeal Cert.ComputedIdeal.Gen.facts
    Cert.ReferenceIdeal.Gen.facts := by
  intro m g m' g' _ hagree
  refine ⟨fun c => Cert.ComputedIdeal.Hand.RA (F := Ideal) m c, (θ_run _ _ _).mono (fun _ h c => ⟨(h.1 c).2, (h.1 c).1⟩)
    (Cert.ComputedIdeal.Hand.run_main (F := Ideal) m g), (θ_run _ _ _).mono (fun _ h c => ⟨?_, (h c).2⟩)
    (Cert.ReferenceIdeal.Hand.run m' g')⟩
  refine (h c).1.trans ?_
  rw [hagree c]
  exact (Cert.ComputedIdeal.Hand.RA_eq m c).symm

theorem claim : Cert.Claim := ⟨Cert.Kernel.Gen.facts, Cert.KernelIdeal.Gen.facts, Cert.ReferenceIdeal.Gen.facts,
  Cert.Computed.Gen.facts, Cert.ComputedIdeal.Gen.facts, Cert.Post_unchanged.Gen.facts, Cert.On_kept.Gen.facts,
  frame_kernel, frame_kernel_ideal, frame_reference, frame_computed, frame_computed_ideal, trivial, kept_algebraic,
  kernel_unchanged, trivial, computed_algebraic⟩

end Cert.Proof

end
